-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_Start (m : (ℓ : Loc Cert.Start.nD Cert.Start.τ Cert.Start.sig) → Buf (Elt Bits) ℓ) : Prop :=
  True

def Pre_StartIdeal (m : (ℓ : Loc Cert.StartIdeal.nD Cert.StartIdeal.τ Cert.StartIdeal.sig) → Buf (Elt Ideal) ℓ) : Prop :=
  True

def Pre_StartRefIdeal (m : (ℓ : Loc Cert.StartRefIdeal.nD Cert.StartRefIdeal.τ Cert.StartRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1))
      ∧ r.2.sem = fun _ => 0)

def quiescent_Start [hStart : Cert.Start.Facts] : Prop :=
  ∀ (m : (ℓ : Loc Cert.Start.nD Cert.Start.τ Cert.Start.sig) → Buf (Elt Bits) ℓ) (g : Dev Cert.Start.nD → PrngReg), Pre_Start m →
    θ_run (Cert.Start.defs (F := Bits)) (onTc (τ := Cert.Start.τ) (Cert.Start.main (F := Bits))) ⟨m, fun _ => 0, g⟩ (fun r => (∀ c : Dev Cert.Start.nD,
      r.2.mem ((c.tc : Thread Cert.Start.nD Cert.Start.τ).loc Cert.Start.main_arg0) = m ((c.tc : Thread Cert.Start.nD Cert.Start.τ).loc Cert.Start.main_arg0)
      ∧ r.2.mem ((c.tc : Thread Cert.Start.nD Cert.Start.τ).loc Cert.Start.main_arg1) = m ((c.tc : Thread Cert.Start.nD Cert.Start.τ).loc Cert.Start.main_arg1)
      ∧ r.2.mem ((c.tc : Thread Cert.Start.nD Cert.Start.τ).loc Cert.Start.main_arg2) = m ((c.tc : Thread Cert.Start.nD Cert.Start.τ).loc Cert.Start.main_arg2))
      ∧ r.2.sem = fun _ => 0)

def quiescent_StartIdeal [hStartIdeal : Cert.StartIdeal.Facts] : Prop :=
  ∀ (m : (ℓ : Loc Cert.StartIdeal.nD Cert.StartIdeal.τ Cert.StartIdeal.sig) → Buf (Elt Ideal) ℓ) (g : Dev Cert.StartIdeal.nD → PrngReg), Pre_StartIdeal m →
    θ_run (Cert.StartIdeal.defs (F := Ideal)) (onTc (τ := Cert.StartIdeal.τ) (Cert.StartIdeal.main (F := Ideal))) ⟨m, fun _ => 0, g⟩ (fun r => (∀ c : Dev Cert.StartIdeal.nD,
      r.2.mem ((c.tc : Thread Cert.StartIdeal.nD Cert.StartIdeal.τ).loc Cert.StartIdeal.main_arg0) = m ((c.tc : Thread Cert.StartIdeal.nD Cert.StartIdeal.τ).loc Cert.StartIdeal.main_arg0)
      ∧ r.2.mem ((c.tc : Thread Cert.StartIdeal.nD Cert.StartIdeal.τ).loc Cert.StartIdeal.main_arg1) = m ((c.tc : Thread Cert.StartIdeal.nD Cert.StartIdeal.τ).loc Cert.StartIdeal.main_arg1)
      ∧ r.2.mem ((c.tc : Thread Cert.StartIdeal.nD Cert.StartIdeal.τ).loc Cert.StartIdeal.main_arg2) = m ((c.tc : Thread Cert.StartIdeal.nD Cert.StartIdeal.τ).loc Cert.StartIdeal.main_arg2))
      ∧ r.2.sem = fun _ => 0)

def quiescent_StartRefIdeal [hStartRefIdeal : Cert.StartRefIdeal.Facts] : Prop :=
  ∀ (m : (ℓ : Loc Cert.StartRefIdeal.nD Cert.StartRefIdeal.τ Cert.StartRefIdeal.sig) → Buf (Elt Ideal) ℓ) (g : Dev Cert.StartRefIdeal.nD → PrngReg), Pre_StartRefIdeal m →
    θ_run (Cert.StartRefIdeal.defs (F := Ideal)) (onTc (τ := Cert.StartRefIdeal.τ) (Cert.StartRefIdeal.main (F := Ideal))) ⟨m, fun _ => 0, g⟩ (fun r => (∀ c : Dev Cert.StartRefIdeal.nD,
      r.2.mem ((c.tc : Thread Cert.StartRefIdeal.nD Cert.StartRefIdeal.τ).loc Cert.StartRefIdeal.main_arg0) = m ((c.tc : Thread Cert.StartRefIdeal.nD Cert.StartRefIdeal.τ).loc Cert.StartRefIdeal.main_arg0)
      ∧ r.2.mem ((c.tc : Thread Cert.StartRefIdeal.nD Cert.StartRefIdeal.τ).loc Cert.StartRefIdeal.main_arg1) = m ((c.tc : Thread Cert.StartRefIdeal.nD Cert.StartRefIdeal.τ).loc Cert.StartRefIdeal.main_arg1)
      ∧ r.2.mem ((c.tc : Thread Cert.StartRefIdeal.nD Cert.StartRefIdeal.τ).loc Cert.StartRefIdeal.main_arg2) = m ((c.tc : Thread Cert.StartRefIdeal.nD Cert.StartRefIdeal.τ).loc Cert.StartRefIdeal.main_arg2))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5))
      ∧ r.2.sem = fun _ => 0)

def preserves_Attn_AttnIdeal : Prop :=
  IdealRules.named_const.Statement Cert.AttnIdeal.κ "mask" .f32 0xF149F2CA#32 ⊥

def algebraic_AttnIdeal_AttnRefIdeal_on_diff_columns_pre_finite_attn [hAttnIdeal : Cert.AttnIdeal.Facts] [hAttnRefIdeal : Cert.AttnRefIdeal.Facts] [hPre_finite_attn : Cert.Pre_finite_attn.Facts] [hOn_diff_columns : Cert.On_diff_columns.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v7)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          (∀ i : (⟨2, ![8192, 4096]⟩ : Shape).Idx, (Cert.On_diff_columns.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) i = 1#1 → r.2.mem ((c.tc : Thread Cert.AttnIdeal.nD Cert.AttnIdeal.τ).loc Cert.AttnIdeal.main_v7) i = v0 c i)
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          (∀ i : (⟨2, ![8192, 4096]⟩ : Shape).Idx, (Cert.On_diff_columns.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) i = 1#1 → r.2.mem ((c.tc : Thread Cert.AttnRefIdeal.nD Cert.AttnRefIdeal.τ).loc Cert.AttnRefIdeal.main_v99) i = v0 c i)
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v34) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v42) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v1)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v1) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v2) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_Wo_WoIdeal : Prop :=
  True

def algebraic_WoIdeal_WoRefIdeal [hWoIdeal : Cert.WoIdeal.Facts] [hWoRefIdeal : Cert.WoRefIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)) →
    ∃ (v0 : (c : Dev Cert.WoIdeal.nD) → Buf (Elt Ideal) ((c.tc : Thread Cert.WoIdeal.nD Cert.WoIdeal.τ).loc Cert.WoIdeal.main_v1)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v1) = v0 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v1) = v0 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1))

def preserves_Start_StartIdeal : Prop :=
  True

def algebraic_StartIdeal_StartRefIdeal [hStartIdeal : Cert.StartIdeal.Facts] [hStartRefIdeal : Cert.StartRefIdeal.Facts] : Prop :=
  ∀ (m : (ℓ : Loc Cert.StartIdeal.nD Cert.StartIdeal.τ Cert.StartIdeal.sig) → Buf (Elt Ideal) ℓ) (g : Dev Cert.StartIdeal.nD → PrngReg)
    (m' : (ℓ : Loc Cert.StartRefIdeal.nD Cert.StartRefIdeal.τ Cert.StartRefIdeal.sig) → Buf (Elt Ideal) ℓ) (g' : Dev Cert.StartRefIdeal.nD → PrngReg), Pre_StartIdeal m →
    (∀ c : Dev Cert.StartIdeal.nD,
      m' ((c.tc : Thread Cert.StartRefIdeal.nD Cert.StartRefIdeal.τ).loc Cert.StartRefIdeal.main_arg0) = m ((c.tc : Thread Cert.StartIdeal.nD Cert.StartIdeal.τ).loc Cert.StartIdeal.main_arg0)
      ∧ m' ((c.tc : Thread Cert.StartRefIdeal.nD Cert.StartRefIdeal.τ).loc Cert.StartRefIdeal.main_arg1) = m ((c.tc : Thread Cert.StartIdeal.nD Cert.StartIdeal.τ).loc Cert.StartIdeal.main_arg1)
      ∧ m' ((c.tc : Thread Cert.StartRefIdeal.nD Cert.StartRefIdeal.τ).loc Cert.StartRefIdeal.main_arg2) = m ((c.tc : Thread Cert.StartIdeal.nD Cert.StartIdeal.τ).loc Cert.StartIdeal.main_arg2)) →
    ∃ (v0 : (c : Dev Cert.StartIdeal.nD) → Buf (Elt Ideal) ((c.tc : Thread Cert.StartIdeal.nD Cert.StartIdeal.τ).loc Cert.StartIdeal.main_v4)),
      θ_run (Cert.StartIdeal.defs (F := Ideal)) (onTc (τ := Cert.StartIdeal.τ) (Cert.StartIdeal.main (F := Ideal))) ⟨m, fun _ => 0, g⟩ (fun r => ∀ c : Dev Cert.StartIdeal.nD,
          r.2.mem ((c.tc : Thread Cert.StartIdeal.nD Cert.StartIdeal.τ).loc Cert.StartIdeal.main_v4) = v0 c
          ∧ r.2.mem ((c.tc : Thread Cert.StartIdeal.nD Cert.StartIdeal.τ).loc Cert.StartIdeal.main_arg0) = m ((c.tc : Thread Cert.StartIdeal.nD Cert.StartIdeal.τ).loc Cert.StartIdeal.main_arg0)
          ∧ r.2.mem ((c.tc : Thread Cert.StartIdeal.nD Cert.StartIdeal.τ).loc Cert.StartIdeal.main_arg1) = m ((c.tc : Thread Cert.StartIdeal.nD Cert.StartIdeal.τ).loc Cert.StartIdeal.main_arg1)
          ∧ r.2.mem ((c.tc : Thread Cert.StartIdeal.nD Cert.StartIdeal.τ).loc Cert.StartIdeal.main_arg2) = m ((c.tc : Thread Cert.StartIdeal.nD Cert.StartIdeal.τ).loc Cert.StartIdeal.main_arg2))
      ∧ θ_run (Cert.StartRefIdeal.defs (F := Ideal)) (onTc (τ := Cert.StartRefIdeal.τ) (Cert.StartRefIdeal.main (F := Ideal))) ⟨m', fun _ => 0, g'⟩ (fun r => ∀ c : Dev Cert.StartRefIdeal.nD,
          r.2.mem ((c.tc : Thread Cert.StartRefIdeal.nD Cert.StartRefIdeal.τ).loc Cert.StartRefIdeal.main_v36) = v0 c
          ∧ r.2.mem ((c.tc : Thread Cert.StartRefIdeal.nD Cert.StartRefIdeal.τ).loc Cert.StartRefIdeal.main_arg0) = m' ((c.tc : Thread Cert.StartRefIdeal.nD Cert.StartRefIdeal.τ).loc Cert.StartRefIdeal.main_arg0)
          ∧ r.2.mem ((c.tc : Thread Cert.StartRefIdeal.nD Cert.StartRefIdeal.τ).loc Cert.StartRefIdeal.main_arg1) = m' ((c.tc : Thread Cert.StartRefIdeal.nD Cert.StartRefIdeal.τ).loc Cert.StartRefIdeal.main_arg1)
          ∧ r.2.mem ((c.tc : Thread Cert.StartRefIdeal.nD Cert.StartRefIdeal.τ).loc Cert.StartRefIdeal.main_arg2) = m' ((c.tc : Thread Cert.StartRefIdeal.nD Cert.StartRefIdeal.τ).loc Cert.StartRefIdeal.main_arg2))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)) →
    ∃ (v0 : (c : Dev Cert.MidIdeal.nD) → Buf (Elt Ideal) ((c.tc : Thread Cert.MidIdeal.nD Cert.MidIdeal.τ).loc Cert.MidIdeal.main_v5_0)) (v1 : (c : Dev Cert.MidIdeal.nD) → Buf (Elt Ideal) ((c.tc : Thread Cert.MidIdeal.nD Cert.MidIdeal.τ).loc Cert.MidIdeal.main_v5_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v5_0) = v0 c
          ∧ r.2.mem ((c.tc : Thread Cert.MidIdeal.nD Cert.MidIdeal.τ).loc Cert.MidIdeal.main_v5_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v71) = v0 c
          ∧ r.2.mem ((c.tc : Thread Cert.MidRefIdeal.nD Cert.MidRefIdeal.τ).loc Cert.MidRefIdeal.main_v73) = v1 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5))

def Claim : Prop :=
  ∃ (hAttn : Cert.Attn.Facts) (hAttnIdeal : Cert.AttnIdeal.Facts) (hAttnRefIdeal : Cert.AttnRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hWin : Cert.Win.Facts) (hWinIdeal : Cert.WinIdeal.Facts) (hWinRefIdeal : Cert.WinRefIdeal.Facts) (hWo : Cert.Wo.Facts) (hWoIdeal : Cert.WoIdeal.Facts) (hWoRefIdeal : Cert.WoRefIdeal.Facts) (hStart : Cert.Start.Facts) (hStartIdeal : Cert.StartIdeal.Facts) (hStartRefIdeal : Cert.StartRefIdeal.Facts) (hMid : Cert.Mid.Facts) (hMidIdeal : Cert.MidIdeal.Facts) (hMidRefIdeal : Cert.MidRefIdeal.Facts) (hPre_finite_attn : Cert.Pre_finite_attn.Facts) (hOn_diff_columns : Cert.On_diff_columns.Facts),
    quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Win (hWin := hWin)
    ∧ quiescent_WinIdeal (hWinIdeal := hWinIdeal)
    ∧ quiescent_WinRefIdeal (hWinRefIdeal := hWinRefIdeal)
    ∧ quiescent_Wo (hWo := hWo)
    ∧ quiescent_WoIdeal (hWoIdeal := hWoIdeal)
    ∧ quiescent_WoRefIdeal (hWoRefIdeal := hWoRefIdeal)
    ∧ quiescent_Start (hStart := hStart)
    ∧ quiescent_StartIdeal (hStartIdeal := hStartIdeal)
    ∧ quiescent_StartRefIdeal (hStartRefIdeal := hStartRefIdeal)
    ∧ quiescent_Mid (hMid := hMid)
    ∧ quiescent_MidIdeal (hMidIdeal := hMidIdeal)
    ∧ quiescent_MidRefIdeal (hMidRefIdeal := hMidRefIdeal)
    ∧ preserves_Attn_AttnIdeal
    ∧ algebraic_AttnIdeal_AttnRefIdeal_on_diff_columns_pre_finite_attn (hAttnIdeal := hAttnIdeal) (hAttnRefIdeal := hAttnRefIdeal) (hPre_finite_attn := hPre_finite_attn) (hOn_diff_columns := hOn_diff_columns)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Win_WinIdeal
    ∧ algebraic_WinIdeal_WinRefIdeal (hWinIdeal := hWinIdeal) (hWinRefIdeal := hWinRefIdeal)
    ∧ preserves_Wo_WoIdeal
    ∧ algebraic_WoIdeal_WoRefIdeal (hWoIdeal := hWoIdeal) (hWoRefIdeal := hWoRefIdeal)
    ∧ preserves_Start_StartIdeal
    ∧ algebraic_StartIdeal_StartRefIdeal (hStartIdeal := hStartIdeal) (hStartRefIdeal := hStartRefIdeal)
    ∧ preserves_Mid_MidIdeal
    ∧ algebraic_MidIdeal_MidRefIdeal (hMidIdeal := hMidIdeal) (hMidRefIdeal := hMidRefIdeal)
-- ==== On_diff_columns.lean ====
abbrev S8192x12288 : Shape := ⟨2, ![8192, 12288]⟩
abbrev S128 : Shape := ⟨1, ![128]⟩
abbrev S256 : Shape := ⟨1, ![256]⟩
abbrev S32x24 : Shape := ⟨2, ![32, 24]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)

variable [Facts]

def fn {F : FTy → Type} [FloatOps F] (main_arg0 : FVec F S8192x12288 .bf16) (main_arg1 : FVec F S128 .f32) (main_arg2 : FVec F S128 .f32) (main_arg3 : FVec F S128 .f32) (main_arg4 : FVec F S128 .f32) (main_arg5 : FVec F S256 .f32) (main_arg6 : FVec F S32x24 .f32) : IVec S8192x4096 1 :=
  let main_v0 : IVec S8192x4096 32 := iotaInDim S8192x4096 32 1
  let main_c : IVec S_ 32 := constantI S_ 32 2048#32
  let main_v1 : IVec S8192x4096 32 := broadcastInDim S8192x4096 ![] bcast_S_S8192x4096 main_c
  let main_v2 : IVec S8192x4096 1 := cmpi .slt main_v0 main_v1
  main_v2
-- ==== Pre_finite_attn.lean ====
abbrev S8192x12288 : Shape := ⟨2, ![8192, 12288]⟩
abbrev S128 : Shape := ⟨1, ![128]⟩
abbrev S256 : Shape := ⟨1, ![256]⟩
abbrev S32x24 : Shape := ⟨2, ![32, 24]⟩
abbrev S_ : Shape := ⟨0, ![]⟩

class Facts : Prop where
  bitsLt_bf16_f32 : FTy.bits .bf16 < FTy.bits .f32
  bcast_S_S8192x12288 : S_.BroadcastsInDim S8192x12288 (![] : Fin 0 → Fin S8192x12288.rank)
  reducesTo_S8192x12288_S_d0_1 : S8192x12288.ReducesTo [0, 1] S_
  h_S_ : 0 < S_.numel
  bcast_S_S32x24 : S_.BroadcastsInDim S32x24 (![] : Fin 0 → Fin S32x24.rank)
  reducesTo_S32x24_S_d0_1 : S32x24.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg3 : FVec F S128 .f32) (main_arg4 : FVec F S128 .f32) (main_v14 : IVec S_ 1) (main_v15 : FVec F S128 .f32) (main_v16 : FVec F S128 .f32) : IVec S_ 1 :=
  let main_v17 : IVec S128 1 := cmpf .olt main_v15 main_v16
  let main_c_5 : IVec S_ 1 := constantI S_ 1 1#1
  let main_v18 : IVec S_ 1 := (fun x v => Host.reduce IntOp.andi x v reducesTo_S128_S_d0 h_S_) main_v17 main_c_5
  let main_v19 : IVec S_ 1 := andi main_v14 main_v18
  let main_v20 : FVec F S128 .f32 := Host.absf main_arg3
  let main_cst_6 : FVec F S_ .f32 := constant S_ .f32 0x7F800000#32
  let main_v21 : FVec F S128 .f32 := broadcastInDim S128 ![] bcast_S_S128 main_cst_6
  let main_v22 : IVec S128 1 := cmpf .olt main_v20 main_v21
  let main_c_7 : IVec S_ 1 := constantI S_ 1 1#1
  let main_v23 : IVec S_ 1 := (fun x v => Host.reduce IntOp.andi x v reducesTo_S128_S_d0 h_S_) main_v22 main_c_7
  let main_v24 : IVec S_ 1 := andi main_v19 main_v23
  let main_v25 : FVec F S128 .f32 := Host.absf main_arg4
  let main_cst_8 : FVec F S_ .f32 := constant S_ .f32 0x7F800000#32
  let main_v26 : FVec F S128 .f32 := broadcastInDim S128 ![] bcast_S_S128 main_cst_8
  let main_v27 : IVec S128 1 := cmpf .olt main_v25 main_v26
  let main_c_9 : IVec S_ 1 := constantI S_ 1 1#1
  let main_v28 : IVec S_ 1 := (fun x v => Host.reduce IntOp.andi x v reducesTo_S128_S_d0 h_S_) main_v27 main_c_9
  let main_v29 : IVec S_ 1 := andi main_v24 main_v28
  main_v29

def fn {F : FTy → Type} [FloatOps F] (main_arg0 : FVec F S8192x12288 .bf16) (main_arg1 : FVec F S128 .f32) (main_arg2 : FVec F S128 .f32) (main_arg3 : FVec F S128 .f32) (main_arg4 : FVec F S128 .f32) (main_arg5 : FVec F S256 .f32) (main_arg6 : FVec F S32x24 .f32) : IVec S_ 1 :=
  let main_v0 : FVec F S8192x12288 .f32 := (extf .f32 · bitsLt_bf16_f32) main_arg0
  let main_v1 : FVec F S8192x12288 .f32 := Host.absf main_v0
  let main_cst : FVec F S_ .f32 := constant S_ .f32 0x7F800000#32
  let main_v2 : FVec F S8192x12288 .f32 := broadcastInDim S8192x12288 ![] bcast_S_S8192x12288 main_cst
  let main_v3 : IVec S8192x12288 1 := cmpf .olt main_v1 main_v2
  let main_c : IVec S_ 1 := constantI S_ 1 1#1
  let main_v4 : IVec S_ 1 := (fun x v => Host.reduce IntOp.andi x v reducesTo_S8192x12288_S_d0_1 h_S_) main_v3 main_c
  let main_v5 : FVec F S32x24 .f32 := Host.absf main_arg6
  let main_cst_0 : FVec F S_ .f32 := constant S_ .f32 0x7F800000#32
  let main_v6 : FVec F S32x24 .f32 := broadcastInDim S32x24 ![] bcast_S_S32x24 main_cst_0
  let main_v7 : IVec S32x24 1 := cmpf .olt main_v5 main_v6
  let main_c_1 : IVec S_ 1 := constantI S_ 1 1#1
  let main_v8 : IVec S_ 1 := (fun x v => Host.reduce IntOp.andi x v reducesTo_S32x24_S_d0_1 h_S_) main_v7 main_c_1
  let main_v9 : IVec S_ 1 := andi main_v4 main_v8
  let main_v10 : FVec F S128 .f32 := Host.absf main_arg1
  let main_cst_2 : FVec F S_ .f32 := constant S_ .f32 0x7F800000#32
  let main_v11 : FVec F S128 .f32 := broadcastInDim S128 ![] bcast_S_S128 main_cst_2
  let main_v12 : IVec S128 1 := cmpf .olt main_v10 main_v11
  let main_c_3 : IVec S_ 1 := constantI S_ 1 1#1
  let main_v13 : IVec S_ 1 := (fun x v => Host.reduce IntOp.andi x v reducesTo_S128_S_d0 h_S_) main_v12 main_c_3
  let main_v14 : IVec S_ 1 := andi main_v9 main_v13
  let main_v15 : FVec F S128 .f32 := Host.absf main_arg2
  let main_cst_4 : FVec F S_ .f32 := constant S_ .f32 0x7F800000#32
  let main_v16 : FVec F S128 .f32 := broadcastInDim S128 ![] bcast_S_S128 main_cst_4
  fn_part1 (F := F) main_arg3 main_arg4 main_v14 main_v15 main_v16
-- ==== Attn.lean ====
abbrev S8192x12288 : Shape := ⟨2, ![8192, 12288]⟩
abbrev S128 : Shape := ⟨1, ![128]⟩
abbrev S256 : Shape := ⟨1, ![256]⟩
abbrev S32x24 : Shape := ⟨2, ![32, 24]⟩
abbrev S8x8x256x256 : Shape := ⟨4, ![8, 8, 256, 256]⟩
abbrev S1x1x256x256 : Shape := ⟨4, ![1, 1, 256, 256]⟩
abbrev S256x256 : Shape := ⟨2, ![256, 256]⟩
abbrev S1x1 : Shape := ⟨2, ![1, 1]⟩
abbrev S1x128 : Shape := ⟨2, ![1, 128]⟩
abbrev S4x128 : Shape := ⟨2, ![4, 128]⟩
abbrev S1x256 : Shape := ⟨2, ![1, 256]⟩
abbrev S8192x4096 : Shape := ⟨2, ![8192, 4096]⟩
abbrev S4096x256 : Shape := ⟨2, ![4096, 256]⟩
abbrev S1x8x256x256 : Shape := ⟨4, ![1, 8, 256, 256]⟩
abbrev S2x256x256 : Shape := ⟨3, ![2, 256, 256]⟩
abbrev S2x256x1 : Shape := ⟨3, ![2, 256, 1]⟩
abbrev S256x128 : Shape := ⟨2, ![256, 128]⟩
abbrev S1x256x1 : Shape := ⟨3, ![1, 256, 1]⟩
abbrev S256x1 : Shape := ⟨2, ![256, 1]⟩
abbrev S1x256x256 : Shape := ⟨3, ![1, 256, 256]⟩
abbrev S1 : Shape := ⟨1, ![1]⟩

abbrev nBuf : Space → Nat
  | .hbm => 15
  | .vmem => 17
  | .smem => 1
  | _ => 0

abbrev bufTy : (tb : Table) → Fin (tcTables nBuf tb) → BufTy
  | .hbm, ⟨0, _⟩ => ⟨S8192x12288, .bf16⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S256, .f32⟩
  | .hbm, ⟨6, _⟩ => ⟨S32x24, .f32⟩
  | .hbm, ⟨7, _⟩ => ⟨S8x8x256x256, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S4x128, .f32⟩
  | .hbm, ⟨13, _⟩ => ⟨S1x256, .f32⟩
  | .hbm, ⟨14, _⟩ => ⟨S8192x4096, .bf16⟩
  | .local _ .vmem, ⟨0, _⟩ => ⟨S1x1x256x256, .f32⟩
  | .local _ .vmem, ⟨1, _⟩ => ⟨S1x1x256x256, .f32⟩
  | .local _ .vmem, ⟨2, _⟩ => ⟨S4x128, .f32⟩
  | .local _ .vmem, ⟨3, _⟩ => ⟨S256x256, .bf16⟩
  | .local _ .vmem, ⟨4, _⟩ => ⟨S256x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S1x8x256x256, .f32⟩
  | .local _ .vmem, ⟨10, _⟩ => ⟨S1x8x256x256, .f32⟩
  | .local _ .vmem, ⟨11, _⟩ => ⟨S1x256, .f32⟩
  | .local _ .vmem, ⟨12, _⟩ => ⟨S256x256, .bf16⟩
  | .local _ .vmem, ⟨13, _⟩ => ⟨S256x256, .bf16⟩
  | .local _ .vmem, ⟨14, _⟩ => ⟨S2x256x256, .f32⟩
  | .local _ .vmem, ⟨15, _⟩ => ⟨S2x256x1, .f32⟩
  | .local _ .vmem, ⟨16, _⟩ => ⟨S2x256x1, .f32⟩
  | .local _ .smem, ⟨0, _⟩ => ⟨S32x24, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg1_0 : Ref sig .tc := ⟨.vmem, 0, rfl⟩
abbrev cc0_stg1_1 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨2, ![8, 8], ![false, false]⟩

def k0_off1 (i : grid0.Coords) : Fin 2 → Nat :=
  let c31 : Index := 31#32
  let arg0 : BitVec 32 := BitVec.ofNat 32 (i 0).val
  let c0_i32 : BitVec 32 := 0#32
  let v0 : BitVec 32 := Scalar.addi arg0 c0_i32
  let v7 : Index := Scalar.indexCast v0
  ![31, v7.toNat]
def k0_off2 (i : grid0.Coords) : Fin 2 → Nat :=
  let c30 : Index := 30#32
  let arg0 : BitVec 32 := BitVec.ofNat 32 (i 0).val
  let c0_i32 : BitVec 32 := 0#32
  let v0 : BitVec 32 := Scalar.addi arg0 c0_i32
  let v12 : Index := Scalar.indexCast v0
  ![30, v12.toNat]
def k0_off3 (i : grid0.Coords) : Fin 2 → Nat :=
  let c29 : Index := 29#32
  let arg0 : BitVec 32 := BitVec.ofNat 32 (i 0).val
  let c0_i32 : BitVec 32 := 0#32
  let v0 : BitVec 32 := Scalar.addi arg0 c0_i32
  let v18 : Index := Scalar.indexCast v0
  ![29, v18.toNat]
def k0_off4 (i : grid0.Coords) : Fin 2 → Nat :=
  let c28 : Index := 28#32
  let arg0 : BitVec 32 := BitVec.ofNat 32 (i 0).val
  let c0_i32 : BitVec 32 := 0#32
  let v0 : BitVec 32 := Scalar.addi arg0 c0_i32
  let v24 : Index := Scalar.indexCast v0
  ![28, v24.toNat]
def k0_off5 (i : grid0.Coords) : Fin 2 → Nat :=
  let c27 : Index := 27#32
  let arg0 : BitVec 32 := BitVec.ofNat 32 (i 0).val
  let c0_i32 : BitVec 32 := 0#32
  let v0 : BitVec 32 := Scalar.addi arg0 c0_i32
  let v30 : Index := Scalar.indexCast v0
  ![27, v30.toNat]
def k0_off6 (i : grid0.Coords) : Fin 2 → Nat :=
  let c26 : Index := 26#32
  let arg0 : BitVec 32 := BitVec.ofNat 32 (i 0).val
  let c0_i32 : BitVec 32 := 0#32
  let v0 : BitVec 32 := Scalar.addi arg0 c0_i32
  let v36 : Index := Scalar.indexCast v0
  ![26, v36.toNat]
def k0_off7 (i : grid0.Coords) : Fin 2 → Nat :=
  let c25 : Index := 25#32
  let arg0 : BitVec 32 := BitVec.ofNat 32 (i 0).val
  let c0_i32 : BitVec 32 := 0#32
  let v0 : BitVec 32 := Scalar.addi arg0 c0_i32
  let v42 : Index := Scalar.indexCast v0
  ![25, v42.toNat]
def k0_off8 (i : grid0.Coords) : Fin 2 → Nat :=
  let c24 : Index := 24#32
  let arg0 : BitVec 32 := BitVec.ofNat 32 (i 0).val
  let c0_i32 : BitVec 32 := 0#32
  let v0 : BitVec 32 := Scalar.addi arg0 c0_i32
  let v48 : Index := Scalar.indexCast v0
  ![24, v48.toNat]
def k0_off9 (i : grid0.Coords) : Fin 2 → Nat :=
  let c23 : Index := 23#32
  let arg0 : BitVec 32 := BitVec.ofNat 32 (i 0).val
  let c0_i32 : BitVec 32 := 0#32
  let v0 : BitVec 32 := Scalar.addi arg0 c0_i32
  let v54 : Index := Scalar.indexCast v0
  ![23, v54.toNat]
def k0_off10 (i : grid0.Coords) : Fin 2 → Nat :=
  let c22 : Index := 22#32
  let arg0 : BitVec 32 := BitVec.ofNat 32 (i 0).val
  let c0_i32 : BitVec 32 := 0#32
  let v0 : BitVec 32 := Scalar.addi arg0 c0_i32
  let v60 : Index := Scalar.indexCast v0
  ![22, v60.toNat]
def k0_off11 (i : grid0.Coords) : Fin 2 → Nat :=
  let c21 : Index := 21#32
  let arg0 : BitVec 32 := BitVec.ofNat 32 (i 0).val
  let c0_i32 : BitVec 32 := 0#32
  let v0 : BitVec 32 := Scalar.addi arg0 c0_i32
  let v66 : Index := Scalar.indexCast v0
  ![21, v66.toNat]
def k0_off12 (i : grid0.Coords) : Fin 2 → Nat :=
  let c20 : Index := 20#32
  let arg0 : BitVec 32 := BitVec.ofNat 32 (i 0).val
  let c0_i32 : BitVec 32 := 0#32
  let v0 : BitVec 32 := Scalar.addi arg0 c0_i32
  let v72 : Index := Scalar.indexCast v0
  ![20, v72.toNat]
def k0_off13 (i : grid0.Coords) : Fin 2 → Nat :=
  let c19 : Index := 19#32
  let arg0 : BitVec 32 := BitVec.ofNat 32 (i 0).val
  let c0_i32 : BitVec 32 := 0#32
  let v0 : BitVec 32 := Scalar.addi arg0 c0_i32
  let v78 : Index := Scalar.indexCast v0
  ![19, v78.toNat]
def k0_off14 (i : grid0.Coords) : Fin 2 → Nat :=
  let c18 : Index := 18#32
  let arg0 : BitVec 32 := BitVec.ofNat 32 (i 0).val
  let c0_i32 : BitVec 32 := 0#32
  let v0 : BitVec 32 := Scalar.addi arg0 c0_i32
  let v84 : Index := Scalar.indexCast v0
  ![18, v84.toNat]
def k0_off15 (i : grid0.Coords) : Fin 2 → Nat :=
  let c17 : Index := 17#32
  let arg0 : BitVec 32 := BitVec.ofNat 32 (i 0).val
  let c0_i32 : BitVec 32 := 0#32
  let v0 : BitVec 32 := Scalar.addi arg0 c0_i32
  let v90 : Index := Scalar.indexCast v0
  ![17, v90.toNat]
def k0_off16 (i : grid0.Coords) : Fin 2 → Nat :=
  let c16 : Index := 16#32
  let arg0 : BitVec 32 := BitVec.ofNat 32 (i 0).val
  let c0_i32 : BitVec 32 := 0#32
  let v0 : BitVec 32 := Scalar.addi arg0 c0_i32
  let v96 : Index := Scalar.indexCast v0
  ![16, v96.toNat]
def k0_off17 (i : grid0.Coords) : Fin 2 → Nat :=
  let c15 : Index := 15#32
  let arg0 : BitVec 32 := BitVec.ofNat 32 (i 0).val
  let c0_i32 : BitVec 32 := 0#32
  let v0 : BitVec 32 := Scalar.addi arg0 c0_i32
  let v102 : Index := Scalar.indexCast v0
  ![15, v102.toNat]
def k0_off18 (i : grid0.Coords) : Fin 2 → Nat :=
  let c14 : Index := 14#32
  let arg0 : BitVec 32 := BitVec.ofNat 32 (i 0).val
  let c0_i32 : BitVec 32 := 0#32
  let v0 : BitVec 32 := Scalar.addi arg0 c0_i32
  let v108 : Index := Scalar.indexCast v0
  ![14, v108.toNat]
def k0_off19 (i : grid0.Coords) : Fin 2 → Nat :=
  let c13 : Index := 13#32
  let arg0 : BitVec 32 := BitVec.ofNat 32 (i 0).val
  let c0_i32 : BitVec 32 := 0#32
  let v0 : BitVec 32 := Scalar.addi arg0 c0_i32
  let v114 : Index := Scalar.indexCast v0
  ![13, v114.toNat]
def k0_off20 (i : grid0.Coords) : Fin 2 → Nat :=
  let c12 : Index := 12#32
  let arg0 : BitVec 32 := BitVec.ofNat 32 (i 0).val
  let c0_i32 : BitVec 32 := 0#32
  let v0 : BitVec 32 := Scalar.addi arg0 c0_i32
  let v120 : Index := Scalar.indexCast v0
  ![12, v120.toNat]
def k0_off21 (i : grid0.Coords) : Fin 2 → Nat :=
  let c11 : Index := 11#32
  let arg0 : BitVec 32 := BitVec.ofNat 32 (i 0).val
  let c0_i32 : BitVec 32 := 0#32
  let v0 : BitVec 32 := Scalar.addi arg0 c0_i32
  let v126 : Index := Scalar.indexCast v0
  ![11, v126.toNat]
def k0_off22 (i : grid0.Coords) : Fin 2 → Nat :=
  let c10 : Index := 10#32
  let arg0 : BitVec 32 := BitVec.ofNat 32 (i 0).val
  let c0_i32 : BitVec 32 := 0#32
  let v0 : BitVec 32 := Scalar.addi arg0 c0_i32
  let v132 : Index := Scalar.indexCast v0
  ![10, v132.toNat]
def k0_off23 (i : grid0.Coords) : Fin 2 → Nat :=
  let c9 : Index := 9#32
  let arg0 : BitVec 32 := BitVec.ofNat 32 (i 0).val
  let c0_i32 : BitVec 32 := 0#32
  let v0 : BitVec 32 := Scalar.addi arg0 c0_i32
  let v138 : Index := Scalar.indexCast v0
  ![9, v138.toNat]
def k0_off24 (i : grid0.Coords) : Fin 2 → Nat :=
  let c8 : Index := 8#32
  let arg0 : BitVec 32 := BitVec.ofNat 32 (i 0).val
  let c0_i32 : BitVec 32 := 0#32
  let v0 : BitVec 32 := Scalar.addi arg0 c0_i32
  let v144 : Index := Scalar.indexCast v0
  ![8, v144.toNat]
def k0_off25 (i : grid0.Coords) : Fin 2 → Nat :=
  let c7 : Index := 7#32
  let arg0 : BitVec 32 := BitVec.ofNat 32 (i 0).val
  let c0_i32 : BitVec 32 := 0#32
  let v0 : BitVec 32 := Scalar.addi arg0 c0_i32
  let v150 : Index := Scalar.indexCast v0
  ![7, v150.toNat]
def k0_off26 (i : grid0.Coords) : Fin 2 → Nat :=
  let c6 : Index := 6#32
  let arg0 : BitVec 32 := BitVec.ofNat 32 (i 0).val
  let c0_i32 : BitVec 32 := 0#32
  let v0 : BitVec 32 := Scalar.addi arg0 c0_i32
  let v156 : Index := Scalar.indexCast v0
  ![6, v156.toNat]
def k0_off27 (i : grid0.Coords) : Fin 2 → Nat :=
  let c5 : Index := 5#32
  let arg0 : BitVec 32 := BitVec.ofNat 32 (i 0).val
  let c0_i32 : BitVec 32 := 0#32
  let v0 : BitVec 32 := Scalar.addi arg0 c0_i32
  let v162 : Index := Scalar.indexCast v0
  ![5, v162.toNat]
def k0_off28 (i : grid0.Coords) : Fin 2 → Nat :=
  let c4 : Index := 4#32
  let arg0 : BitVec 32 := BitVec.ofNat 32 (i 0).val
  let c0_i32 : BitVec 32 := 0#32
  let v0 : BitVec 32 := Scalar.addi arg0 c0_i32
  let v168 : Index := Scalar.indexCast v0
  ![4, v168.toNat]
def k0_off29 (i : grid0.Coords) : Fin 2 → Nat :=
  let c3 : Index := 3#32
  let arg0 : BitVec 32 := BitVec.ofNat 32 (i 0).val
  let c0_i32 : BitVec 32 := 0#32
  let v0 : BitVec 32 := Scalar.addi arg0 c0_i32
  let v174 : Index := Scalar.indexCast v0
  ![3, v174.toNat]
def k0_off30 (i : grid0.Coords) : Fin 2 → Nat :=
  let c2 : Index := 2#32
  let arg0 : BitVec 32 := BitVec.ofNat 32 (i 0).val
  let c0_i32 : BitVec 32 := 0#32
  let v0 : BitVec 32 := Scalar.addi arg0 c0_i32
  let v180 : Index := Scalar.indexCast v0
  ![2, v180.toNat]
def k0_off31 (i : grid0.Coords) : Fin 2 → Nat :=
  let c1 : Index := 1#32
  let arg0 : BitVec 32 := BitVec.ofNat 32 (i 0).val
  let c0_i32 : BitVec 32 := 0#32
  let v0 : BitVec 32 := Scalar.addi arg0 c0_i32
  let v186 : Index := Scalar.indexCast v0
  ![1, v186.toNat]
def k0_off32 (i : grid0.Coords) : Fin 2 → Nat :=
  let c0 : Index := 0#32
  let arg0 : BitVec 32 := BitVec.ofNat 32 (i 0).val
  let c0_i32 : BitVec 32 := 0#32
  let v0 : BitVec 32 := Scalar.addi arg0 c0_i32
  let v192 : Index := Scalar.indexCast v0
  ![0, v192.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S32x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨3, ![8, 2, 16], ![false, false, false]⟩

@[reducible] def k1_t1_loop (i : grid1.Coords) : Scf.Loop 32 :=
  let c0_i32_10 : BitVec 32 := 0#32
  let arg2 : BitVec 32 := BitVec.ofNat 32 (i 2).val
  let c1_i32 : BitVec 32 := 1#32
  let v12 : BitVec 32 := Scalar.addi arg2 c1_i32
  let v13 : BitVec 32 := Scalar.subi v12 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_12 : BitVec 32 := 1#32
  ⟨c0_i32_10, v17, c1_i32_12⟩
def k1_mult1 (i : grid1.Coords) (k1_t1 : Fin (k1_t1_loop i).trips) : BitVec 32 :=
  let c0_i32_10 : BitVec 32 := 0#32
  let c1_i32_12 : BitVec 32 := 1#32
  let arg13 : BitVec 32 := Scf.iv c0_i32_10 c1_i32_12 k1_t1
  let c256_i32 : BitVec 32 := 256#32
  let v72 : BitVec 32 := Scalar.muli arg13 c256_i32
  v72
def k1_off1 (i : grid1.Coords) (k1_t1 : Fin (k1_t1_loop i).trips) : Fin 2 → Nat :=
  let c0_i32_10 : BitVec 32 := 0#32
  let c1_i32_12 : BitVec 32 := 1#32
  let arg13 : BitVec 32 := Scf.iv c0_i32_10 c1_i32_12 k1_t1
  let c256_i32 : BitVec 32 := 256#32
  let v72 : BitVec 32 := Scalar.muli arg13 c256_i32
  let v73 : BitVec 32 := v72
  let v74 : Index := Scalar.indexCast v73
  let c0_40 : Index := 0#32
  ![v74.toNat, 0]
def k1_off2 (i : grid1.Coords) (k1_t1 : Fin (k1_t1_loop i).trips) : Fin 4 → Nat :=
  let c0_42 : Index := 0#32
  let arg2 : BitVec 32 := BitVec.ofNat 32 (i 2).val
  let c0_i32_10 : BitVec 32 := 0#32
  let c1_i32_12 : BitVec 32 := 1#32
  let arg13 : BitVec 32 := Scf.iv c0_i32_10 c1_i32_12 k1_t1
  let v78 : BitVec 32 := Scalar.subi arg2 arg13
  let c7_i32 : BitVec 32 := 7#32
  let v79 : BitVec 32 := Scalar.minsi v78 c7_i32
  let v80 : Index := Scalar.indexCast v79
  let c0_43 : Index := 0#32
  let c0_44 : Index := 0#32
  ![0, v80.toNat, 0, 0]
@[reducible] def k1_t2_loop (i : grid1.Coords) : Scf.Loop 32 :=
  let c0_i32_10 : BitVec 32 := 0#32
  let arg2 : BitVec 32 := BitVec.ofNat 32 (i 2).val
  let c1_i32 : BitVec 32 := 1#32
  let v12 : BitVec 32 := Scalar.addi arg2 c1_i32
  let v13 : BitVec 32 := Scalar.subi v12 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let v14 : BitVec 32 := Scalar.addi c0_i32_10 v13
  let c1_i32_13 : BitVec 32 := 1#32
  ⟨v17, v14, c1_i32_13⟩
def k1_mult2 (i : grid1.Coords) (k1_t2 : Fin (k1_t2_loop i).trips) : BitVec 32 :=
  let c0_i32_10 : BitVec 32 := 0#32
  let arg2 : BitVec 32 := BitVec.ofNat 32 (i 2).val
  let c1_i32 : BitVec 32 := 1#32
  let v12 : BitVec 32 := Scalar.addi arg2 c1_i32
  let v13 : BitVec 32 := Scalar.subi v12 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg13 : BitVec 32 := Scf.iv v17 c1_i32_13 k1_t2
  let c256_i32 : BitVec 32 := 256#32
  let v72 : BitVec 32 := Scalar.muli arg13 c256_i32
  v72
def k1_off3 (i : grid1.Coords) (k1_t2 : Fin (k1_t2_loop i).trips) : Fin 2 → Nat :=
  let c0_i32_10 : BitVec 32 := 0#32
  let arg2 : BitVec 32 := BitVec.ofNat 32 (i 2).val
  let c1_i32 : BitVec 32 := 1#32
  let v12 : BitVec 32 := Scalar.addi arg2 c1_i32
  let v13 : BitVec 32 := Scalar.subi v12 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg13 : BitVec 32 := Scf.iv v17 c1_i32_13 k1_t2
  let c256_i32 : BitVec 32 := 256#32
  let v72 : BitVec 32 := Scalar.muli arg13 c256_i32
  let v73 : BitVec 32 := v72
  let v74 : Index := Scalar.indexCast v73
  let c0_40 : Index := 0#32
  ![v74.toNat, 0]
def k1_off4 (i : grid1.Coords) (k1_t2 : Fin (k1_t2_loop i).trips) : Fin 4 → Nat :=
  let c0_42 : Index := 0#32
  let arg2 : BitVec 32 := BitVec.ofNat 32 (i 2).val
  let c0_i32_10 : BitVec 32 := 0#32
  let c1_i32 : BitVec 32 := 1#32
  let v12 : BitVec 32 := Scalar.addi arg2 c1_i32
  let v13 : BitVec 32 := Scalar.subi v12 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg13 : BitVec 32 := Scf.iv v17 c1_i32_13 k1_t2
  let v78 : BitVec 32 := Scalar.subi arg2 arg13
  let c7_i32 : BitVec 32 := 7#32
  let v79 : BitVec 32 := Scalar.minsi v78 c7_i32
  let v80 : Index := Scalar.indexCast v79
  let c0_43 : Index := 0#32
  let c0_44 : Index := 0#32
  ![0, v80.toNat, 0, 0]
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  ![v1.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg1.toNat, v0.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  ![v1.toNat, arg0.toNat]

abbrev stage1_0 : Fin 1 → Memref sig .tc .vmem S4x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S256x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x8x256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S256x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]
-- ==== AttnIdeal.lean ====
variable {F : FTy → Type} [FloatOps F] [Named F]
def κ : String → Option EReal := fun
  | "mask" => some ⊥
  | _ => none
-- ==== AttnRefIdeal.lean ====
abbrev S8192x12288 : Shape := ⟨2, ![8192, 12288]⟩
abbrev S128 : Shape := ⟨1, ![128]⟩
abbrev S256 : Shape := ⟨1, ![256]⟩
abbrev S32x24 : Shape := ⟨2, ![32, 24]⟩
abbrev S2x4096x12288 : Shape := ⟨3, ![2, 4096, 12288]⟩
abbrev S2x4096x2048 : Shape := ⟨3, ![2, 4096, 2048]⟩
abbrev S2x4096x8x2x128 : Shape := ⟨5, ![2, 4096, 8, 2, 128]⟩
abbrev S2x4096x8x256 : Shape := ⟨4, ![2, 4096, 8, 256]⟩
abbrev S_ : Shape := ⟨0, ![]⟩
abbrev S2x8x2x4096x4096 : Shape := ⟨5, ![2, 8, 2, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S32x8 : Shape := ⟨2, ![32, 8]⟩
abbrev S4096x4096x1 : Shape := ⟨3, ![4096, 4096, 1]⟩
abbrev S4096x4096x8 : Shape := ⟨3, ![4096, 4096, 8]⟩
abbrev S8x4096x4096 : Shape := ⟨3, ![8, 4096, 4096]⟩
abbrev S1x8x1x4096x4096 : Shape := ⟨5, ![1, 8, 1, 4096, 4096]⟩
abbrev S2x8x2x4096 : Shape := ⟨4, ![2, 8, 2, 4096]⟩
abbrev S2x8x2x4096x1 : Shape := ⟨5, ![2, 8, 2, 4096, 1]⟩
abbrev S2x8x1x4096x4096 : Shape := ⟨5, ![2, 8, 1, 4096, 4096]⟩
abbrev S2x8x4096x4096 : Shape := ⟨4, ![2, 8, 4096, 4096]⟩
abbrev S2x8x256x4096 : Shape := ⟨4, ![2, 8, 256, 4096]⟩
abbrev S2x4096x8 : Shape := ⟨3, ![2, 4096, 8]⟩
abbrev S2x4096x8x1 : Shape := ⟨4, ![2, 4096, 8, 1]⟩
abbrev S1x1x1x256 : Shape := ⟨4, ![1, 1, 1, 256]⟩
abbrev S8192x2048 : Shape := ⟨2, ![8192, 2048]⟩
abbrev S8192x4096 : Shape := ⟨2, ![8192, 4096]⟩

abbrev nBuf : Space → Nat
  | .hbm => 134
  | .vmem => 0
  | .smem => 0
  | _ => 0

abbrev hbmTy0_0 (i : Nat) : BufTy := match i % 128 with
  | 0 => ⟨S8192x12288, .bf16⟩
  | 1 => ⟨S128, .f32⟩
  | 2 => ⟨S128, .f32⟩
  | 3 => ⟨S128, .f32⟩
  | 4 => ⟨S128, .f32⟩
  | 5 => ⟨S256, .f32⟩
  | 6 => ⟨S32x24, .f32⟩
  | 7 => ⟨S8192x12288, .f32⟩
  | 8 => ⟨S2x4096x12288, .f32⟩
  | 9 => ⟨S2x4096x2048, .f32⟩
  | 10 => ⟨S2x4096x8x2x128, .f32⟩
  | 11 => ⟨S2x4096x2048, .f32⟩
  | 12 => ⟨S2x4096x8x2x128, .f32⟩
  | 13 => ⟨S2x4096x2048, .f32⟩
  | 14 => ⟨S2x4096x8x256, .f32⟩
  | 15 => ⟨S128, .f32⟩
  | 16 => ⟨S_, .f32⟩
  | 17 => ⟨S_, .f32⟩
  | 18 => ⟨S_, .f32⟩
  | 19 => ⟨S128, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S2x8x2x4096x4096, .f32⟩
  | 27 => ⟨S_, .f32⟩
  | 28 => ⟨S2x8x2x4096x4096, .f32⟩
  | 29 => ⟨S2x8x2x4096x4096, .f32⟩
  | 30 => ⟨S4096, .i32⟩
  | 31 => ⟨S4096x1, .i32⟩
  | 32 => ⟨S4096, .i32⟩
  | 33 => ⟨S1x4096, .i32⟩
  | 34 => ⟨S4096x4096, .i32⟩
  | 35 => ⟨S4096x4096, .i32⟩
  | 36 => ⟨S4096x4096, .i32⟩
  | 37 => ⟨S32x8, .f32⟩
  | 38 => ⟨S_, .i32⟩
  | 39 => ⟨S4096x4096, .i32⟩
  | 40 => ⟨S4096x4096, .i32⟩
  | 41 => ⟨S_, .i32⟩
  | 42 => ⟨S4096x4096, .i32⟩
  | 43 => ⟨S4096x4096, .i32⟩
  | 44 => ⟨S4096x4096, .f32⟩
  | 45 => ⟨S_, .f32⟩
  | 46 => ⟨S4096x4096, .f32⟩
  | 47 => ⟨S4096x4096, .f32⟩
  | 48 => ⟨S4096x4096, .f32⟩
  | 49 => ⟨S_, .f32⟩
  | 50 => ⟨S4096x4096, .f32⟩
  | 51 => ⟨S4096x4096, .f32⟩
  | 52 => ⟨S_, .f32⟩
  | 53 => ⟨S4096x4096, .f32⟩
  | 54 => ⟨S4096x4096, .f32⟩
  | 55 => ⟨S4096x4096, .i32⟩
  | 56 => ⟨S_, .i32⟩
  | 57 => ⟨S4096x4096, .i32⟩
  | 58 => ⟨S4096x4096, .i32⟩
  | 59 => ⟨S_, .i32⟩
  | 60 => ⟨S4096x4096, .i32⟩
  | 61 => ⟨S4096x4096, .i32⟩
  | 62 => ⟨S_, .i32⟩
  | 63 => ⟨S4096x4096, .i32⟩
  | 64 => ⟨S4096x4096, .i1⟩
  | 65 => ⟨S4096x4096, .i32⟩
  | 66 => ⟨S_, .i32⟩
  | 67 => ⟨S4096x4096, .i32⟩
  | 68 => ⟨S4096x4096, .i1⟩
  | 69 => ⟨S_, .i32⟩
  | 70 => ⟨S4096x4096, .i32⟩
  | 71 => ⟨S4096x4096, .i32⟩
  | 72 => ⟨S4096x4096, .i32⟩
  | 73 => ⟨S4096x4096x1, .i32⟩
  | 74 => ⟨S4096x4096x8, .f32⟩
  | 75 => ⟨S8x4096x4096, .f32⟩
  | 76 => ⟨S_, .i32⟩
  | 77 => ⟨S4096x4096, .i32⟩
  | 78 => ⟨S4096x4096, .i1⟩
  | 79 => ⟨S1x8x1x4096x4096, .f32⟩
  | 80 => ⟨S2x8x2x4096x4096, .f32⟩
  | 81 => ⟨S2x8x2x4096x4096, .f32⟩
  | 82 => ⟨S_, .f32⟩
  | 83 => ⟨S_, .f32⟩
  | 84 => ⟨S2x8x2x4096x4096, .i1⟩
  | 85 => ⟨S2x8x2x4096x4096, .f32⟩
  | 86 => ⟨S2x8x2x4096x4096, .f32⟩
  | 87 => ⟨S_, .f32⟩
  | 88 => ⟨S2x8x2x4096, .f32⟩
  | 89 => ⟨S_, .f32⟩
  | 90 => ⟨S2x8x2x4096, .f32⟩
  | 91 => ⟨S2x8x2x4096, .f32⟩
  | 92 => ⟨S2x8x2x4096x1, .f32⟩
  | 93 => ⟨S2x8x2x4096x4096, .f32⟩
  | 94 => ⟨S2x8x2x4096x4096, .f32⟩
  | 95 => ⟨S2x8x2x4096x4096, .f32⟩
  | 96 => ⟨S_, .f32⟩
  | 97 => ⟨S2x8x2x4096, .f32⟩
  | 98 => ⟨S2x8x2x4096x1, .f32⟩
  | 99 => ⟨S2x8x2x4096x4096, .f32⟩
  | 100 => ⟨S2x8x2x4096x4096, .f32⟩
  | 101 => ⟨S2x8x1x4096x4096, .f32⟩
  | 102 => ⟨S2x8x4096x4096, .f32⟩
  | 103 => ⟨S2x8x1x4096x4096, .f32⟩
  | 104 => ⟨S2x8x4096x4096, .f32⟩
  | 105 => ⟨S2x8x4096x4096, .f32⟩
  | 106 => ⟨S2x8x4096x4096, .f32⟩
  | 107 => ⟨S2x8x4096x4096, .f32⟩
  | 108 => ⟨S2x8x256x4096, .f32⟩
  | 109 => ⟨S2x4096x8x256, .f32⟩
  | 110 => ⟨S2x4096x8x256, .f32⟩
  | 111 => ⟨S_, .f32⟩
  | 112 => ⟨S2x4096x8, .f32⟩
  | 113 => ⟨S2x4096x8x1, .f32⟩
  | 114 => ⟨S_, .f32⟩
  | 115 => ⟨S2x4096x8x1, .f32⟩
  | 116 => ⟨S2x4096x8x1, .f32⟩
  | 117 => ⟨S_, .f32⟩
  | 118 => ⟨S2x4096x8x1, .f32⟩
  | 119 => ⟨S2x4096x8x1, .f32⟩
  | 120 => ⟨S2x4096x8x1, .f32⟩
  | 121 => ⟨S2x4096x8x256, .f32⟩
  | 122 => ⟨S2x4096x8x256, .f32⟩
  | 123 => ⟨S1x1x1x256, .f32⟩
  | 124 => ⟨S2x4096x8x256, .f32⟩
  | 125 => ⟨S2x4096x8x256, .f32⟩
  | 126 => ⟨S_, .f32⟩
  | 127 => ⟨S2x4096x8x256, .f32⟩
  | _ => ⟨S8192x12288, .bf16⟩

abbrev hbmTy0_1 (i : Nat) : BufTy := match i % 128 with
  | 0 => ⟨S2x4096x8x256, .f32⟩
  | 1 => ⟨S8192x2048, .f32⟩
  | 2 => ⟨S_, .f32⟩
  | 3 => ⟨S8192x2048, .f32⟩
  | 4 => ⟨S8192x4096, .f32⟩
  | 5 => ⟨S8192x4096, .bf16⟩
  | _ => ⟨S8192x12288, .bf16⟩

abbrev hbmTy (i : Nat) : BufTy := match i / 128 with
  | 0 => hbmTy0_0 i
  | 1 => hbmTy0_1 i
  | _ => ⟨S8192x12288, .bf16⟩

abbrev bufTy : (tb : Table) → Fin (tcTables nBuf tb) → BufTy
  | .hbm, ⟨i, _⟩ => hbmTy i
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_v42 : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_10 : Ref sig .tc := ⟨.hbm, 66, rfl⟩
abbrev main_v47 : Ref sig .tc := ⟨.hbm, 67, rfl⟩
abbrev main_v48 : Ref sig .tc := ⟨.hbm, 68, rfl⟩
abbrev main_c_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_12 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_13 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v60 : Ref sig .tc := ⟨.hbm, 86, rfl⟩
abbrev main_cst_14 : Ref sig .tc := ⟨.hbm, 87, rfl⟩
abbrev main_v61 : Ref sig .tc := ⟨.hbm, 88, rfl⟩
abbrev main_cst_15 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_cst_18 : Ref sig .tc := ⟨.hbm, 114, rfl⟩
abbrev main_v84 : Ref sig .tc := ⟨.hbm, 115, rfl⟩
abbrev main_v85 : Ref sig .tc := ⟨.hbm, 116, rfl⟩
abbrev main_cst_19 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_20 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_21 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩

abbrev nD : Nat := 1
abbrev τ : Topo := Topo.v7x

variable {F : FTy → Type} [FloatOps F]
-- ==== Up.lean ====
abbrev S8192x4096 : Shape := ⟨2, ![8192, 4096]⟩
abbrev S4096x22016 : Shape := ⟨2, ![4096, 22016]⟩
abbrev S3x11008 : Shape := ⟨2, ![3, 11008]⟩
abbrev S11008 : Shape := ⟨1, ![11008]⟩
abbrev S1x11008 : Shape := ⟨2, ![1, 11008]⟩
abbrev S8192x11008 : Shape := ⟨2, ![8192, 11008]⟩
abbrev S1024x4096 : Shape := ⟨2, ![1024, 4096]⟩
abbrev S4096x256 : Shape := ⟨2, ![4096, 256]⟩
abbrev S3x256 : Shape := ⟨2, ![3, 256]⟩
abbrev S1x256 : Shape := ⟨2, ![1, 256]⟩
abbrev S1024x256 : Shape := ⟨2, ![1024, 256]⟩
abbrev S43x8x256 : Shape := ⟨3, ![43, 8, 256]⟩
abbrev S8x256 : Shape := ⟨2, ![8, 256]⟩
abbrev S1x8x256 : Shape := ⟨3, ![1, 8, 256]⟩

abbrev nBuf : Space → Nat
  | .hbm => 7
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S4096x22016, .f32⟩
  | .hbm, ⟨2, _⟩ => ⟨S3x11008, .f32⟩
  | .hbm, ⟨3, _⟩ => ⟨S11008, .f32⟩
  | .hbm, ⟨4, _⟩ => ⟨S4096x22016, .bf16⟩
  | .hbm, ⟨5, _⟩ => ⟨S1x11008, .f32⟩
  | .hbm, ⟨6, _⟩ => ⟨S8192x11008, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1024x256, .bf16⟩
  | .local _ .vmem, ⟨11, _⟩ => ⟨S1024x256, .bf16⟩
  | .local _ .vmem, ⟨12, _⟩ => ⟨S43x8x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 43], ![false, false]⟩

def k0_cond1 (i : grid0.Coords) : BitVec 1 :=
  let arg0 : BitVec 32 := BitVec.ofNat 32 (i 0).val
  let c4_i32 : BitVec 32 := 4#32
  let c0_i32 : BitVec 32 := 0#32
  let v7 : BitVec 1 := Scalar.cmpi .eq c4_i32 c0_i32
  let c1_i32 : BitVec 32 := 1#32
  let v8 : BitVec 32 := Scalar.select v7 c1_i32 c4_i32
  let v9 : BitVec 32 := Scalar.remsi arg0 v8
  let c0_i32_7 : BitVec 32 := 0#32
  let v11 : BitVec 1 := Scalar.cmpi .slt v9 c0_i32_7
  let c0_i32_8 : BitVec 32 := 0#32
  let v12 : BitVec 1 := Scalar.cmpi .slt v8 c0_i32_8
  let v13 : BitVec 1 := Scalar.xori v11 v12
  let c0_i32_6 : BitVec 32 := 0#32
  let v10 : BitVec 1 := Scalar.cmpi .ne v9 c0_i32_6
  let v14 : BitVec 1 := Scalar.andi v13 v10
  let v15 : BitVec 32 := Scalar.addi v9 v8
  let v16 : BitVec 32 := Scalar.select v14 v15 v9
  let c0_i32_9 : BitVec 32 := 0#32
  let v17 : BitVec 1 := Scalar.cmpi .eq v16 c0_i32_9
  let v18 : BitVec 32 := Scalar.extui v17
  let c0_i32_10 : BitVec 32 := 0#32
  let v19 : BitVec 1 := Scalar.cmpi .ne v18 c0_i32_10
  v19

def k0_off1 (i : grid0.Coords) : Fin 3 → Nat :=
  let arg1 : BitVec 32 := BitVec.ofNat 32 (i 1).val
  let v70 : Index := Scalar.indexCast arg1
  let c0_26 : Index := 0#32
  let c0_27 : Index := 0#32
  ![v70.toNat, 0, 0]
def k0_off2 (i : grid0.Coords) : Fin 3 → Nat :=
  let arg1 : BitVec 32 := BitVec.ofNat 32 (i 1).val
  let v20 : Index := Scalar.indexCast arg1
  let c0_11 : Index := 0#32
  let c0_12 : Index := 0#32
  ![v20.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S8192x4096 : Shape := ⟨2, ![8192, 4096]⟩
abbrev S4096x22016 : Shape := ⟨2, ![4096, 22016]⟩
abbrev S3x11008 : Shape := ⟨2, ![3, 11008]⟩
abbrev S11008 : Shape := ⟨1, ![11008]⟩
abbrev S2x4096x4096 : Shape := ⟨3, ![2, 4096, 4096]⟩
abbrev S2x4096x22016 : Shape := ⟨3, ![2, 4096, 22016]⟩
abbrev S2x4096x11008 : Shape := ⟨3, ![2, 4096, 11008]⟩
abbrev S_ : Shape := ⟨0, ![]⟩
abbrev S2x4098x11008 : Shape := ⟨3, ![2, 4098, 11008]⟩
abbrev S1x11008 : Shape := ⟨2, ![1, 11008]⟩
abbrev S1x1x11008 : Shape := ⟨3, ![1, 1, 11008]⟩
abbrev S8192x11008 : Shape := ⟨2, ![8192, 11008]⟩

abbrev nBuf : Space → Nat
  | .hbm => 50
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x22016, .f32⟩
  | .hbm, ⟨2, _⟩ => ⟨S3x11008, .f32⟩
  | .hbm, ⟨3, _⟩ => ⟨S11008, .f32⟩
  | .hbm, ⟨4, _⟩ => ⟨S8192x4096, .f32⟩
  | .hbm, ⟨5, _⟩ => ⟨S2x4096x4096, .f32⟩
  | .hbm, ⟨6, _⟩ => ⟨S2x4096x22016, .f32⟩
  | .hbm, ⟨7, _⟩ => ⟨S2x4096x11008, .f32⟩
  | .hbm, ⟨8, _⟩ => ⟨S2x4096x11008, .f32⟩
  | .hbm, ⟨9, _⟩ => ⟨S_, .i32⟩
  | .hbm, ⟨10, _⟩ => ⟨S_, .f32⟩
  | .hbm, ⟨11, _⟩ => ⟨S2x4098x11008, .f32⟩
  | .hbm, ⟨12, _⟩ => ⟨S1x11008, .f32⟩
  | .hbm, ⟨13, _⟩ => ⟨S11008, .f32⟩
  | .hbm, ⟨14, _⟩ => ⟨S2x4096x11008, .f32⟩
  | .hbm, ⟨15, _⟩ => ⟨S1x1x11008, .f32⟩
  | .hbm, ⟨16, _⟩ => ⟨S2x4096x11008, .f32⟩
  | .hbm, ⟨17, _⟩ => ⟨S2x4096x11008, .f32⟩
  | .hbm, ⟨18, _⟩ => ⟨S_, .f32⟩
  | .hbm, ⟨19, _⟩ => ⟨S2x4096x11008, .f32⟩
  | .hbm, ⟨20, _⟩ => ⟨S2x4096x11008, .f32⟩
  | .hbm, ⟨21, _⟩ => ⟨S1x11008, .f32⟩
  | .hbm, ⟨22, _⟩ => ⟨S11008, .f32⟩
  | .hbm, ⟨23, _⟩ => ⟨S2x4096x11008, .f32⟩
  | .hbm, ⟨24, _⟩ => ⟨S1x1x11008, .f32⟩
  | .hbm, ⟨25, _⟩ => ⟨S2x4096x11008, .f32⟩
  | .hbm, ⟨26, _⟩ => ⟨S2x4096x11008, .f32⟩
  | .hbm, ⟨27, _⟩ => ⟨S2x4096x11008, .f32⟩
  | .hbm, ⟨28, _⟩ => ⟨S1x11008, .f32⟩
  | .hbm, ⟨29, _⟩ => ⟨S11008, .f32⟩
  | .hbm, ⟨30, _⟩ => ⟨S2x4096x11008, .f32⟩
  | .hbm, ⟨31, _⟩ => ⟨S1x1x11008, .f32⟩
  | .hbm, ⟨32, _⟩ => ⟨S2x4096x11008, .f32⟩
  | .hbm, ⟨33, _⟩ => ⟨S2x4096x11008, .f32⟩
  | .hbm, ⟨34, _⟩ => ⟨S2x4096x11008, .f32⟩
  | .hbm, ⟨35, _⟩ => ⟨S1x1x11008, .f32⟩
  | .hbm, ⟨36, _⟩ => ⟨S2x4096x11008, .f32⟩
  | .hbm, ⟨37, _⟩ => ⟨S2x4096x11008, .f32⟩
  | .hbm, ⟨38, _⟩ => ⟨S2x4096x11008, .f32⟩
  | .hbm, ⟨39, _⟩ => ⟨S2x4096x11008, .f32⟩
  | .hbm, ⟨40, _⟩ => ⟨S_, .f32⟩
  | .hbm, ⟨41, _⟩ => ⟨S2x4096x11008, .f32⟩
  | .hbm, ⟨42, _⟩ => ⟨S2x4096x11008, .f32⟩
  | .hbm, ⟨43, _⟩ => ⟨S_, .f32⟩
  | .hbm, ⟨44, _⟩ => ⟨S2x4096x11008, .f32⟩
  | .hbm, ⟨45, _⟩ => ⟨S2x4096x11008, .f32⟩
  | .hbm, ⟨46, _⟩ => ⟨S2x4096x11008, .f32⟩
  | .hbm, ⟨47, _⟩ => ⟨S2x4096x11008, .f32⟩
  | .hbm, ⟨48, _⟩ => ⟨S8192x11008, .f32⟩
  | .hbm, ⟨49, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Down.lean ====
abbrev S8192x11008 : Shape := ⟨2, ![8192, 11008]⟩
abbrev S8192x4096 : Shape := ⟨2, ![8192, 4096]⟩
abbrev S2x2x24576 : Shape := ⟨3, ![2, 2, 24576]⟩
abbrev S11008x4096 : Shape := ⟨2, ![11008, 4096]⟩
abbrev S4096 : Shape := ⟨1, ![4096]⟩
abbrev S24x1x4096 : Shape := ⟨3, ![24, 1, 4096]⟩
abbrev S512x11008 : Shape := ⟨2, ![512, 11008]⟩
abbrev S11008x256 : Shape := ⟨2, ![11008, 256]⟩
abbrev S512x256 : Shape := ⟨2, ![512, 256]⟩
abbrev S1x4096 : Shape := ⟨2, ![1, 4096]⟩
abbrev S128x4096 : Shape := ⟨2, ![128, 4096]⟩
abbrev S1x1x4096 : Shape := ⟨3, ![1, 1, 4096]⟩
abbrev S128 : Shape := ⟨1, ![128]⟩
abbrev S128x1 : Shape := ⟨2, ![128, 1]⟩

abbrev nBuf : Space → Nat
  | .hbm => 12
  | .vmem => 16
  | .smem => 0
  | _ => 0

abbrev bufTy : (tb : Table) → Fin (tcTables nBuf tb) → BufTy
  | .hbm, ⟨0, _⟩ => ⟨S8192x11008, .bf16⟩
  | .hbm, ⟨1, _⟩ => ⟨S8192x4096, .f32⟩
  | .hbm, ⟨2, _⟩ => ⟨S2x2x24576, .f32⟩
  | .hbm, ⟨3, _⟩ => ⟨S11008x4096, .f32⟩
  | .hbm, ⟨4, _⟩ => ⟨S4096, .f32⟩
  | .hbm, ⟨5, _⟩ => ⟨S4096, .f32⟩
  | .hbm, ⟨6, _⟩ => ⟨S24x1x4096, .f32⟩
  | .hbm, ⟨7, _⟩ => ⟨S11008x4096, .bf16⟩
  | .hbm, ⟨8, _⟩ => ⟨S8192x4096, .f32⟩
  | .hbm, ⟨9, _⟩ => ⟨S1x4096, .f32⟩
  | .hbm, ⟨10, _⟩ => ⟨S1x4096, .f32⟩
  | .hbm, ⟨11, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S11008x256, .bf16⟩
  | .local _ .vmem, ⟨3, _⟩ => ⟨S11008x256, .bf16⟩
  | .local _ .vmem, ⟨4, _⟩ => ⟨S512x256, .f32⟩
  | .local _ .vmem, ⟨5, _⟩ => ⟨S512x256, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x4096, .f32⟩
  | .local _ .vmem, ⟨13, _⟩ => ⟨S1x4096, .f32⟩
  | .local _ .vmem, ⟨14, _⟩ => ⟨S128x4096, .f32⟩
  | .local _ .vmem, ⟨15, _⟩ => ⟨S128x4096, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.addi c2_i32 v16
  let c6_i32 : BitVec 32 := 6#32
  let v18 : BitVec 32 := Scalar.muli v17 c6_i32
  let c5_i32 : BitVec 32 := 5#32
  let v19 : BitVec 32 := Scalar.addi v18 c5_i32
  let c0_i32_4 : BitVec 32 := 0#32
  let c0_i32_5 : BitVec 32 := 0#32
  let c0_i32_6 : BitVec 32 := 0#32
  ![v19.toNat, c0_i32_4.toNat, c0_i32_5.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== DownRefIdeal.lean ====
abbrev S8192x11008 : Shape := ⟨2, ![8192, 11008]⟩
abbrev S8192x4096 : Shape := ⟨2, ![8192, 4096]⟩
abbrev S2x2x24576 : Shape := ⟨3, ![2, 2, 24576]⟩
abbrev S11008x4096 : Shape := ⟨2, ![11008, 4096]⟩
abbrev S4096 : Shape := ⟨1, ![4096]⟩
abbrev S1x2x24576 : Shape := ⟨3, ![1, 2, 24576]⟩
abbrev S2x24576 : Shape := ⟨2, ![2, 24576]⟩
abbrev S2x4096 : Shape := ⟨2, ![2, 4096]⟩
abbrev S2x1x4096 : Shape := ⟨3, ![2, 1, 4096]⟩
abbrev S2x4096x11008 : Shape := ⟨3, ![2, 4096, 11008]⟩
abbrev S2x4096x4096 : Shape := ⟨3, ![2, 4096, 4096]⟩
abbrev S_ : Shape := ⟨0, ![]⟩
abbrev S2x4096x1 : Shape := ⟨3, ![2, 4096, 1]⟩
abbrev S1x1x4096 : Shape := ⟨3, ![1, 1, 4096]⟩

abbrev nBuf : Space → Nat
  | .hbm => 55
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S8192x4096, .f32⟩
  | .hbm, ⟨2, _⟩ => ⟨S2x2x24576, .f32⟩
  | .hbm, ⟨3, _⟩ => ⟨S11008x4096, .f32⟩
  | .hbm, ⟨4, _⟩ => ⟨S4096, .f32⟩
  | .hbm, ⟨5, _⟩ => ⟨S4096, .f32⟩
  | .hbm, ⟨6, _⟩ => ⟨S1x2x24576, .f32⟩
  | .hbm, ⟨7, _⟩ => ⟨S2x24576, .f32⟩
  | .hbm, ⟨8, _⟩ => ⟨S2x4096, .f32⟩
  | .hbm, ⟨9, _⟩ => ⟨S2x4096, .f32⟩
  | .hbm, ⟨10, _⟩ => ⟨S2x4096, .f32⟩
  | .hbm, ⟨11, _⟩ => ⟨S2x4096, .f32⟩
  | .hbm, ⟨12, _⟩ => ⟨S2x4096, .f32⟩
  | .hbm, ⟨13, _⟩ => ⟨S2x4096, .f32⟩
  | .hbm, ⟨14, _⟩ => ⟨S2x1x4096, .f32⟩
  | .hbm, ⟨15, _⟩ => ⟨S8192x11008, .f32⟩
  | .hbm, ⟨16, _⟩ => ⟨S2x4096x11008, .f32⟩
  | .hbm, ⟨17, _⟩ => ⟨S2x4096x4096, .f32⟩
  | .hbm, ⟨18, _⟩ => ⟨S2x4096x4096, .f32⟩
  | .hbm, ⟨19, _⟩ => ⟨S_, .f32⟩
  | .hbm, ⟨20, _⟩ => ⟨S2x4096x4096, .f32⟩
  | .hbm, ⟨21, _⟩ => ⟨S2x4096x4096, .f32⟩
  | .hbm, ⟨22, _⟩ => ⟨S2x4096x4096, .f32⟩
  | .hbm, ⟨23, _⟩ => ⟨S2x4096x4096, .f32⟩
  | .hbm, ⟨24, _⟩ => ⟨S2x4096x4096, .f32⟩
  | .hbm, ⟨25, _⟩ => ⟨S_, .f32⟩
  | .hbm, ⟨26, _⟩ => ⟨S2x4096, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S2x4096x4096, .f32⟩
  | .hbm, ⟨32, _⟩ => ⟨S2x4096x4096, .f32⟩
  | .hbm, ⟨33, _⟩ => ⟨S2x4096x4096, .f32⟩
  | .hbm, ⟨34, _⟩ => ⟨S_, .f32⟩
  | .hbm, ⟨35, _⟩ => ⟨S2x4096, .f32⟩
  | .hbm, ⟨36, _⟩ => ⟨S2x4096x1, .f32⟩
  | .hbm, ⟨37, _⟩ => ⟨S_, .f32⟩
  | .hbm, ⟨38, _⟩ => ⟨S2x4096x1, .f32⟩
  | .hbm, ⟨39, _⟩ => ⟨S2x4096x1, .f32⟩
  | .hbm, ⟨40, _⟩ => ⟨S2x4096x4096, .f32⟩
  | .hbm, ⟨41, _⟩ => ⟨S2x4096x4096, .f32⟩
  | .hbm, ⟨42, _⟩ => ⟨S_, .f32⟩
  | .hbm, ⟨43, _⟩ => ⟨S2x4096x1, .f32⟩
  | .hbm, ⟨44, _⟩ => ⟨S2x4096x1, .f32⟩
  | .hbm, ⟨45, _⟩ => ⟨S2x4096x1, .f32⟩
  | .hbm, ⟨46, _⟩ => ⟨S2x4096x4096, .f32⟩
  | .hbm, ⟨47, _⟩ => ⟨S2x4096x4096, .f32⟩
  | .hbm, ⟨48, _⟩ => ⟨S1x1x4096, .f32⟩
  | .hbm, ⟨49, _⟩ => ⟨S2x4096x4096, .f32⟩
  | .hbm, ⟨50, _⟩ => ⟨S2x4096x4096, .f32⟩
  | .hbm, ⟨51, _⟩ => ⟨S1x1x4096, .f32⟩
  | .hbm, ⟨52, _⟩ => ⟨S2x4096x4096, .f32⟩
  | .hbm, ⟨53, _⟩ => ⟨S2x4096x4096, .f32⟩
  | .hbm, ⟨54, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Win.lean ====
abbrev S8192x4096 : Shape := ⟨2, ![8192, 4096]⟩
abbrev S4096x12288 : Shape := ⟨2, ![4096, 12288]⟩
abbrev S8192x12288 : Shape := ⟨2, ![8192, 12288]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .f32⟩
  | .hbm, ⟨2, _⟩ => ⟨S4096x12288, .bf16⟩
  | .hbm, ⟨3, _⟩ => ⟨S8192x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WinRefIdeal.lean ====
abbrev S8192x4096 : Shape := ⟨2, ![8192, 4096]⟩
abbrev S4096x12288 : Shape := ⟨2, ![4096, 12288]⟩
abbrev S8192x12288 : Shape := ⟨2, ![8192, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .f32⟩
  | .hbm, ⟨2, _⟩ => ⟨S8192x4096, .f32⟩
  | .hbm, ⟨3, _⟩ => ⟨S8192x12288, .f32⟩
  | .hbm, ⟨4, _⟩ => ⟨S8192x12288, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Wo.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S4096x4096, .bf16⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WoRefIdeal.lean ====
abbrev S8192x4096 : Shape := ⟨2, ![8192, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Start.lean ====
abbrev S2x4096x4096 : Shape := ⟨3, ![2, 4096, 4096]⟩
abbrev S2x2x24576 : Shape := ⟨3, ![2, 2, 24576]⟩
abbrev S4096x12288 : Shape := ⟨2, ![4096, 12288]⟩
abbrev S24x1x4096 : Shape := ⟨3, ![24, 1, 4096]⟩
abbrev S8192x4096 : Shape := ⟨2, ![8192, 4096]⟩
abbrev S128x4096 : Shape := ⟨2, ![128, 4096]⟩
abbrev S1x1x4096 : Shape := ⟨3, ![1, 1, 4096]⟩
abbrev S128 : Shape := ⟨1, ![128]⟩
abbrev S128x1 : Shape := ⟨2, ![128, 1]⟩
abbrev S1x4096 : Shape := ⟨2, ![1, 4096]⟩
abbrev S8192x12288 : Shape := ⟨2, ![8192, 12288]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 8
  | .vmem => 14
  | .smem => 0
  | _ => 0

abbrev bufTy : (tb : Table) → Fin (tcTables nBuf tb) → BufTy
  | .hbm, ⟨0, _⟩ => ⟨S2x4096x4096, .f32⟩
  | .hbm, ⟨1, _⟩ => ⟨S2x2x24576, .f32⟩
  | .hbm, ⟨2, _⟩ => ⟨S4096x12288, .f32⟩
  | .hbm, ⟨3, _⟩ => ⟨S24x1x4096, .f32⟩
  | .hbm, ⟨4, _⟩ => ⟨S8192x4096, .f32⟩
  | .hbm, ⟨5, _⟩ => ⟨S8192x4096, .bf16⟩
  | .hbm, ⟨6, _⟩ => ⟨S4096x12288, .bf16⟩
  | .hbm, ⟨7, _⟩ => ⟨S8192x12288, .bf16⟩
  | .local _ .vmem, ⟨0, _⟩ => ⟨S128x4096, .f32⟩
  | .local _ .vmem, ⟨1, _⟩ => ⟨S128x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S128x4096, .bf16⟩
  | .local _ .vmem, ⟨7, _⟩ => ⟨S128x4096, .bf16⟩
  | .local _ .vmem, ⟨8, _⟩ => ⟨S1024x4096, .bf16⟩
  | .local _ .vmem, ⟨9, _⟩ => ⟨S1024x4096, .bf16⟩
  | .local _ .vmem, ⟨10, _⟩ => ⟨S4096x512, .bf16⟩
  | .local _ .vmem, ⟨11, _⟩ => ⟨S4096x512, .bf16⟩
  | .local _ .vmem, ⟨12, _⟩ => ⟨S1024x512, .bf16⟩
  | .local _ .vmem, ⟨13, _⟩ => ⟨S1024x512, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c6_i32 : BitVec 32 := 6#32
  let v18 : BitVec 32 := Scalar.muli v17 c6_i32
  let c1_i32_5 : BitVec 32 := 1#32
  let v19 : BitVec 32 := Scalar.addi v18 c1_i32_5
  let c0_i32_6 : BitVec 32 := 0#32
  let c0_i32_7 : BitVec 32 := 0#32
  let c0_i32_8 : BitVec 32 := 0#32
  ![v19.toNat, c0_i32_6.toNat, c0_i32_7.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c6_i32 : BitVec 32 := 6#32
  let v18 : BitVec 32 := Scalar.muli v17 c6_i32
  let c0_i32_5 : BitVec 32 := 0#32
  let v19 : BitVec 32 := Scalar.addi v18 c0_i32_5
  let c0_i32_6 : BitVec 32 := 0#32
  let c0_i32_7 : BitVec 32 := 0#32
  let c0_i32_8 : BitVec 32 := 0#32
  ![v19.toNat, c0_i32_6.toNat, c0_i32_7.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 24], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== StartRefIdeal.lean ====
abbrev S2x4096x4096 : Shape := ⟨3, ![2, 4096, 4096]⟩
abbrev S2x2x24576 : Shape := ⟨3, ![2, 2, 24576]⟩
abbrev S4096x12288 : Shape := ⟨2, ![4096, 12288]⟩
abbrev S1x2x24576 : Shape := ⟨3, ![1, 2, 24576]⟩
abbrev S2x24576 : Shape := ⟨2, ![2, 24576]⟩
abbrev S2x4096 : Shape := ⟨2, ![2, 4096]⟩
abbrev S2x1x4096 : Shape := ⟨3, ![2, 1, 4096]⟩
abbrev S_ : Shape := ⟨0, ![]⟩
abbrev S2x4096x1 : Shape := ⟨3, ![2, 4096, 1]⟩
abbrev S2x4096x12288 : Shape := ⟨3, ![2, 4096, 12288]⟩
abbrev S8192x12288 : Shape := ⟨2, ![8192, 12288]⟩

abbrev nBuf : Space → Nat
  | .hbm => 46
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x2x24576, .f32⟩
  | .hbm, ⟨2, _⟩ => ⟨S4096x12288, .f32⟩
  | .hbm, ⟨3, _⟩ => ⟨S1x2x24576, .f32⟩
  | .hbm, ⟨4, _⟩ => ⟨S2x24576, .f32⟩
  | .hbm, ⟨5, _⟩ => ⟨S2x4096, .f32⟩
  | .hbm, ⟨6, _⟩ => ⟨S2x4096, .f32⟩
  | .hbm, ⟨7, _⟩ => ⟨S2x4096, .f32⟩
  | .hbm, ⟨8, _⟩ => ⟨S2x4096, .f32⟩
  | .hbm, ⟨9, _⟩ => ⟨S2x4096, .f32⟩
  | .hbm, ⟨10, _⟩ => ⟨S2x4096, .f32⟩
  | .hbm, ⟨11, _⟩ => ⟨S2x1x4096, .f32⟩
  | .hbm, ⟨12, _⟩ => ⟨S2x1x4096, .f32⟩
  | .hbm, ⟨13, _⟩ => ⟨S_, .f32⟩
  | .hbm, ⟨14, _⟩ => ⟨S2x4096, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x4096, .f32⟩
  | .hbm, ⟨20, _⟩ => ⟨S2x4096x4096, .f32⟩
  | .hbm, ⟨21, _⟩ => ⟨S2x4096x4096, .f32⟩
  | .hbm, ⟨22, _⟩ => ⟨S_, .f32⟩
  | .hbm, ⟨23, _⟩ => ⟨S2x4096, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S2x4096x4096, .f32⟩
  | .hbm, ⟨29, _⟩ => ⟨S2x4096x4096, .f32⟩
  | .hbm, ⟨30, _⟩ => ⟨S_, .f32⟩
  | .hbm, ⟨31, _⟩ => ⟨S2x4096x1, .f32⟩
  | .hbm, ⟨32, _⟩ => ⟨S2x4096x1, .f32⟩
  | .hbm, ⟨33, _⟩ => ⟨S2x4096x1, .f32⟩
  | .hbm, ⟨34, _⟩ => ⟨S2x4096x4096, .f32⟩
  | .hbm, ⟨35, _⟩ => ⟨S2x4096x4096, .f32⟩
  | .hbm, ⟨36, _⟩ => ⟨S_, .f32⟩
  | .hbm, ⟨37, _⟩ => ⟨S2x1x4096, .f32⟩
  | .hbm, ⟨38, _⟩ => ⟨S2x1x4096, .f32⟩
  | .hbm, ⟨39, _⟩ => ⟨S2x4096x4096, .f32⟩
  | .hbm, ⟨40, _⟩ => ⟨S2x4096x4096, .f32⟩
  | .hbm, ⟨41, _⟩ => ⟨S2x4096x4096, .f32⟩
  | .hbm, ⟨42, _⟩ => ⟨S2x4096x4096, .f32⟩
  | .hbm, ⟨43, _⟩ => ⟨S2x4096x12288, .f32⟩
  | .hbm, ⟨44, _⟩ => ⟨S8192x12288, .f32⟩
  | .hbm, ⟨45, _⟩ => ⟨S8192x12288, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Mid.lean ====
abbrev S8192x4096 : Shape := ⟨2, ![8192, 4096]⟩
abbrev S2x2x24576 : Shape := ⟨3, ![2, 2, 24576]⟩
abbrev S4096x4096 : Shape := ⟨2, ![4096, 4096]⟩
abbrev S4096 : Shape := ⟨1, ![4096]⟩
abbrev S24x1x4096 : Shape := ⟨3, ![24, 1, 4096]⟩
abbrev S1024x4096 : Shape := ⟨2, ![1024, 4096]⟩
abbrev S4096x512 : Shape := ⟨2, ![4096, 512]⟩
abbrev S1024x512 : Shape := ⟨2, ![1024, 512]⟩
abbrev S1x4096 : Shape := ⟨2, ![1, 4096]⟩
abbrev S128x4096 : Shape := ⟨2, ![128, 4096]⟩
abbrev S1x1x4096 : Shape := ⟨3, ![1, 1, 4096]⟩
abbrev S128 : Shape := ⟨1, ![128]⟩
abbrev S128x1 : Shape := ⟨2, ![128, 1]⟩

abbrev nBuf : Space → Nat
  | .hbm => 13
  | .vmem => 22
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .f32⟩
  | .hbm, ⟨2, _⟩ => ⟨S2x2x24576, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S24x1x4096, .f32⟩
  | .hbm, ⟨7, _⟩ => ⟨S4096x4096, .bf16⟩
  | .hbm, ⟨8, _⟩ => ⟨S8192x4096, .f32⟩
  | .hbm, ⟨9, _⟩ => ⟨S1x4096, .f32⟩
  | .hbm, ⟨10, _⟩ => ⟨S1x4096, .f32⟩
  | .hbm, ⟨11, _⟩ => ⟨S8192x4096, .f32⟩
  | .hbm, ⟨12, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x4096, .f32⟩
  | .local _ .vmem, ⟨13, _⟩ => ⟨S1x4096, .f32⟩
  | .local _ .vmem, ⟨14, _⟩ => ⟨S1x1x4096, .f32⟩
  | .local _ .vmem, ⟨15, _⟩ => ⟨S1x1x4096, .f32⟩
  | .local _ .vmem, ⟨16, _⟩ => ⟨S1x1x4096, .f32⟩
  | .local _ .vmem, ⟨17, _⟩ => ⟨S1x1x4096, .f32⟩
  | .local _ .vmem, ⟨18, _⟩ => ⟨S128x4096, .f32⟩
  | .local _ .vmem, ⟨19, _⟩ => ⟨S128x4096, .f32⟩
  | .local _ .vmem, ⟨20, _⟩ => ⟨S128x4096, .bf16⟩
  | .local _ .vmem, ⟨21, _⟩ => ⟨S128x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c6_i32 : BitVec 32 := 6#32
  let v18 : BitVec 32 := Scalar.muli v17 c6_i32
  let c2_i32 : BitVec 32 := 2#32
  let v19 : BitVec 32 := Scalar.addi v18 c2_i32
  let c0_i32_5 : BitVec 32 := 0#32
  let c0_i32_6 : BitVec 32 := 0#32
  let c0_i32_7 : BitVec 32 := 0#32
  ![v19.toNat, c0_i32_5.toNat, c0_i32_6.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c6_i32 : BitVec 32 := 6#32
  let v18 : BitVec 32 := Scalar.muli v17 c6_i32
  let c4_i32 : BitVec 32 := 4#32
  let v19 : BitVec 32 := Scalar.addi v18 c4_i32
  let c0_i32_5 : BitVec 32 := 0#32
  let c0_i32_6 : BitVec 32 := 0#32
  let c0_i32_7 : BitVec 32 := 0#32
  ![v19.toNat, c0_i32_5.toNat, c0_i32_6.toNat]

def cc1_transform_6 (i : grid1.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c6_i32 : BitVec 32 := 6#32
  let v18 : BitVec 32 := Scalar.muli v17 c6_i32
  let c3_i32 : BitVec 32 := 3#32
  let v19 : BitVec 32 := Scalar.addi v18 c3_i32
  let c0_i32_5 : BitVec 32 := 0#32
  let c0_i32_6 : BitVec 32 := 0#32
  let c0_i32_7 : BitVec 32 := 0#32
  ![v19.toNat, c0_i32_5.toNat, c0_i32_6.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x1x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x4096 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== MidRefIdeal.lean ====
abbrev S8192x4096 : Shape := ⟨2, ![8192, 4096]⟩
abbrev S2x2x24576 : Shape := ⟨3, ![2, 2, 24576]⟩
abbrev S4096x4096 : Shape := ⟨2, ![4096, 4096]⟩
abbrev S4096 : Shape := ⟨1, ![4096]⟩
abbrev S1x2x24576 : Shape := ⟨3, ![1, 2, 24576]⟩
abbrev S2x24576 : Shape := ⟨2, ![2, 24576]⟩
abbrev S2x4096 : Shape := ⟨2, ![2, 4096]⟩
abbrev S2x1x4096 : Shape := ⟨3, ![2, 1, 4096]⟩
abbrev S2x4096x4096 : Shape := ⟨3, ![2, 4096, 4096]⟩
abbrev S_ : Shape := ⟨0, ![]⟩
abbrev S2x4096x1 : Shape := ⟨3, ![2, 4096, 1]⟩
abbrev S1x1x4096 : Shape := ⟨3, ![1, 1, 4096]⟩

abbrev nBuf : Space → Nat
  | .hbm => 92
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .f32⟩
  | .hbm, ⟨2, _⟩ => ⟨S2x2x24576, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S1x2x24576, .f32⟩
  | .hbm, ⟨7, _⟩ => ⟨S2x24576, .f32⟩
  | .hbm, ⟨8, _⟩ => ⟨S2x4096, .f32⟩
  | .hbm, ⟨9, _⟩ => ⟨S2x4096, .f32⟩
  | .hbm, ⟨10, _⟩ => ⟨S2x4096, .f32⟩
  | .hbm, ⟨11, _⟩ => ⟨S2x4096, .f32⟩
  | .hbm, ⟨12, _⟩ => ⟨S2x4096, .f32⟩
  | .hbm, ⟨13, _⟩ => ⟨S2x4096, .f32⟩
  | .hbm, ⟨14, _⟩ => ⟨S2x1x4096, .f32⟩
  | .hbm, ⟨15, _⟩ => ⟨S2x1x4096, .f32⟩
  | .hbm, ⟨16, _⟩ => ⟨S2x1x4096, .f32⟩
  | .hbm, ⟨17, _⟩ => ⟨S2x1x4096, .f32⟩
  | .hbm, ⟨18, _⟩ => ⟨S2x1x4096, .f32⟩
  | .hbm, ⟨19, _⟩ => ⟨S2x1x4096, .f32⟩
  | .hbm, ⟨20, _⟩ => ⟨S8192x4096, .f32⟩
  | .hbm, ⟨21, _⟩ => ⟨S2x4096x4096, .f32⟩
  | .hbm, ⟨22, _⟩ => ⟨S2x4096x4096, .f32⟩
  | .hbm, ⟨23, _⟩ => ⟨S2x4096x4096, .f32⟩
  | .hbm, ⟨24, _⟩ => ⟨S_, .f32⟩
  | .hbm, ⟨25, _⟩ => ⟨S2x4096x4096, .f32⟩
  | .hbm, ⟨26, _⟩ => ⟨S2x4096x4096, .f32⟩
  | .hbm, ⟨27, _⟩ => ⟨S2x4096x4096, .f32⟩
  | .hbm, ⟨28, _⟩ => ⟨S2x4096x4096, .f32⟩
  | .hbm, ⟨29, _⟩ => ⟨S2x4096x4096, .f32⟩
  | .hbm, ⟨30, _⟩ => ⟨S_, .f32⟩
  | .hbm, ⟨31, _⟩ => ⟨S2x4096, .f32⟩
  | .hbm, ⟨32, _⟩ => ⟨S2x4096x1, .f32⟩
  | .hbm, ⟨33, _⟩ => ⟨S_, .f32⟩
  | .hbm, ⟨34, _⟩ => ⟨S2x4096x1, .f32⟩
  | .hbm, ⟨35, _⟩ => ⟨S2x4096x1, .f32⟩
  | .hbm, ⟨36, _⟩ => ⟨S2x4096x4096, .f32⟩
  | .hbm, ⟨37, _⟩ => ⟨S2x4096x4096, .f32⟩
  | .hbm, ⟨38, _⟩ => ⟨S2x4096x4096, .f32⟩
  | .hbm, ⟨39, _⟩ => ⟨S_, .f32⟩
  | .hbm, ⟨40, _⟩ => ⟨S2x4096, .f32⟩
  | .hbm, ⟨41, _⟩ => ⟨S2x4096x1, .f32⟩
  | .hbm, ⟨42, _⟩ => ⟨S_, .f32⟩
  | .hbm, ⟨43, _⟩ => ⟨S2x4096x1, .f32⟩
  | .hbm, ⟨44, _⟩ => ⟨S2x4096x1, .f32⟩
  | .hbm, ⟨45, _⟩ => ⟨S2x4096x4096, .f32⟩
  | .hbm, ⟨46, _⟩ => ⟨S2x4096x4096, .f32⟩
  | .hbm, ⟨47, _⟩ => ⟨S_, .f32⟩
  | .hbm, ⟨48, _⟩ => ⟨S2x4096x1, .f32⟩
  | .hbm, ⟨49, _⟩ => ⟨S2x4096x1, .f32⟩
  | .hbm, ⟨50, _⟩ => ⟨S2x4096x1, .f32⟩
  | .hbm, ⟨51, _⟩ => ⟨S2x4096x4096, .f32⟩
  | .hbm, ⟨52, _⟩ => ⟨S2x4096x4096, .f32⟩
  | .hbm, ⟨53, _⟩ => ⟨S1x1x4096, .f32⟩
  | .hbm, ⟨54, _⟩ => ⟨S2x4096x4096, .f32⟩
  | .hbm, ⟨55, _⟩ => ⟨S2x4096x4096, .f32⟩
  | .hbm, ⟨56, _⟩ => ⟨S1x1x4096, .f32⟩
  | .hbm, ⟨57, _⟩ => ⟨S2x4096x4096, .f32⟩
  | .hbm, ⟨58, _⟩ => ⟨S2x4096x4096, .f32⟩
  | .hbm, ⟨59, _⟩ => ⟨S_, .f32⟩
  | .hbm, ⟨60, _⟩ => ⟨S2x4096, .f32⟩
  | .hbm, ⟨61, _⟩ => ⟨S2x4096x1, .f32⟩
  | .hbm, ⟨62, _⟩ => ⟨S_, .f32⟩
  | .hbm, ⟨63, _⟩ => ⟨S2x4096x1, .f32⟩
  | .hbm, ⟨64, _⟩ => ⟨S2x4096x1, .f32⟩
  | .hbm, ⟨65, _⟩ => ⟨S2x4096x4096, .f32⟩
  | .hbm, ⟨66, _⟩ => ⟨S2x4096x4096, .f32⟩
  | .hbm, ⟨67, _⟩ => ⟨S2x4096x4096, .f32⟩
  | .hbm, ⟨68, _⟩ => ⟨S_, .f32⟩
  | .hbm, ⟨69, _⟩ => ⟨S2x4096, .f32⟩
  | .hbm, ⟨70, _⟩ => ⟨S2x4096x1, .f32⟩
  | .hbm, ⟨71, _⟩ => ⟨S_, .f32⟩
  | .hbm, ⟨72, _⟩ => ⟨S2x4096x1, .f32⟩
  | .hbm, ⟨73, _⟩ => ⟨S2x4096x1, .f32⟩
  | .hbm, ⟨74, _⟩ => ⟨S2x4096x4096, .f32⟩
  | .hbm, ⟨75, _⟩ => ⟨S2x4096x4096, .f32⟩
  | .hbm, ⟨76, _⟩ => ⟨S_, .f32⟩
  | .hbm, ⟨77, _⟩ => ⟨S2x4096x1, .f32⟩
  | .hbm, ⟨78, _⟩ => ⟨S2x4096x1, .f32⟩
  | .hbm, ⟨79, _⟩ => ⟨S2x4096x1, .f32⟩
  | .hbm, ⟨80, _⟩ => ⟨S2x4096x4096, .f32⟩
  | .hbm, ⟨81, _⟩ => ⟨S2x4096x4096, .f32⟩
  | .hbm, ⟨82, _⟩ => ⟨S_, .f32⟩
  | .hbm, ⟨83, _⟩ => ⟨S2x1x4096, .f32⟩
  | .hbm, ⟨84, _⟩ => ⟨S2x1x4096, .f32⟩
  | .hbm, ⟨85, _⟩ => ⟨S2x4096x4096, .f32⟩
  | .hbm, ⟨86, _⟩ => ⟨S2x4096x4096, .f32⟩
  | .hbm, ⟨87, _⟩ => ⟨S2x4096x4096, .f32⟩
  | .hbm, ⟨88, _⟩ => ⟨S2x4096x4096, .f32⟩
  | .hbm, ⟨89, _⟩ => ⟨S8192x4096, .f32⟩
  | .hbm, ⟨90, _⟩ => ⟨S8192x4096, .f32⟩
  | .hbm, ⟨91, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== Proof.HostFrames.lean ====
module

public import proofs.«01_k».proof.Defs
public import proofs.«01_k».proof.Proof.Gen.AttnRefIdeal.Run
public import proofs.«01_k».proof.Proof.Gen.DownRefIdeal.Run
public import proofs.«01_k».proof.Proof.Gen.MidRefIdeal.Run
public import proofs.«01_k».proof.Proof.Gen.StartRefIdeal.Run
public import proofs.«01_k».proof.Proof.Gen.UpRefIdeal.Run
public import proofs.«01_k».proof.Proof.Gen.WinRefIdeal.Run
public import proofs.«01_k».proof.Proof.Gen.WoRefIdeal.Run
public import Idealize.ShloMosaic.Lib.Quiescent

@[expose] public section

/-! The references' own runs: each is one host program, so its run is the generated one. -/

noncomputable section

namespace Cert.Proof.HostRuns

open Idealize.ShloMosaic Idealize.SL.Sem

/-- The reference `AttnRefIdeal` run at the ideal instance ends, leaves its arguments as they were, and every
    semaphore counter at zero. -/
theorem attnRefIdeal_ends : Cert.quiescent_AttnRefIdeal := by
  intro m ρ _
  refine (θ_run _ _ _).mono (fun r h => ⟨fun c => ?_, Idealize.ShloMosaic.sem_eq_zero_of_no_sems (by decide) r.2⟩)
    (Cert.AttnRefIdeal.Value.run (F := Ideal) m ρ)
  exact (h c).2

/-- The reference `DownRefIdeal` run at the ideal instance ends, leaves its arguments as they were, and every
    semaphore counter at zero. -/
theorem downRefIdeal_ends : Cert.quiescent_DownRefIdeal := by
  intro m ρ _
  refine (θ_run _ _ _).mono (fun r h => ⟨fun c => ?_, Idealize.ShloMosaic.sem_eq_zero_of_no_sems (by decide) r.2⟩)
    (Cert.DownRefIdeal.Value.run (F := Ideal) m ρ)
  exact (h c).2

/-- The reference `WinRefIdeal` run at the ideal instance ends, leaves its arguments as they were, and every
    semaphore counter at zero. -/
theorem winRefIdeal_ends : Cert.quiescent_WinRefIdeal := by
  intro m ρ _
  refine (θ_run _ _ _).mono (fun r h => ⟨fun c => ?_, Idealize.ShloMosaic.sem_eq_zero_of_no_sems (by decide) r.2⟩)
    (Cert.WinRefIdeal.Value.run (F := Ideal) m ρ)
  exact (h c).2

/-- The reference `WoRefIdeal` run at the ideal instance ends, leaves its arguments as they were, and every
    semaphore counter at zero. -/
theorem woRefIdeal_ends : Cert.quiescent_WoRefIdeal := by
  intro m ρ _
  refine (θ_run _ _ _).mono (fun r h => ⟨fun c => ?_, Idealize.ShloMosaic.sem_eq_zero_of_no_sems (by decide) r.2⟩)
    (Cert.WoRefIdeal.Value.run (F := Ideal) m ρ)
  exact (h c).2

/-- The reference `UpRefIdeal` run at the ideal instance ends, leaves its arguments as they were, and every
    semaphore counter at zero. -/
theorem upRefIdeal_ends : Cert.quiescent_UpRefIdeal := by
  intro m ρ _
  refine (θ_run _ _ _).mono (fun r h => ⟨fun c => ?_, Idealize.ShloMosaic.sem_eq_zero_of_no_sems (by decide) r.2⟩)
    (Cert.UpRefIdeal.Value.run (F := Ideal) m ρ)
  exact (h c).2

/-- The reference `StartRefIdeal` run at the ideal instance ends, leaves its arguments as they were, and every
    semaphore counter at zero. -/
theorem startRefIdeal_ends : Cert.quiescent_StartRefIdeal := by
  intro m ρ _
  refine (θ_run _ _ _).mono (fun r h => ⟨fun c => ?_, Idealize.ShloMosaic.sem_eq_zero_of_no_sems (by decide) r.2⟩)
    (Cert.StartRefIdeal.Value.run (F := Ideal) m ρ)
  exact (h c).2

/-- The reference `MidRefIdeal` run at the ideal instance ends, leaves its arguments as they were, and every
    semaphore counter at zero. -/
theorem midRefIdeal_ends : Cert.quiescent_MidRefIdeal := by
  intro m ρ _
  refine (θ_run _ _ _).mono (fun r h => ⟨fun c => ?_, Idealize.ShloMosaic.sem_eq_zero_of_no_sems (by decide) r.2⟩)
    (Cert.MidRefIdeal.Value.run (F := Ideal) m ρ)
  exact (h c).2.2

end Cert.Proof.HostRuns

end

end
-- ==== Proof.DownRun.lean ====
/- The second product and the closing normalization: what a run of the two pipelines leaves in the result array. -/
module

public import proofs.«01_k».proof.Proof.Gen.DownIdeal.Frame

@[expose] public section

set_option maxRecDepth 16384

noncomputable section

namespace Cert.DownIdeal.Launched

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every run from zero counters ends with the result array at the contents that the last pipeline leaves
    and with the argument arrays as launched. -/
theorem ends : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.DownIdeal.Launched

end
-- ==== Proof.DownValue.lean ====
/- The second product of the gated unit and the closing normalization: kernel and reference compute the same array,
   the layer's result. -/
module

public import proofs.«01_k».proof.Defs
public import proofs.«01_k».proof.Proof.DownRun
public import proofs.«01_k».proof.Proof.Gen.DownRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownIdeal.Closing

open Cert.DownIdeal Cert.DownIdeal.Gen

variable (m : (ℓ : Loc nD τ sig) → Buf (Elt Ideal) ℓ) (ρ : Dev nD → PrngReg)
variable (V : (c : Dev nD) → (b : Ref sig .tc) → Buf (Elt Ideal) ((c : Thread nD τ).loc b))

/-- The product of the hidden rows by the weights, entry by entry. -/
def prod (A : FVec Ideal S8192x11008 .bf16) (B : FVec Ideal S11008x4096 .bf16) : FVec Ideal S8192x4096 .f32 :=
  fun i => ∑ k : Fin 11008, A (ix2 (i 0) k) * B (ix2 k (i 1))

/-- Where the blocks of the product's pipeline sit at grid point `t`. -/
theorem place0 : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The block product at a grid point is the whole product where the block sits. -/
theorem block0 (c : Dev nD) (t : Fin cfg0.N) (y) : k0_pay1 (iblk0 V c 0 t) (iblk0 V c 1 t) y
    = prod (V c main_arg0) (V c main_v1) (((cfg0.win 2).blk t).view.emb y) := by
  pointwise [k0_pay1, prod]
  blk_point [iblk0, place0 t]

/-- The first pipeline leaves the whole product. -/
theorem product_eq (c : Dev nD) : (dat0 V c).arrAt 2 cfg0.N = prod (V c main_arg0) (V c main_v1) := by
  refine (dat0 V c).arrAt_eq_of_covers 2 _ (by decide +kernel) fun t _ y => ?_
  blk_simp
  rw [after0_2]; frame_out
  exact block0 V c t y

/-- The residual sum at row `r`, column `j`: the scaled residual plus the gated product. The gate of a row is that of
    its batch entry, the sixth of the layer's six rows of 4096. -/
def mixed (X H : FVec Ideal S8192x4096 .f32) (M : FVec Ideal S24x1x4096 .f32) (r : Fin 8192) (j : Fin 4096) : EReal :=
  Ideal.ofBits .f32 0x3FB504F3#32 * X (ix2 r j) + M (ix3 ⟨17 + 6 * (r.val / 4096), by omega⟩ 0 j) * H (ix2 r j)

/-- The normalized residual sum, scaled and shifted. -/
def normed (X H : FVec Ideal S8192x4096 .f32) (M : FVec Ideal S24x1x4096 .f32) (G B : FVec Ideal S1x4096 .f32) :
    FVec Ideal S8192x4096 .f32 := fun i =>
  (mixed X H M (i 0) (i 1) - Ideal.div (∑ x : Fin 4096, mixed X H M (i 0) x) (Ideal.ofBits .f32 0x45800000#32))
      * Ideal.rsqrt (Ideal.div (∑ x : Fin 4096,
            (mixed X H M (i 0) x - Ideal.div (∑ z : Fin 4096, mixed X H M (i 0) z) (Ideal.ofBits .f32 0x45800000#32))
              * (mixed X H M (i 0) x - Ideal.div (∑ z : Fin 4096, mixed X H M (i 0) z) (Ideal.ofBits .f32 0x45800000#32)))
          (Ideal.ofBits .f32 0x45800000#32) + Ideal.ofBits .f32 0x3727C5AC#32)
    * G (ix2 0 (i 1)) + B (ix2 0 (i 1))

/-- Where the blocks of the normalization's pipeline sit at grid point `t`. -/
theorem place1 : ∀ t : Fin cfg1.N, win1_0.index t = ![t.val, 0] ∧ win1_1.index t = ![t.val, 0]
    ∧ win1_2.index t = ![17 + 6 * (t.val / 32), 0, 0] ∧ win1_3.index t = ![0, 0] ∧ win1_4.index t = ![0, 0]
    ∧ win1_5.index t = ![t.val, 0] ∧ t.val < 64 :=
  (by decide +kernel : ∀ t : Fin grid1.N, _)

/-- The body's rows at a grid point are the whole array's rows where the block sits. -/
theorem block1 (c : Dev nD) (t : Fin cfg1.N) (y) :
    k1_pay1 (iblk1 V c 0 t) (iblk1 V c 2 t) (iblk1 V c 1 t) (iblk1 V c 3 t) (iblk1 V c 4 t) y
    = normed (V c main_arg1) (V c main_v2) (V c main_v0) (V c main_v3) (V c main_v4) (((cfg1.win 5).blk t).view.emb y) := by
  pointwise [k1_pay1, normed, mixed]
  blk_point [iblk1, place1 t]

/-- The second pipeline leaves the normalized sum. -/
theorem closing_eq (c : Dev nD) : (dat1 V c).arrAt 5 cfg1.N
    = normed (V c main_arg1) (V c main_v2) (V c main_v0) (V c main_v3) (V c main_v4) := by
  refine (dat1 V c).arrAt_eq_of_covers 5 _ (by decide +kernel) fun t _ y => ?_
  blk_simp
  rw [after1_5]; frame_out
  exact block1 V c t y

end Cert.DownIdeal.Closing

end
-- ==== Proof.DownRef.lean ====
/- The closing normalization as the reference writes it, over two batch entries of 4096 rows, is the one that the
   kernel's pipelines leave, over 8192 rows. -/
module

public import proofs.«01_k».proof.Proof.DownValue

@[expose] public section

set_option maxRecDepth 16384

noncomputable section

open Idealize.ShloMosaic Idealize.ShloMosaic.TcCoe Idealize.SL.Sem

namespace Cert.DownRefIdeal.Closing

open Cert.DownRefIdeal Cert.DownRefIdeal.Gen

/-- The residual sum before it is normalized, over batch entry, row and column. -/
def sumRef (A : FVec Ideal S8192x11008 .bf16) (X : FVec Ideal S8192x4096 .f32) (M : FVec Ideal S2x2x24576 .f32)
    (W : FVec Ideal S11008x4096 .f32) : FVec Ideal S2x4096x4096 .f32 :=
  addf (mulf (broadcastInDim S2x4096x4096 ![] bcast_S_S2x4096x4096 (constant S_ .f32 0x3FB504F3#32)) (shapeCast S2x4096x4096 X shapeCasts_S8192x4096_S2x4096x4096)) (mulf (broadcastInDim S2x4096x4096 ![0, 1, 2] bcast_S2x1x4096_S2x4096x4096_0_1_2 (broadcastInDim S2x1x4096 ![0, 2] bcast_S2x4096_S2x1x4096_0_2 (extractStridedSlice S2x4096 ![0, 20480] (shapeCast S2x24576 (extractStridedSlice S1x2x24576 ![1, 0, 0] M slices_S2x2x24576_S1x2x24576_1_0_0) shapeCasts_S1x2x24576_S2x24576) slices_S2x24576_S2x4096_0_20480))) (Host.dotGeneral (φ₁ := .f32) (φ₂ := .f32) dot_S2x4096x11008_S11008x4096_S2x4096x4096_2_0_01_1_n_n none (shapeCast S2x4096x11008 (extf .f32 A bitsLt_bf16_f32) shapeCasts_S8192x11008_S2x4096x11008) W))

/-- The normalization of a residual sum, scaled and shifted, laid out over 8192 rows. -/
def normRef (T : FVec Ideal S2x4096x4096 .f32) (G B : FVec Ideal S4096 .f32) : FVec Ideal S8192x4096 .f32 :=
  shapeCast S8192x4096 (addf (mulf (mulf (subf T (broadcastInDim S2x4096x4096 ![0, 1, 2] bcast_S2x4096x1_S2x4096x4096_0_1_2 (Host.divf (broadcastInDim S2x4096x1 ![0, 1] bcast_S2x4096_S2x4096x1_0_1 (Host.reduceAdd T (constant S_ .f32 0x00000000#32) reducesTo_S2x4096x4096_S2x4096_d2 h_S_)) (broadcastInDim S2x4096x1 ![] bcast_S_S2x4096x1 (constant S_ .f32 0x45800000#32))))) (broadcastInDim S2x4096x4096 ![0, 1, 2] bcast_S2x4096x1_S2x4096x4096_0_1_2 (Host.rsqrt (addf (Host.divf (broadcastInDim S2x4096x1 ![0, 1] bcast_S2x4096_S2x4096x1_0_1 (Host.reduceAdd (mulf (subf T (broadcastInDim S2x4096x4096 ![0, 1, 2] bcast_S2x4096x1_S2x4096x4096_0_1_2 (Host.divf (broadcastInDim S2x4096x1 ![0, 1] bcast_S2x4096_S2x4096x1_0_1 (Host.reduceAdd T (constant S_ .f32 0x00000000#32) reducesTo_S2x4096x4096_S2x4096_d2 h_S_)) (broadcastInDim S2x4096x1 ![] bcast_S_S2x4096x1 (constant S_ .f32 0x45800000#32))))) (subf T (broadcastInDim S2x4096x4096 ![0, 1, 2] bcast_S2x4096x1_S2x4096x4096_0_1_2 (Host.divf (broadcastInDim S2x4096x1 ![0, 1] bcast_S2x4096_S2x4096x1_0_1 (Host.reduceAdd T (constant S_ .f32 0x00000000#32) reducesTo_S2x4096x4096_S2x4096_d2 h_S_)) (broadcastInDim S2x4096x1 ![] bcast_S_S2x4096x1 (constant S_ .f32 0x45800000#32)))))) (constant S_ .f32 0x00000000#32) reducesTo_S2x4096x4096_S2x4096_d2 h_S_)) (broadcastInDim S2x4096x1 ![] bcast_S_S2x4096x1 (constant S_ .f32 0x45800000#32))) (broadcastInDim S2x4096x1 ![] bcast_S_S2x4096x1 (constant S_ .f32 0x3727C5AC#32)))))) (broadcastInDim S2x4096x4096 ![0, 1, 2] bcast_S1x1x4096_S2x4096x4096_0_1_2 (broadcastInDim S1x1x4096 ![2] bcast_S4096_S1x1x4096_2 G))) (broadcastInDim S2x4096x4096 ![0, 1, 2] bcast_S1x1x4096_S2x4096x4096_0_1_2 (broadcastInDim S1x1x4096 ![2] bcast_S4096_S1x1x4096_2 B))) shapeCasts_S2x4096x4096_S8192x4096

/-- The reference's result is that normalization of that sum. -/
theorem result_eq (m : (ℓ : Loc nD τ sig) → Buf (Elt Ideal) ℓ) (c : Dev nD) : Cert.DownRefIdeal.Value.res_main_v42 (F := Ideal) m c
    = normRef (sumRef (m ((c : Thread nD τ).loc main_arg0)) (m ((c : Thread nD τ).loc main_arg1)) (m ((c : Thread nD τ).loc main_arg2))
        (m ((c : Thread nD τ).loc main_arg3))) (m ((c : Thread nD τ).loc main_arg4)) (m ((c : Thread nD τ).loc main_arg5)) := rfl

/-- The gate's rows, 24 of 4096, out of the array of modulations. -/
abbrev gates (M : FVec Ideal S2x2x24576 .f32) : FVec Ideal Cert.DownIdeal.S24x1x4096 .f32 :=
  shapeCast Cert.DownIdeal.S24x1x4096 M Cert.DownIdeal.Gen.shapeCasts_S2x2x24576_S24x1x4096

/-- A vector of 4096 as a matrix of one row. -/
abbrev asRow (G : FVec Ideal S4096 .f32) : FVec Ideal Cert.DownIdeal.S1x4096 .f32 :=
  shapeCast Cert.DownIdeal.S1x4096 G Cert.DownIdeal.Gen.shapeCasts_S4096_S1x4096

/-- The residual sum at a batch entry, a row and a column is the kernel's at the row's place among the 8192. -/
theorem sumRef_at (A : FVec Ideal S8192x11008 .bf16) (X : FVec Ideal S8192x4096 .f32) (M : FVec Ideal S2x2x24576 .f32)
    (W : FVec Ideal S11008x4096 .f32) (b : Fin 2) (r j : Fin 4096) :
    sumRef A X M W (ix3 b r j) = Cert.DownIdeal.Closing.mixed X (Cert.DownIdeal.Closing.prod A W) (gates M)
      ⟨b.val * 4096 + r.val, by omega⟩ j := by
  unfold Cert.DownIdeal.Closing.mixed Cert.DownIdeal.Closing.prod gates
  pointwise [sumRef]
  have e1 : (b.val * 4096 + r.val) / 4096 = b.val := by omega
  have hb := b.isLt
  have hj := j.isLt
  congr 3
  funext a
  apply Fin.ext
  match a with
  | ⟨0, _⟩ => show 1 = (17 + 6 * ((b.val * 4096 + r.val) / 4096)) / 12; omega
  | ⟨1, _⟩ => rfl
  | ⟨2, _⟩ => show 20480 + j.val = (17 + 6 * ((b.val * 4096 + r.val) / 4096)) % 6 * 4096 + j.val; omega

/-- A row of the 8192 is found again from its batch entry and its place there. -/
theorem row_again (r : Fin 8192) (h : r.val / 4096 * 4096 + r.val % 4096 < 8192) :
    (⟨r.val / 4096 * 4096 + r.val % 4096, h⟩ : Fin 8192) = r := Fin.ext (by show r.val / 4096 * 4096 + r.val % 4096 = r.val; omega)

/-- The reference's normalization of its residual sum is the kernel's. -/
theorem normRef_eq (A : FVec Ideal S8192x11008 .bf16) (X : FVec Ideal S8192x4096 .f32) (M : FVec Ideal S2x2x24576 .f32)
    (W : FVec Ideal S11008x4096 .f32) (G B : FVec Ideal S4096 .f32) :
    normRef (sumRef A X M W) G B = Cert.DownIdeal.Closing.normed X (Cert.DownIdeal.Closing.prod A W) (gates M) (asRow G) (asRow B) := by
  have hT := sumRef_at A X M W
  generalize sumRef A X M W = T at hT
  funext i
  idx_vars i
  unfold Cert.DownIdeal.Closing.normed asRow
  pointwise [normRef]
  simp only [hT]
  simp only [row_again]

end Cert.DownRefIdeal.Closing

namespace Cert.DownIdeal.Closing

open Cert.DownIdeal Cert.DownIdeal.Gen

variable (m : (ℓ : Loc nD τ sig) → Buf (Elt Ideal) ℓ) (ρ : Dev nD → PrngReg)

/-- The first pipeline finds the hidden rows as launched, -/
theorem entry_hidden (c : Dev nD) : V1 m ρ c main_arg0 = m ((c : Thread nD τ).loc main_arg0) := W1_args m ρ c main_arg0 (by decide)
/-- and the weights, whose change of format changes no value here. -/
theorem entry_weights (c : Dev nD) : (V1 m ρ c main_v1 : FVec Ideal S11008x4096 .bf16) = (m ((c : Thread nD τ).loc main_arg3) : FVec Ideal S11008x4096 .f32) := by
  show StableHlo.after hostOps0 (W0 m ρ c) (Proc.devRef .tc main_v1) = _
  after_results
  rfl
/-- The second finds the residual as launched, -/
theorem entry_residual (c : Dev nD) : V3 m ρ c main_arg1 = m ((c : Thread nD τ).loc main_arg1) := W3_args m ρ c main_arg1 (by decide)
/-- the product that the first left, -/
theorem entry_product (c : Dev nD) : V3 m ρ c main_v2 = (dat0 (V1 m ρ) c).arrAt 2 cfg0.N :=
  (W3_of m ρ c main_v2 (by decide)).trans (W2_arr m ρ c 2)
/-- the modulations by rows, -/
theorem entry_gates (c : Dev nD) : V3 m ρ c main_v0 = shapeCast S24x1x4096 (m ((c : Thread nD τ).loc main_arg2)) Gen.shapeCasts_S2x2x24576_S24x1x4096 := by
  refine (W3_of m ρ c main_v0 (by decide)).trans ((W2_of m ρ c main_v0 (by decide +kernel)).trans ?_)
  show StableHlo.after hostOps0 (W0 m ρ c) (Proc.devRef .tc main_v0) = _
  after_results
  rfl
/-- the scale as a row -/
theorem entry_scale (c : Dev nD) : V3 m ρ c main_v3 = shapeCast S1x4096 (m ((c : Thread nD τ).loc main_arg4)) Gen.shapeCasts_S4096_S1x4096 := by
  show StableHlo.after hostOps1 (W2 m ρ c) (Proc.devRef .tc main_v3) = _
  after_results
  rw [W2_args m ρ c main_arg4 (by decide)]
  rfl
/-- and the shift as a row. -/
theorem entry_shift (c : Dev nD) : V3 m ρ c main_v4 = shapeCast S1x4096 (m ((c : Thread nD τ).loc main_arg5)) Gen.shapeCasts_S4096_S1x4096 := by
  show StableHlo.after hostOps1 (W2 m ρ c) (Proc.devRef .tc main_v4) = _
  after_results
  rw [W2_args m ρ c main_arg5 (by decide)]
  rfl

/-- The layer's result as the kernel leaves it, a function of the arguments. -/
theorem ends_at (c : Dev nD) : W4 m ρ c (Proc.devRef .tc main_v5)
    = normed (m ((c : Thread nD τ).loc main_arg1)) (prod (m ((c : Thread nD τ).loc main_arg0)) (m ((c : Thread nD τ).loc main_arg3)))
        (Cert.DownRefIdeal.Closing.gates (m ((c : Thread nD τ).loc main_arg2)))
        (Cert.DownRefIdeal.Closing.asRow (m ((c : Thread nD τ).loc main_arg4))) (Cert.DownRefIdeal.Closing.asRow (m ((c : Thread nD τ).loc main_arg5))) := by
  refine (W4_arr m ρ c 5).trans ((closing_eq (V3 m ρ) c).trans ?_)
  rw [entry_residual, entry_product, entry_gates, entry_scale, entry_shift, product_eq, entry_hidden]
  exact congrArg (fun w => normed _ (prod _ w) _ _ _) (entry_weights m ρ c)

end Cert.DownIdeal.Closing

namespace Cert.Proof.DownClaim

/-- Kernel and reference end with the same result of the layer, from any hidden rows, residual and modulations. -/
theorem equal : Cert.algebraic_DownIdeal_DownRefIdeal := by
  intro m ρ m' ρ' _ hagree
  refine ⟨fun c => Cert.DownIdeal.Gen.W4 m ρ c (Proc.devRef .tc Cert.DownIdeal.main_v5), Cert.DownIdeal.Launched.ends m ρ, ?_⟩
  refine (θ_run Cert.DownRefIdeal.defs _ _).mono (fun _ h c => ⟨(h c).1.trans ?_, (h c).2⟩)
    (Cert.DownRefIdeal.Value.run (F := Ideal) m' ρ')
  obtain ⟨h0, h1, h2, h3, h4, h5⟩ := hagree c
  rw [Cert.DownRefIdeal.Closing.result_eq, h0, h1, h2, h3, h4, h5, Cert.DownRefIdeal.Closing.normRef_eq]
  exact (Cert.DownIdeal.Closing.ends_at m ρ c).symm

end Cert.Proof.DownClaim

end
-- ==== Proof.WinProduct.lean ====
/- The first dense product of the layer (query, key and value columns): the tiled kernel computes the whole product. -/
module

public import proofs.«01_k».proof.Defs
public import proofs.«01_k».proof.Proof.Gen.WinIdeal.Value
public import proofs.«01_k».proof.Proof.Gen.WinRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WinIdeal.Product

open Cert.WinIdeal Cert.WinIdeal.Gen

variable (m : (ℓ : Loc nD τ sig) → Buf (Elt Ideal) ℓ) (ρ : Dev nD → PrngReg)

/-- The whole product, rounded to the result's format: the reference's term over the two arrays. -/
abbrev whole (A : FVec Ideal S8192x4096 .bf16) (B : FVec Ideal S4096x12288 .f32) : FVec Ideal S8192x12288 .bf16 :=
  truncf .bf16 (Host.dotGeneral (F := Ideal) (φ₁ := .f32) (φ₂ := .f32) Cert.WinRefIdeal.dot_S8192x4096_S4096x12288_S8192x12288_1_0_0_1_n_n none
    (extf .f32 A Cert.WinRefIdeal.Gen.bitsLt_bf16_f32) B) Cert.WinRefIdeal.Gen.bitsLt_bf16_f32

/-- Where each window's block sits at grid point `t`: the rows of the left factor's block, the columns of the
    right factor's, and both for the result's. -/
theorem place : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The block product at grid point `t` is the whole product at the place its block has in the result. -/
theorem block_eq (c : Dev nD) (t : Fin cfg0.N) (y) : k0_pay1 (iblk m c 0 t) (iblk m c 1 t) y
    = whole (m ((c : Thread nD τ).loc main_arg0)) (m ((c : Thread nD τ).loc main_arg1)) (((cfg0.win 2).blk t).view.emb y) := by
  pointwise [k0_pay1, whole]
  blk_point [iblk, V, place t]

/-- After the run the result array is the whole product. -/
theorem result_eq (c : Dev nD) : (dats m 0 c).arrAt 2 cfg0.N
    = whole (m ((c : Thread nD τ).loc main_arg0)) (m ((c : Thread nD τ).loc main_arg1)) := by
  refine (dats m 0 c).arrAt_eq_of_covers 2 _ (by decide +kernel) fun t _ y => ?_
  blk_simp
  rw [after0_2]; frame_out
  exact block_eq m c t y

end Cert.WinIdeal.Product

namespace Cert.Proof.WinIdealClaim

/-- Kernel and reference end with the same product, of any extended reals. -/
theorem equal : Cert.algebraic_WinIdeal_WinRefIdeal := by
  intro m ρ m' ρ' _ hagree
  refine ⟨fun c => Cert.WinIdeal.Product.whole (m ((c : Thread Cert.WinIdeal.nD Cert.WinIdeal.τ).loc Cert.WinIdeal.main_arg0))
    (m ((c : Thread Cert.WinIdeal.nD Cert.WinIdeal.τ).loc Cert.WinIdeal.main_arg1)), ?_, ?_⟩
  · exact (θ_run Cert.WinIdeal.defs _ _).mono
      (fun _ h c => ⟨(h c).1.trans (Cert.WinIdeal.Product.result_eq m c), (h c).2⟩)
      (Cert.WinIdeal.Value.run_blocks (F := Ideal) m ρ)
  · refine (θ_run Cert.WinRefIdeal.defs _ _).mono (fun _ h c => ⟨(h c).1.trans ?_, (h c).2⟩)
      (Cert.WinRefIdeal.Value.run (F := Ideal) m' ρ')
    rw [(hagree c).1, (hagree c).2]

end Cert.Proof.WinIdealClaim

end
-- ==== Proof.WoProduct.lean ====
/- The product after the attention: the tiled kernel computes the whole product. -/
module

public import proofs.«01_k».proof.Defs
public import proofs.«01_k».proof.Proof.Gen.WoIdeal.Value
public import proofs.«01_k».proof.Proof.Gen.WoRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WoIdeal.Product

open Cert.WoIdeal Cert.WoIdeal.Gen

variable (m : (ℓ : Loc nD τ sig) → Buf (Elt Ideal) ℓ) (ρ : Dev nD → PrngReg)

/-- The whole product: the reference's term over the two arrays. -/
abbrev whole (A : FVec Ideal S8192x4096 .bf16) (B : FVec Ideal S4096x4096 .f32) : FVec Ideal S8192x4096 .f32 :=
  Host.dotGeneral (F := Ideal) (φ₁ := .f32) (φ₂ := .f32) Cert.WoRefIdeal.dot_S8192x4096_S4096x4096_S8192x4096_1_0_0_1_n_n none
    (extf .f32 A Cert.WoRefIdeal.Gen.bitsLt_bf16_f32) B

/-- Where each window's block sits at grid point `t`: the rows of the left factor's block, the columns of the
    right factor's, and both for the result's. -/
theorem place : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The block product at grid point `t` is the whole product at the place its block has in the result. -/
theorem block_eq (c : Dev nD) (t : Fin cfg0.N) (y) : k0_pay1 (iblk m c 0 t) (iblk m c 1 t) y
    = whole (m ((c : Thread nD τ).loc main_arg0)) (m ((c : Thread nD τ).loc main_arg1)) (((cfg0.win 2).blk t).view.emb y) := by
  pointwise [k0_pay1, whole]
  blk_point [iblk, V, place t]

/-- After the run the result array is the whole product. -/
theorem result_eq (c : Dev nD) : (dats m 0 c).arrAt 2 cfg0.N
    = whole (m ((c : Thread nD τ).loc main_arg0)) (m ((c : Thread nD τ).loc main_arg1)) := by
  refine (dats m 0 c).arrAt_eq_of_covers 2 _ (by decide +kernel) fun t _ y => ?_
  blk_simp
  rw [after0_2]; frame_out
  exact block_eq m c t y

end Cert.WoIdeal.Product

namespace Cert.Proof.WoIdealClaim

/-- Kernel and reference end with the same product, of any extended reals. -/
theorem equal : Cert.algebraic_WoIdeal_WoRefIdeal := by
  intro m ρ m' ρ' _ hagree
  refine ⟨fun c => Cert.WoIdeal.Product.whole (m ((c : Thread Cert.WoIdeal.nD Cert.WoIdeal.τ).loc Cert.WoIdeal.main_arg0))
    (m ((c : Thread Cert.WoIdeal.nD Cert.WoIdeal.τ).loc Cert.WoIdeal.main_arg1)), ?_, ?_⟩
  · exact (θ_run Cert.WoIdeal.defs _ _).mono
      (fun _ h c => ⟨(h c).1.trans (Cert.WoIdeal.Product.result_eq m c), (h c).2⟩)
      (Cert.WoIdeal.Value.run_blocks (F := Ideal) m ρ)
  · refine (θ_run Cert.WoRefIdeal.defs _ _).mono (fun _ h c => ⟨(h c).1.trans ?_, (h c).2⟩)
      (Cert.WoRefIdeal.Value.run (F := Ideal) m' ρ')
    rw [(hagree c).1, (hagree c).2]

end Cert.Proof.WoIdealClaim

end
-- ==== Proof.AttnTrip.lean ====
module

public import proofs.«01_k».proof.Defs
public import proofs.«01_k».proof.Proof.Gen.AttnIdeal.Frame
public import Idealize.ShloMosaic.Lib.Pipeline.ValueKit
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.AttnIdeal.Attend

open Cert.AttnIdeal Cert.AttnIdeal.Gen

section Trip

variable (c : Dev nD) (i : grid1.Coords) (arg3 : Memref sig .tc .vmem S4x128 .f32) (harg3 : arg3.IsWhole) (arg4 : Memref sig .tc .vmem S256x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x8x256x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S2x256x256 .f32) (harg10 : arg10.IsWhole) (arg11 : Memref sig .tc .vmem S2x256x1 .f32) (harg11 : arg11.IsWhole) (arg12 : Memref sig .tc .vmem S2x256x1 .f32) (harg12 : arg12.IsWhole) (arg2 : BitVec 32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (k : Fin (k1_t1_loop i).trips) (f_arg10 : BufTy.Contents (Elt Ideal) arg10.view.ty) (f_arg11 : BufTy.Contents (Elt Ideal) arg11.view.ty) (f_arg12 : BufTy.Contents (Elt Ideal) arg12.view.ty)

/-- The tile of keys that trip `k` loads. -/
abbrev keys : Vec Ideal S256x256 .bf16 := arg5.view.readAt (Elt Ideal) (Rect.unit (s := S4096x256) (k1_off1 i k) S256x256.size (k1_off1_inb i k)).toLoadRect X_arg5
/-- The tile of values that trip `k` loads. -/
abbrev vals : Vec Ideal S256x256 .bf16 := arg6.view.readAt (Elt Ideal) (Rect.unit (s := S4096x256) (k1_off1 i k) S256x256.size (k1_off1_inb i k)).toLoadRect X_arg6
/-- The bias tile that trip `k` loads. -/
abbrev bias : Vec Ideal S1x1x256x256 .f32 := arg7.view.readAt (Elt Ideal) (Rect.unit (s := S1x8x256x256) (k1_off2 i k) S1x1x256x256.size (k1_off2_inb i k)).toLoadRect X_arg7
/-- The queries of the first map. -/
abbrev q0 : Vec Ideal S256x128 .bf16 := arg4.view.readAt (Elt Ideal) (Rect.unit (s := S256x256) ![0, 0] S256x128.size inb_S256x256_S256x128_0_0).toLoadRect X_arg4
/-- The queries of the second map. -/
abbrev q1 : Vec Ideal S256x128 .bf16 := arg4.view.readAt (Elt Ideal) (Rect.unit (s := S256x256) ![0, 128] S256x128.size inb_S256x256_S256x128_0_128).toLoadRect X_arg4
/-- The first map's column of a two-map column. -/
abbrev col0 (v : View sig .tc .vmem S2x256x1 .f32) (f : BufTy.Contents (Elt Ideal) v.ty) : Vec Ideal S1x256x1 .f32 := v.readAt (Elt Ideal) (Rect.unit (s := S2x256x1) ![0, 0, 0] S1x256x1.size inb_S2x256x1_S1x256x1_0_0_0).toLoadRect f
/-- The second map's column of a two-map column. -/
abbrev col1 (v : View sig .tc .vmem S2x256x1 .f32) (f : BufTy.Contents (Elt Ideal) v.ty) : Vec Ideal S1x256x1 .f32 := v.readAt (Elt Ideal) (Rect.unit (s := S2x256x1) ![1, 0, 0] S1x256x1.size inb_S2x256x1_S1x256x1_1_0_0).toLoadRect f
/-- The first map's tile of a two-map tile. -/
abbrev til0 (v : View sig .tc .vmem S2x256x256 .f32) (f : BufTy.Contents (Elt Ideal) v.ty) : Vec Ideal S1x256x256 .f32 := v.readAt (Elt Ideal) (Rect.unit (s := S2x256x256) ![0, 0, 0] S1x256x256.size inb_S2x256x256_S1x256x256_0_0_0).toLoadRect f
/-- The second map's tile of a two-map tile. -/
abbrev til1 (v : View sig .tc .vmem S2x256x256 .f32) (f : BufTy.Contents (Elt Ideal) v.ty) : Vec Ideal S1x256x256 .f32 := v.readAt (Elt Ideal) (Rect.unit (s := S2x256x256) ![1, 0, 0] S1x256x256.size inb_S2x256x256_S1x256x256_1_0_0).toLoadRect f

/-- What one trip of the loop writes. -/
theorem trip_pieces :
   tripL_k1_t1 (F := Ideal) Variants.none c none i arg3 harg3 arg4 harg4 arg5 harg5 arg6 harg6 arg7 harg7 arg8 harg8 arg9 harg9 arg10 harg10 arg11 harg11 arg12 harg12 arg2 X_arg4 X_arg5 X_arg6 X_arg7 k f_arg10 f_arg11 f_arg12 =
    ([⟨Rect.unit (s := S2x256x256) ![1, 0, 0] S1x256x256.size inb_S2x256x256_S1x256x256_1_0_0, k1_pay36 (vals i arg6 X_arg6 k) (k1_pay14 (keys i arg5 X_arg5 k) (k1_pay2 (bias i arg7 X_arg7 k)) (q1 arg4 X_arg4) (col1 arg11.view f_arg11)) (k1_pay15 (keys i arg5 X_arg5 k) (k1_pay2 (bias i arg7 X_arg7 k)) (q1 arg4 X_arg4) (col1 arg11.view f_arg11)) (til1 arg10.view f_arg10)⟩,
      ⟨Rect.unit (s := S2x256x256) ![0, 0, 0] S1x256x256.size inb_S2x256x256_S1x256x256_0_0_0, k1_pay9 (vals i arg6 X_arg6 k) (k1_pay6 (keys i arg5 X_arg5 k) (bias i arg7 X_arg7 k) (q0 arg4 X_arg4) (col0 arg11.view f_arg11)) (k1_pay7 (keys i arg5 X_arg5 k) (bias i arg7 X_arg7 k) (q0 arg4 X_arg4) (col0 arg11.view f_arg11)) (til0 arg10.view f_arg10)⟩],
     [⟨Rect.unit (s := S2x256x1) ![1, 0, 0] S1x256x1.size inb_S2x256x1_S1x256x1_1_0_0, k1_pay37 (k1_pay13 (keys i arg5 X_arg5 k) (k1_pay2 (bias i arg7 X_arg7 k)) (q1 arg4 X_arg4) (col1 arg11.view f_arg11))⟩,
      ⟨Rect.unit (s := S2x256x1) ![0, 0, 0] S1x256x1.size inb_S2x256x1_S1x256x1_0_0_0, k1_pay10 (k1_pay5 (keys i arg5 X_arg5 k) (bias i arg7 X_arg7 k) (q0 arg4 X_arg4) (col0 arg11.view f_arg11))⟩],
     [⟨Rect.unit (s := S2x256x1) ![1, 0, 0] S1x256x1.size inb_S2x256x1_S1x256x1_1_0_0, k1_pay35 (k1_pay16 (keys i arg5 X_arg5 k) (k1_pay2 (bias i arg7 X_arg7 k)) (q1 arg4 X_arg4) (col1 arg11.view f_arg11) (col1 arg12.view f_arg12))⟩,
      ⟨Rect.unit (s := S2x256x1) ![0, 0, 0] S1x256x1.size inb_S2x256x1_S1x256x1_0_0_0, k1_pay8 (keys i arg5 X_arg5 k) (bias i arg7 X_arg7 k) (q0 arg4 X_arg4) (col0 arg11.view f_arg11) (col0 arg12.view f_arg12)⟩]) := by
  simp only [tripL_k1_t1]
  unfold trip_k1_t1
  rfl
end Trip
end Cert.AttnIdeal.Attend
end
-- ==== Proof.AttnMath.lean ====
module

public import Idealize.ShloMosaic.Lib.Pipeline.ValueKit

/-! One row of attention, key after key: the running maximum, the running sum of weights and the running
weighted sum of values that are carried from tile to tile, and what they are once every key is taken in. -/

@[expose] public section

noncomputable section

namespace Cert.AttnMath
open Idealize.ShloMosaic
open scoped BigOperators

/-- The weight of a score, as a real number: its exponential, zero for a masked key. -/
def wt (x : EReal) : ℝ := (Ideal.exp x).toReal

/-- The weights of the first `n` keys, summed. -/
def den (s : ℕ → EReal) (n : ℕ) : ℝ := ∑ j ∈ Finset.range n, wt (s j)

/-- The values of the first `n` keys, weighted and summed. -/
def num (s : ℕ → EReal) (v : ℕ → ℝ) (n : ℕ) : ℝ := ∑ j ∈ Finset.range n, wt (s j) * v j

/-- What a row carries after `n` keys: before any key the masked maximum and zeros; afterwards a real
maximum, and the two sums scaled by it. -/
def Carried (s : ℕ → EReal) (v : ℕ → ℝ) (n : ℕ) (m l a : EReal) : Prop :=
  (m = ⊥ ∧ l = 0 ∧ a = 0 ∧ n = 0) ∨
    ∃ μ : ℝ, m = (μ : EReal) ∧ l = ((den s n * Real.exp (-μ) : ℝ) : EReal) ∧
      a = ((num s v n * Real.exp (-μ) : ℝ) : EReal)

theorem exp_sub_coe (x : EReal) (hx : x ≠ ⊤) (μ : ℝ) :
    Ideal.exp (x - (μ : EReal)) = ((wt x * Real.exp (-μ) : ℝ) : EReal) := by
  induction x using EReal.rec with
  | bot => simp [wt]
  | coe r => rw [← EReal.coe_sub, Ideal.exp_coe, wt, Ideal.exp_coe, EReal.toReal_coe, sub_eq_add_neg, Real.exp_add]
  | top => exact absurd rfl hx

theorem wt_nonneg (x : EReal) : 0 ≤ wt x := by
  induction x using EReal.rec with
  | bot => simp [wt]
  | coe r => simp only [wt, Ideal.exp_coe, EReal.toReal_coe]; exact (Real.exp_pos r).le
  | top => simp [wt]

theorem wt_pos (x : EReal) (hb : x ≠ ⊥) (ht : x ≠ ⊤) : 0 < wt x := by
  induction x using EReal.rec with
  | bot => exact absurd rfl hb
  | coe r => simp only [wt, Ideal.exp_coe, EReal.toReal_coe]; exact Real.exp_pos r
  | top => exact absurd rfl ht

theorem coe_sum {ι : Type*} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

theorem den_add (s : ℕ → EReal) (n p : ℕ) : den s (n + p) = den s n + ∑ j : Fin p, wt (s (n + j.val)) := by
  rw [den, den, Finset.sum_range_add, Finset.sum_range (fun j => wt (s (n + j)))]

theorem num_add (s : ℕ → EReal) (v : ℕ → ℝ) (n p : ℕ) :
    num s v (n + p) = num s v n + ∑ j : Fin p, wt (s (n + j.val)) * v (n + j.val) := by
  rw [num, num, Finset.sum_range_add, Finset.sum_range (fun j => wt (s (n + j)) * v (n + j))]

theorem den_pos (s : ℕ → EReal) (n j : ℕ) (hj : j < n) (hb : s j ≠ ⊥) (ht : s j ≠ ⊤) : 0 < den s n :=
  Finset.sum_pos' (fun _ _ => wt_nonneg _) ⟨j, Finset.mem_range.mpr hj, wt_pos _ hb ht⟩

/-- A maximum over a tile with one key that is not masked, and no infinite score, is real. -/
theorem max_real {p : ℕ} (m : EReal) (hm : m ≠ ⊤) (t : Fin p → EReal) (ht : ∀ j, t j ≠ ⊤) (j0 : Fin p) (h0 : t j0 ≠ ⊥) :
    ∃ μ : ℝ, max m (Finset.univ.fold max ⊥ t) = (μ : EReal) := by
  have hb : max m (Finset.univ.fold max ⊥ t) ≠ ⊥ := by
    intro h
    have h1 := (max_le_iff.mp h.le).2
    have h2 := (Finset.fold_max_le _).mp h1
    exact h0 (le_bot_iff.mp (h2.2 j0 (Finset.mem_univ _)))
  have htop : max m (Finset.univ.fold max ⊥ t) ≠ ⊤ := by
    apply ne_of_lt
    refine max_lt (lt_top_iff_ne_top.mpr hm) ?_
    exact (Finset.fold_max_lt _).mpr ⟨bot_lt_top, fun j _ => lt_top_iff_ne_top.mpr (ht j)⟩
  exact ⟨_, (EReal.coe_toReal htop hb).symm⟩

/-- One tile of `p` keys taken in. -/
theorem Carried.step {s : ℕ → EReal} {v : ℕ → ℝ} {n : ℕ} {m l a : EReal} (h : Carried s v n m l a) (p : ℕ)
    (ht : ∀ j : Fin p, s (n + j.val) ≠ ⊤) (j0 : Fin p) (h0 : s (n + j0.val) ≠ ⊥) (m' l' a' : EReal)
    (hm : m' = max m (Finset.univ.fold max ⊥ fun j : Fin p => s (n + j.val)))
    (hl : l' = Ideal.exp (m - m') * l + ∑ j : Fin p, Ideal.exp (s (n + j.val) - m'))
    (ha : a' = Ideal.exp (m - m') * a + ∑ j : Fin p, Ideal.exp (s (n + j.val) - m') * (v (n + j.val) : EReal)) :
    Carried s v (n + p) m' l' a' := by
  have hmt : m ≠ ⊤ := by
    rcases h with ⟨h, -⟩ | ⟨μ, h, -⟩
    · rw [h]; exact bot_ne_top
    · rw [h]; exact EReal.coe_ne_top _
  obtain ⟨μ', hμ'⟩ := max_real m hmt (fun j : Fin p => s (n + j.val)) ht j0 h0
  rw [hμ'] at hm
  subst hm
  right
  refine ⟨μ', rfl, ?_, ?_⟩
  · rw [hl, Finset.sum_congr rfl (fun j _ => exp_sub_coe _ (ht j) μ'), ← coe_sum, ← Finset.sum_mul, den_add, exp_sub_coe _ hmt]
    rcases h with ⟨h1, h2, h3, h4⟩ | ⟨μ, h1, h2, h3⟩
    · subst h4; rw [h2]; simp [den]
    · rw [h1, h2, ← EReal.coe_mul, ← EReal.coe_add]
      congr 1
      simp only [wt, Ideal.exp_coe, EReal.toReal_coe]
      have : Real.exp μ * Real.exp (-μ) = 1 := by rw [← Real.exp_add]; simp
      linear_combination (den s n * Real.exp (-μ')) * this
  · have e : ∀ j : Fin p, Ideal.exp (s (n + j.val) - (μ' : EReal)) * (v (n + j.val) : EReal) = ((wt (s (n + j.val)) * v (n + j.val) * Real.exp (-μ') : ℝ) : EReal) := by
      intro j
      rw [exp_sub_coe _ (ht j), ← EReal.coe_mul]; congr 1; ring
    rw [ha, Finset.sum_congr rfl (fun j _ => e j), ← coe_sum, ← Finset.sum_mul, num_add, exp_sub_coe _ hmt]
    rcases h with ⟨h1, h2, h3, h4⟩ | ⟨μ, h1, h2, h3⟩
    · subst h4; rw [h3]; simp [num]
    · rw [h1, h3, ← EReal.coe_mul, ← EReal.coe_add]
      congr 1
      simp only [wt, Ideal.exp_coe, EReal.toReal_coe]
      have : Real.exp μ * Real.exp (-μ) = 1 := by rw [← Real.exp_add]; simp
      linear_combination (num s v n * Real.exp (-μ')) * this

theorem div_real (x y : ℝ) (h : y ≠ 0) : Ideal.div (x : EReal) (y : EReal) = ((x / y : ℝ) : EReal) := by
  rw [Ideal.div_coe h, ← EReal.coe_mul]; congr 1; ring

/-- After the last tile the carried pair gives the weighted average of the values. -/
theorem Carried.average {s : ℕ → EReal} {v : ℕ → ℝ} {n : ℕ} {m l a : EReal} (h : Carried s v n m l a) (hn : n ≠ 0)
    (hd : den s n ≠ 0) : a * Ideal.div 1 l = ((num s v n / den s n : ℝ) : EReal) := by
  rcases h with ⟨-, -, -, h⟩ | ⟨μ, -, h2, h3⟩
  · exact absurd h hn
  · have hp := Real.exp_pos (-μ)
    rw [h2, h3, show (1 : EReal) = ((1 : ℝ) : EReal) from rfl, div_real _ _ (mul_ne_zero hd hp.ne'), ← EReal.coe_mul]
    congr 1
    field_simp

/-- The softmax of a row against any real shift, weighted: the same average. -/
theorem softmax_average {ι : Type*} [Fintype ι] (t : ι → EReal) (v : ι → ℝ) (μ : ℝ) (ht : ∀ j, t j ≠ ⊤)
    (hd : (∑ j, wt (t j)) ≠ 0) (k : ι) :
    Ideal.div (Ideal.exp (t k - (μ : EReal))) (∑ j, Ideal.exp (t j - (μ : EReal))) =
      ((wt (t k) / ∑ j, wt (t j) : ℝ) : EReal) := by
  have hp := Real.exp_pos (-μ)
  rw [Finset.sum_congr rfl (fun j _ => exp_sub_coe _ (ht j) μ), ← coe_sum, ← Finset.sum_mul, exp_sub_coe _ (ht k), div_real _ _ (mul_ne_zero hd hp.ne')]
  congr 1
  field_simp

end Cert.AttnMath
end
-- ==== Proof.AttnLoop.lean ====
module

public import proofs.«01_k».proof.Defs
public import proofs.«01_k».proof.Proof.Gen.AttnIdeal.Frame
public import Idealize.ShloMosaic.Lib.Pipeline.ValueKit
public import Idealize.ShloMosaic.Lib.Pipeline.ReadBack
public import Idealize.ShloMosaic.Lib.WritesUnit
public import proofs.«01_k».proof.Proof.AttnTrip
public import proofs.«01_k».proof.Proof.AttnMath

@[expose] public section

set_option maxRecDepth 16384

noncomputable section

open Idealize.ShloMosaic Idealize.ShloMosaic.TcCoe Idealize.SL.Sem

namespace Cert.AttnIdeal.Attend

open Cert.AttnIdeal Cert.AttnIdeal.Gen

/-- The least finite float pattern's infinity is the least extended real. -/
theorem neg_inf : Ideal.ofBits .f32 4286578688#32 = ⊥ := by simp [Ideal.ofBits, Ideal.ieee]

/-- The scores' scale as the kernel spells it. -/
def scale : EReal := Ideal.ofBits .f32 1035273459#32

/-- The score of key `n` for row `r` of block `b`, in map `mi`. -/
def score (Q : Vec Ideal S256x256 .bf16) (K : Vec Ideal S4096x256 .bf16) (B : Vec Ideal S1x8x256x256 .f32) (b : ℕ) (mi : Fin 2) (r : Fin 256) (n : ℕ) : EReal :=
  (∑ x : Fin 128, Q (ix2 r ⟨128 * mi.val + x.val, by omega⟩) * K (ix2 ⟨n % 4096, by omega⟩ ⟨128 * mi.val + x.val, by omega⟩)) * scale
    + B (ix4 0 ⟨min (b - n / 256) 7, by omega⟩ r ⟨n % 256, by omega⟩)

/-- The bias tile's offset in closed form. -/
theorem off2_eq : ∀ (i : grid1.Coords) (k : Fin (k1_t1_loop i).trips), k1_off2 i k = ![0, min ((i 2).val - k.val) 7, 0, 0] := by decide +kernel

/-- The loop's trips: one per key block up to the query's own. -/
theorem trips_eq : ∀ i : grid1.Coords, (k1_t1_loop i).trips = (i 2).val + 1 := by decide +kernel

theorem tile0_at (K : Vec Ideal S256x256 .bf16) (B : Vec Ideal S1x1x256x256 .f32) (q : Vec Ideal S256x128 .bf16) (r k : Fin 256) :
    k1_pay3 K B q (ix2 r k) = (∑ x : Fin 128, q (ix2 r x) * K (ix2 k ⟨x.val, by omega⟩)) * scale + B (ix4 0 0 r k) := by
  pointwise [k1_pay3, k1_pay2]
  rfl
theorem tile1_at (K : Vec Ideal S256x256 .bf16) (B : FVec Ideal S256x256 .f32) (q : Vec Ideal S256x128 .bf16) (r k : Fin 256) :
    k1_pay11 K B q (ix2 r k) = (∑ x : Fin 128, q (ix2 r x) * K (ix2 k ⟨128 + x.val, by omega⟩)) * scale + B (ix2 r k) := by
  pointwise [k1_pay11]
  rfl
theorem bias2_at (B : Vec Ideal S1x1x256x256 .f32) (r k : Fin 256) : k1_pay2 B (ix2 r k) = B (ix4 0 0 r k) := by
  pointwise [k1_pay2]
theorem m0_at (K : Vec Ideal S256x256 .bf16) (B : Vec Ideal S1x1x256x256 .f32) (q : Vec Ideal S256x128 .bf16) (m : Vec Ideal S1x256x1 .f32) (r : Fin 256) :
    k1_pay5 K B q m (ix2 r 0) = max (m (ix3 0 r 0)) (Finset.univ.fold max ⊥ fun x => k1_pay3 K B q (ix2 r x)) := by
  pointwise [k1_pay5, k1_pay4]
  rw [neg_inf]
theorem m1_at (K : Vec Ideal S256x256 .bf16) (B : FVec Ideal S256x256 .f32) (q : Vec Ideal S256x128 .bf16) (m : Vec Ideal S1x256x1 .f32) (r : Fin 256) :
    k1_pay13 K B q m (ix2 r 0) = max (m (ix3 0 r 0)) (Finset.univ.fold max ⊥ fun x => k1_pay11 K B q (ix2 r x)) := by
  pointwise [k1_pay13, k1_pay12]
  rw [neg_inf]
theorem put_m0 (m : FVec Ideal S256x1 .f32) (r : Fin 256) : k1_pay10 m (ix3 0 r 0) = m (ix2 r 0) := by
  pointwise [k1_pay10]
theorem put_m1 (m : FVec Ideal S256x1 .f32) (r : Fin 256) : k1_pay37 m (ix3 0 r 0) = m (ix2 r 0) := by
  pointwise [k1_pay37]
theorem p0_at (K : Vec Ideal S256x256 .bf16) (B : Vec Ideal S1x1x256x256 .f32) (q : Vec Ideal S256x128 .bf16) (m : Vec Ideal S1x256x1 .f32) (r k : Fin 256) :
    k1_pay6 K B q m (ix2 r k) = Ideal.exp (k1_pay3 K B q (ix2 r k) - k1_pay5 K B q m (ix2 r 0)) := by
  pointwise [k1_pay6]
theorem p1_at (K : Vec Ideal S256x256 .bf16) (B : FVec Ideal S256x256 .f32) (q : Vec Ideal S256x128 .bf16) (m : Vec Ideal S1x256x1 .f32) (r k : Fin 256) :
    k1_pay14 K B q m (ix2 r k) = Ideal.exp (k1_pay11 K B q (ix2 r k) - k1_pay13 K B q m (ix2 r 0)) := by
  pointwise [k1_pay14]
theorem al0_at (K : Vec Ideal S256x256 .bf16) (B : Vec Ideal S1x1x256x256 .f32) (q : Vec Ideal S256x128 .bf16) (m : Vec Ideal S1x256x1 .f32) (r : Fin 256) :
    k1_pay7 K B q m (ix2 r 0) = Ideal.exp (m (ix3 0 r 0) - k1_pay5 K B q m (ix2 r 0)) := by
  pointwise [k1_pay7, k1_pay4]
theorem al1_at (K : Vec Ideal S256x256 .bf16) (B : FVec Ideal S256x256 .f32) (q : Vec Ideal S256x128 .bf16) (m : Vec Ideal S1x256x1 .f32) (r : Fin 256) :
    k1_pay15 K B q m (ix2 r 0) = Ideal.exp (m (ix3 0 r 0) - k1_pay13 K B q m (ix2 r 0)) := by
  pointwise [k1_pay15, k1_pay12]
theorem l0_at (K : Vec Ideal S256x256 .bf16) (B : Vec Ideal S1x1x256x256 .f32) (q : Vec Ideal S256x128 .bf16) (m l : Vec Ideal S1x256x1 .f32) (r : Fin 256) :
    k1_pay8 K B q m l (ix3 0 r 0) = k1_pay7 K B q m (ix2 r 0) * l (ix3 0 r 0) + ∑ x, k1_pay6 K B q m (ix2 r x) := by
  pointwise [k1_pay8]
theorem l1_at (K : Vec Ideal S256x256 .bf16) (B : FVec Ideal S256x256 .f32) (q : Vec Ideal S256x128 .bf16) (m l : Vec Ideal S1x256x1 .f32) (r : Fin 256) :
    k1_pay35 (k1_pay16 K B q m l) (ix3 0 r 0) = k1_pay15 K B q m (ix2 r 0) * l (ix3 0 r 0) + ∑ x, k1_pay14 K B q m (ix2 r x) := by
  pointwise [k1_pay35, k1_pay16]
theorem a0_at (V : Vec Ideal S256x256 .bf16) (p : FVec Ideal S256x256 .f32) (al : FVec Ideal S256x1 .f32) (a : Vec Ideal S1x256x256 .f32) (r k : Fin 256) :
    k1_pay9 V p al a (ix3 0 r k) = al (ix2 r 0) * a (ix3 0 r k) + ∑ x, p (ix2 r x) * V (ix2 x k) := by
  pointwise [k1_pay9]
theorem a1_at (V : Vec Ideal S256x256 .bf16) (p : FVec Ideal S256x256 .f32) (al : FVec Ideal S256x1 .f32) (a : Vec Ideal S1x256x256 .f32) (r k : Fin 256) :
    k1_pay36 V p al a (ix3 0 r k) = al (ix2 r 0) * a (ix3 0 r k) + ∑ x, p (ix2 r x) * V (ix2 x k) := by
  pointwise [k1_pay36]

section Trip

variable (c : Dev nD) (i : grid1.Coords) (arg3 : Memref sig .tc .vmem S4x128 .f32) (harg3 : arg3.IsWhole) (arg4 : Memref sig .tc .vmem S256x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x8x256x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S2x256x256 .f32) (harg10 : arg10.IsWhole) (arg11 : Memref sig .tc .vmem S2x256x1 .f32) (harg11 : arg11.IsWhole) (arg12 : Memref sig .tc .vmem S2x256x1 .f32) (harg12 : arg12.IsWhole) (arg2 : BitVec 32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (k : Fin (k1_t1_loop i).trips) (f_arg10 : BufTy.Contents (Elt Ideal) arg10.view.ty) (f_arg11 : BufTy.Contents (Elt Ideal) arg11.view.ty) (f_arg12 : BufTy.Contents (Elt Ideal) arg12.view.ty)

theorem trip_bound : k.val ≤ (i 2).val := by
  have h := Nat.lt_of_lt_of_eq k.isLt (trips_eq i); omega

theorem block_bound : (i 2).val < 16 := (i 2).isLt

theorem keys_at (j : Fin 256) (x : Fin 256) :
    keys i arg5 X_arg5 k (ix2 j x) = arg5.view.read (Elt Ideal) X_arg5 (ix2 ⟨(256 * k.val + j.val) % 4096, by omega⟩ x) := by
  have h1 := trip_bound i k
  have h2 := block_bound i
  have e0 : k1_off1 i k 0 = 256 * k.val := by rw [k1_off1_eq]; rfl
  have e1 : k1_off1 i k 1 = 0 := by rw [k1_off1_eq]; rfl
  refine View.ld_unit_apply_of _ _ _ _ _ _ fun a => ?_
  fin_cases a
  · show (256 * k.val + j.val) % 4096 = k1_off1 i k 0 + j.val; omega
  · show x.val = k1_off1 i k 1 + x.val; omega
theorem vals_at (j : Fin 256) (x : Fin 256) :
    vals i arg6 X_arg6 k (ix2 j x) = arg6.view.read (Elt Ideal) X_arg6 (ix2 ⟨(256 * k.val + j.val) % 4096, by omega⟩ x) := by
  have h1 := trip_bound i k
  have h2 := block_bound i
  have e0 : k1_off1 i k 0 = 256 * k.val := by rw [k1_off1_eq]; rfl
  have e1 : k1_off1 i k 1 = 0 := by rw [k1_off1_eq]; rfl
  refine View.ld_unit_apply_of _ _ _ _ _ _ fun a => ?_
  fin_cases a
  · show (256 * k.val + j.val) % 4096 = k1_off1 i k 0 + j.val; omega
  · show x.val = k1_off1 i k 1 + x.val; omega
theorem bias_at (r j : Fin 256) :
    bias i arg7 X_arg7 k (ix4 0 0 r j) = arg7.view.read (Elt Ideal) X_arg7 (ix4 0 ⟨min ((i 2).val - (256 * k.val + j.val) / 256) 7, by omega⟩ r ⟨(256 * k.val + j.val) % 256, by omega⟩) := by
  have e0 : k1_off2 i k 0 = 0 := by rw [off2_eq]; rfl
  have e1 : k1_off2 i k 1 = min ((i 2).val - k.val) 7 := by rw [off2_eq]; rfl
  have e2 : k1_off2 i k 2 = 0 := by rw [off2_eq]; rfl
  have e3 : k1_off2 i k 3 = 0 := by rw [off2_eq]; rfl
  refine View.ld_unit_apply_of _ _ _ _ _ _ fun a => ?_
  fin_cases a
  · show 0 = k1_off2 i k 0 + 0; omega
  · show min ((i 2).val - (256 * k.val + j.val) / 256) 7 = k1_off2 i k 1 + 0; omega
  · show r.val = k1_off2 i k 2 + r.val; omega
  · show (256 * k.val + j.val) % 256 = k1_off2 i k 3 + j.val; omega
theorem q0_at (r : Fin 256) (x : Fin 128) : q0 arg4 X_arg4 (ix2 r x) = arg4.view.read (Elt Ideal) X_arg4 (ix2 r ⟨128 * 0 + x.val, by omega⟩) := by
  refine View.ld_unit_apply_of _ _ _ _ _ _ fun a => ?_
  fin_cases a
  · show r.val = 0 + r.val; omega
  · show 128 * 0 + x.val = 0 + x.val; omega
theorem q1_at (r : Fin 256) (x : Fin 128) : q1 arg4 X_arg4 (ix2 r x) = arg4.view.read (Elt Ideal) X_arg4 (ix2 r ⟨128 * 1 + x.val, by omega⟩) := by
  refine View.ld_unit_apply_of _ _ _ _ _ _ fun a => ?_
  fin_cases a
  · show r.val = 0 + r.val; omega
  · show 128 * 1 + x.val = 128 + x.val; omega
theorem col0_at (v : View sig .tc .vmem S2x256x1 .f32) (f : BufTy.Contents (Elt Ideal) v.ty) (r : Fin 256) : col0 v f (ix3 0 r 0) = v.read (Elt Ideal) f (ix3 0 r 0) := by
  refine View.ld_unit_apply_of _ _ _ _ _ _ fun a => ?_
  fin_cases a
  · rfl
  · show r.val = 0 + r.val; omega
  · rfl
theorem col1_at (v : View sig .tc .vmem S2x256x1 .f32) (f : BufTy.Contents (Elt Ideal) v.ty) (r : Fin 256) : col1 v f (ix3 0 r 0) = v.read (Elt Ideal) f (ix3 1 r 0) := by
  refine View.ld_unit_apply_of _ _ _ _ _ _ fun a => ?_
  fin_cases a
  · rfl
  · show r.val = 0 + r.val; omega
  · rfl
theorem til0_at (v : View sig .tc .vmem S2x256x256 .f32) (f : BufTy.Contents (Elt Ideal) v.ty) (r e : Fin 256) : til0 v f (ix3 0 r e) = v.read (Elt Ideal) f (ix3 0 r e) := by
  refine View.ld_unit_apply_of _ _ _ _ _ _ fun a => ?_
  fin_cases a
  · rfl
  · show r.val = 0 + r.val; omega
  · show e.val = 0 + e.val; omega
theorem til1_at (v : View sig .tc .vmem S2x256x256 .f32) (f : BufTy.Contents (Elt Ideal) v.ty) (r e : Fin 256) : til1 v f (ix3 0 r e) = v.read (Elt Ideal) f (ix3 1 r e) := by
  refine View.ld_unit_apply_of _ _ _ _ _ _ fun a => ?_
  fin_cases a
  · rfl
  · show r.val = 0 + r.val; omega
  · show e.val = 0 + e.val; omega

/-- Trip `k`'s scores, first map. -/
theorem score0_at (r j : Fin 256) :
    k1_pay3 (keys i arg5 X_arg5 k) (bias i arg7 X_arg7 k) (q0 arg4 X_arg4) (ix2 r j) =
      score (arg4.view.read (Elt Ideal) X_arg4) (arg5.view.read (Elt Ideal) X_arg5) (arg7.view.read (Elt Ideal) X_arg7) (i 2).val 0 r (256 * k.val + j.val) := by
  rw [tile0_at, bias_at, score]
  congr 2
  refine Finset.sum_congr rfl fun x _ => ?_
  rw [q0_at, keys_at, show (⟨x.val, by omega⟩ : Fin 256) = ⟨128 * (0 : Fin 2).val + x.val, by omega⟩ from Fin.ext (by show x.val = 128 * 0 + x.val; omega)]
  rfl
/-- Trip `k`'s scores, second map. -/
theorem score1_at (r j : Fin 256) :
    k1_pay11 (keys i arg5 X_arg5 k) (k1_pay2 (bias i arg7 X_arg7 k)) (q1 arg4 X_arg4) (ix2 r j) =
      score (arg4.view.read (Elt Ideal) X_arg4) (arg5.view.read (Elt Ideal) X_arg5) (arg7.view.read (Elt Ideal) X_arg7) (i 2).val 1 r (256 * k.val + j.val) := by
  rw [tile1_at, bias2_at, bias_at, score]
  congr 2
  refine Finset.sum_congr rfl fun x _ => ?_
  rw [q1_at, keys_at]
  rfl

/-- The value of key `n` in column `e`. -/
def value (V : Vec Ideal S4096x256 .bf16) (e : Fin 256) (n : ℕ) : EReal := V (ix2 ⟨n % 4096, by omega⟩ e)

/-- The contents a list of pieces leaves, read at an index. -/
abbrev after {s : Shape} {e : EltTy} (v : View sig .tc .vmem s e) (f : BufTy.Contents (Elt Ideal) v.ty) (L : List (View.Piece (Elt Ideal) s e)) : s.Idx → Elt Ideal e :=
  v.read (Elt Ideal) (v.writes (Elt Ideal) f L)

/-- The running maximum of map 0 after trip `k`. -/
theorem trip_m0 (r : Fin 256) :
    after arg11.view f_arg11 (tripL_k1_t1 (F := Ideal) Variants.none c none i arg3 harg3 arg4 harg4 arg5 harg5 arg6 harg6 arg7 harg7 arg8 harg8 arg9 harg9 arg10 harg10 arg11 harg11 arg12 harg12 arg2 X_arg4 X_arg5 X_arg6 X_arg7 k f_arg10 f_arg11 f_arg12).2.1 (ix3 0 r 0) =
      max (arg11.view.read (Elt Ideal) f_arg11 (ix3 0 r 0)) (Finset.univ.fold max ⊥ fun j : Fin 256 => score (arg4.view.read (Elt Ideal) X_arg4) (arg5.view.read (Elt Ideal) X_arg5) (arg7.view.read (Elt Ideal) X_arg7) (i 2).val 0 r (256 * k.val + j.val)) := by
  rw [trip_pieces]
  refine (View.read_writes_cons_unit_of_not_mem _ _ _ _ _ _ rfl 0 (Or.inl Nat.zero_lt_one)).trans ?_
  refine (View.read_writes_cons_unit_of_mem _ _ _ _ _ _ (ix3 0 r 0) rfl fun a => ?_).trans ?_
  · fin_cases a
    · rfl
    · show r.val = 0 + r.val; omega
    · rfl
  rw [put_m0, m0_at, col0_at]
  simp only [score0_at]
/-- The running sum of map 0 after trip `k`. -/
theorem trip_l0 (r : Fin 256) :
    after arg12.view f_arg12 (tripL_k1_t1 (F := Ideal) Variants.none c none i arg3 harg3 arg4 harg4 arg5 harg5 arg6 harg6 arg7 harg7 arg8 harg8 arg9 harg9 arg10 harg10 arg11 harg11 arg12 harg12 arg2 X_arg4 X_arg5 X_arg6 X_arg7 k f_arg10 f_arg11 f_arg12).2.2 (ix3 0 r 0) =
      Ideal.exp (arg11.view.read (Elt Ideal) f_arg11 (ix3 0 r 0) - after arg11.view f_arg11 (tripL_k1_t1 (F := Ideal) Variants.none c none i arg3 harg3 arg4 harg4 arg5 harg5 arg6 harg6 arg7 harg7 arg8 harg8 arg9 harg9 arg10 harg10 arg11 harg11 arg12 harg12 arg2 X_arg4 X_arg5 X_arg6 X_arg7 k f_arg10 f_arg11 f_arg12).2.1 (ix3 0 r 0)) * arg12.view.read (Elt Ideal) f_arg12 (ix3 0 r 0)
        + ∑ j : Fin 256, Ideal.exp (score (arg4.view.read (Elt Ideal) X_arg4) (arg5.view.read (Elt Ideal) X_arg5) (arg7.view.read (Elt Ideal) X_arg7) (i 2).val 0 r (256 * k.val + j.val) - after arg11.view f_arg11 (tripL_k1_t1 (F := Ideal) Variants.none c none i arg3 harg3 arg4 harg4 arg5 harg5 arg6 harg6 arg7 harg7 arg8 harg8 arg9 harg9 arg10 harg10 arg11 harg11 arg12 harg12 arg2 X_arg4 X_arg5 X_arg6 X_arg7 k f_arg10 f_arg11 f_arg12).2.1 (ix3 0 r 0)) := by
  rw [trip_m0, trip_pieces]
  refine (View.read_writes_cons_unit_of_not_mem _ _ _ _ _ _ rfl 0 (Or.inl Nat.zero_lt_one)).trans ?_
  refine (View.read_writes_cons_unit_of_mem _ _ _ _ _ _ (ix3 0 r 0) rfl fun a => ?_).trans ?_
  · fin_cases a
    · rfl
    · show r.val = 0 + r.val; omega
    · rfl
  rw [l0_at, al0_at, m0_at, col0_at, col0_at]
  simp only [p0_at, score0_at, m0_at, col0_at]
/-- The running weighted sum of map 0 after trip `k`. -/
theorem trip_a0 (r e : Fin 256) :
    after arg10.view f_arg10 (tripL_k1_t1 (F := Ideal) Variants.none c none i arg3 harg3 arg4 harg4 arg5 harg5 arg6 harg6 arg7 harg7 arg8 harg8 arg9 harg9 arg10 harg10 arg11 harg11 arg12 harg12 arg2 X_arg4 X_arg5 X_arg6 X_arg7 k f_arg10 f_arg11 f_arg12).1 (ix3 0 r e) =
      Ideal.exp (arg11.view.read (Elt Ideal) f_arg11 (ix3 0 r 0) - after arg11.view f_arg11 (tripL_k1_t1 (F := Ideal) Variants.none c none i arg3 harg3 arg4 harg4 arg5 harg5 arg6 harg6 arg7 harg7 arg8 harg8 arg9 harg9 arg10 harg10 arg11 harg11 arg12 harg12 arg2 X_arg4 X_arg5 X_arg6 X_arg7 k f_arg10 f_arg11 f_arg12).2.1 (ix3 0 r 0)) * arg10.view.read (Elt Ideal) f_arg10 (ix3 0 r e)
        + ∑ j : Fin 256, Ideal.exp (score (arg4.view.read (Elt Ideal) X_arg4) (arg5.view.read (Elt Ideal) X_arg5) (arg7.view.read (Elt Ideal) X_arg7) (i 2).val 0 r (256 * k.val + j.val) - after arg11.view f_arg11 (tripL_k1_t1 (F := Ideal) Variants.none c none i arg3 harg3 arg4 harg4 arg5 harg5 arg6 harg6 arg7 harg7 arg8 harg8 arg9 harg9 arg10 harg10 arg11 harg11 arg12 harg12 arg2 X_arg4 X_arg5 X_arg6 X_arg7 k f_arg10 f_arg11 f_arg12).2.1 (ix3 0 r 0)) * value (arg6.view.read (Elt Ideal) X_arg6) e (256 * k.val + j.val) := by
  rw [trip_m0, trip_pieces]
  refine (View.read_writes_cons_unit_of_not_mem _ _ _ _ _ _ rfl 0 (Or.inl Nat.zero_lt_one)).trans ?_
  refine (View.read_writes_cons_unit_of_mem _ _ _ _ _ _ (ix3 0 r e) rfl fun a => ?_).trans ?_
  · fin_cases a
    · rfl
    · show r.val = 0 + r.val; omega
    · show e.val = 0 + e.val; omega
  rw [a0_at, al0_at, m0_at, col0_at, til0_at]
  simp only [p0_at, score0_at, m0_at, col0_at, vals_at, value]

/-- The running maximum of map 1 after trip `k`. -/
theorem trip_m1 (r : Fin 256) :
    after arg11.view f_arg11 (tripL_k1_t1 (F := Ideal) Variants.none c none i arg3 harg3 arg4 harg4 arg5 harg5 arg6 harg6 arg7 harg7 arg8 harg8 arg9 harg9 arg10 harg10 arg11 harg11 arg12 harg12 arg2 X_arg4 X_arg5 X_arg6 X_arg7 k f_arg10 f_arg11 f_arg12).2.1 (ix3 1 r 0) =
      max (arg11.view.read (Elt Ideal) f_arg11 (ix3 1 r 0)) (Finset.univ.fold max ⊥ fun j : Fin 256 => score (arg4.view.read (Elt Ideal) X_arg4) (arg5.view.read (Elt Ideal) X_arg5) (arg7.view.read (Elt Ideal) X_arg7) (i 2).val 1 r (256 * k.val + j.val)) := by
  rw [trip_pieces]
  refine (View.read_writes_cons_unit_of_mem _ _ _ _ _ _ (ix3 0 r 0) rfl fun a => ?_).trans ?_
  · fin_cases a
    · rfl
    · show r.val = 0 + r.val; omega
    · rfl
  rw [put_m1, m1_at, col1_at]
  simp only [score1_at]
/-- The running sum of map 1 after trip `k`. -/
theorem trip_l1 (r : Fin 256) :
    after arg12.view f_arg12 (tripL_k1_t1 (F := Ideal) Variants.none c none i arg3 harg3 arg4 harg4 arg5 harg5 arg6 harg6 arg7 harg7 arg8 harg8 arg9 harg9 arg10 harg10 arg11 harg11 arg12 harg12 arg2 X_arg4 X_arg5 X_arg6 X_arg7 k f_arg10 f_arg11 f_arg12).2.2 (ix3 1 r 0) =
      Ideal.exp (arg11.view.read (Elt Ideal) f_arg11 (ix3 1 r 0) - after arg11.view f_arg11 (tripL_k1_t1 (F := Ideal) Variants.none c none i arg3 harg3 arg4 harg4 arg5 harg5 arg6 harg6 arg7 harg7 arg8 harg8 arg9 harg9 arg10 harg10 arg11 harg11 arg12 harg12 arg2 X_arg4 X_arg5 X_arg6 X_arg7 k f_arg10 f_arg11 f_arg12).2.1 (ix3 1 r 0)) * arg12.view.read (Elt Ideal) f_arg12 (ix3 1 r 0)
        + ∑ j : Fin 256, Ideal.exp (score (arg4.view.read (Elt Ideal) X_arg4) (arg5.view.read (Elt Ideal) X_arg5) (arg7.view.read (Elt Ideal) X_arg7) (i 2).val 1 r (256 * k.val + j.val) - after arg11.view f_arg11 (tripL_k1_t1 (F := Ideal) Variants.none c none i arg3 harg3 arg4 harg4 arg5 harg5 arg6 harg6 arg7 harg7 arg8 harg8 arg9 harg9 arg10 harg10 arg11 harg11 arg12 harg12 arg2 X_arg4 X_arg5 X_arg6 X_arg7 k f_arg10 f_arg11 f_arg12).2.1 (ix3 1 r 0)) := by
  rw [trip_m1, trip_pieces]
  refine (View.read_writes_cons_unit_of_mem _ _ _ _ _ _ (ix3 0 r 0) rfl fun a => ?_).trans ?_
  · fin_cases a
    · rfl
    · show r.val = 0 + r.val; omega
    · rfl
  rw [l1_at, al1_at, m1_at, col1_at, col1_at]
  simp only [p1_at, score1_at, m1_at, col1_at]
/-- The running weighted sum of map 1 after trip `k`. -/
theorem trip_a1 (r e : Fin 256) :
    after arg10.view f_arg10 (tripL_k1_t1 (F := Ideal) Variants.none c none i arg3 harg3 arg4 harg4 arg5 harg5 arg6 harg6 arg7 harg7 arg8 harg8 arg9 harg9 arg10 harg10 arg11 harg11 arg12 harg12 arg2 X_arg4 X_arg5 X_arg6 X_arg7 k f_arg10 f_arg11 f_arg12).1 (ix3 1 r e) =
      Ideal.exp (arg11.view.read (Elt Ideal) f_arg11 (ix3 1 r 0) - after arg11.view f_arg11 (tripL_k1_t1 (F := Ideal) Variants.none c none i arg3 harg3 arg4 harg4 arg5 harg5 arg6 harg6 arg7 harg7 arg8 harg8 arg9 harg9 arg10 harg10 arg11 harg11 arg12 harg12 arg2 X_arg4 X_arg5 X_arg6 X_arg7 k f_arg10 f_arg11 f_arg12).2.1 (ix3 1 r 0)) * arg10.view.read (Elt Ideal) f_arg10 (ix3 1 r e)
        + ∑ j : Fin 256, Ideal.exp (score (arg4.view.read (Elt Ideal) X_arg4) (arg5.view.read (Elt Ideal) X_arg5) (arg7.view.read (Elt Ideal) X_arg7) (i 2).val 1 r (256 * k.val + j.val) - after arg11.view f_arg11 (tripL_k1_t1 (F := Ideal) Variants.none c none i arg3 harg3 arg4 harg4 arg5 harg5 arg6 harg6 arg7 harg7 arg8 harg8 arg9 harg9 arg10 harg10 arg11 harg11 arg12 harg12 arg2 X_arg4 X_arg5 X_arg6 X_arg7 k f_arg10 f_arg11 f_arg12).2.1 (ix3 1 r 0)) * value (arg6.view.read (Elt Ideal) X_arg6) e (256 * k.val + j.val) := by
  rw [trip_m1, trip_pieces]
  refine (View.read_writes_cons_unit_of_mem _ _ _ _ _ _ (ix3 0 r e) rfl fun a => ?_).trans ?_
  · fin_cases a
    · rfl
    · show r.val = 0 + r.val; omega
    · show e.val = 0 + e.val; omega
  rw [a1_at, al1_at, m1_at, col1_at, til1_at]
  simp only [p1_at, score1_at, m1_at, col1_at, vals_at, value]

/-- What row `r` of map 0 carries after `n` trips. -/
theorem loop_carries0 (r e : Fin 256) (v : ℕ → ℝ) (hv : ∀ n, value (arg6.view.read (Elt Ideal) X_arg6) e n = (v n : EReal))
    (htop : ∀ n, score (arg4.view.read (Elt Ideal) X_arg4) (arg5.view.read (Elt Ideal) X_arg5) (arg7.view.read (Elt Ideal) X_arg7) (i 2).val 0 r n ≠ ⊤)
    (hreal : ∀ k : ℕ, k ≤ (i 2).val → ∃ j : Fin 256, score (arg4.view.read (Elt Ideal) X_arg4) (arg5.view.read (Elt Ideal) X_arg5) (arg7.view.read (Elt Ideal) X_arg7) (i 2).val 0 r (256 * k + j.val) ≠ ⊥)
    (hm : arg11.view.read (Elt Ideal) f_arg11 (ix3 0 r 0) = ⊥) (hl : arg12.view.read (Elt Ideal) f_arg12 (ix3 0 r 0) = 0) (ha : arg10.view.read (Elt Ideal) f_arg10 (ix3 0 r e) = 0)
    (n : ℕ) (hn : n ≤ (i 2).val + 1) :
    Cert.AttnMath.Carried (score (arg4.view.read (Elt Ideal) X_arg4) (arg5.view.read (Elt Ideal) X_arg5) (arg7.view.read (Elt Ideal) X_arg7) (i 2).val 0 r) v (256 * n)
      (after arg11.view f_arg11 (pb_k1_t1 (F := Ideal) Variants.none c none i arg3 harg3 arg4 harg4 arg5 harg5 arg6 harg6 arg7 harg7 arg8 harg8 arg9 harg9 arg10 harg10 arg11 harg11 arg12 harg12 arg2 X_arg4 X_arg5 X_arg6 X_arg7 f_arg10 f_arg11 f_arg12 n).2.1 (ix3 0 r 0)) (after arg12.view f_arg12 (pb_k1_t1 (F := Ideal) Variants.none c none i arg3 harg3 arg4 harg4 arg5 harg5 arg6 harg6 arg7 harg7 arg8 harg8 arg9 harg9 arg10 harg10 arg11 harg11 arg12 harg12 arg2 X_arg4 X_arg5 X_arg6 X_arg7 f_arg10 f_arg11 f_arg12 n).2.2 (ix3 0 r 0)) (after arg10.view f_arg10 (pb_k1_t1 (F := Ideal) Variants.none c none i arg3 harg3 arg4 harg4 arg5 harg5 arg6 harg6 arg7 harg7 arg8 harg8 arg9 harg9 arg10 harg10 arg11 harg11 arg12 harg12 arg2 X_arg4 X_arg5 X_arg6 X_arg7 f_arg10 f_arg11 f_arg12 n).1 (ix3 0 r e)) := by
  induction n with
  | zero => exact .inl ⟨hm, hl, ha, rfl⟩
  | succ n ih =>
    have ih := ih (by omega)
    have hk : n < (k1_t1_loop i).trips := Nat.lt_of_lt_of_eq (by omega) (trips_eq i).symm
    obtain ⟨j0, h0⟩ := hreal n (by omega)
    have e := pb_k1_t1_succ (F := Ideal) Variants.none c none i arg3 harg3 arg4 harg4 arg5 harg5 arg6 harg6 arg7 harg7 arg8 harg8 arg9 harg9 arg10 harg10 arg11 harg11 arg12 harg12 arg2 X_arg4 X_arg5 X_arg6 X_arg7 f_arg10 f_arg11 f_arg12 ⟨n, hk⟩
    dsimp only at e
    rw [e]
    dsimp only [after]
    rw [View.writes_append, View.writes_append, View.writes_append]
    refine ih.step 256 (fun j => htop _) j0 h0 _ _ _ ?_ ?_ ?_
    · exact trip_m0 c i arg3 harg3 arg4 harg4 arg5 harg5 arg6 harg6 arg7 harg7 arg8 harg8 arg9 harg9 arg10 harg10 arg11 harg11 arg12 harg12 arg2 X_arg4 X_arg5 X_arg6 X_arg7 ⟨n, hk⟩ _ _ _ r
    · exact trip_l0 c i arg3 harg3 arg4 harg4 arg5 harg5 arg6 harg6 arg7 harg7 arg8 harg8 arg9 harg9 arg10 harg10 arg11 harg11 arg12 harg12 arg2 X_arg4 X_arg5 X_arg6 X_arg7 ⟨n, hk⟩ _ _ _ r
    · refine (trip_a0 c i arg3 harg3 arg4 harg4 arg5 harg5 arg6 harg6 arg7 harg7 arg8 harg8 arg9 harg9 arg10 harg10 arg11 harg11 arg12 harg12 arg2 X_arg4 X_arg5 X_arg6 X_arg7 ⟨n, hk⟩ _ _ _ r _).trans ?_
      simp only [hv]

/-- What row `r` of map 1 carries after `n` trips. -/
theorem loop_carries1 (r e : Fin 256) (v : ℕ → ℝ) (hv : ∀ n, value (arg6.view.read (Elt Ideal) X_arg6) e n = (v n : EReal))
    (htop : ∀ n, score (arg4.view.read (Elt Ideal) X_arg4) (arg5.view.read (Elt Ideal) X_arg5) (arg7.view.read (Elt Ideal) X_arg7) (i 2).val 1 r n ≠ ⊤)
    (hreal : ∀ k : ℕ, k ≤ (i 2).val → ∃ j : Fin 256, score (arg4.view.read (Elt Ideal) X_arg4) (arg5.view.read (Elt Ideal) X_arg5) (arg7.view.read (Elt Ideal) X_arg7) (i 2).val 1 r (256 * k + j.val) ≠ ⊥)
    (hm : arg11.view.read (Elt Ideal) f_arg11 (ix3 1 r 0) = ⊥) (hl : arg12.view.read (Elt Ideal) f_arg12 (ix3 1 r 0) = 0) (ha : arg10.view.read (Elt Ideal) f_arg10 (ix3 1 r e) = 0)
    (n : ℕ) (hn : n ≤ (i 2).val + 1) :
    Cert.AttnMath.Carried (score (arg4.view.read (Elt Ideal) X_arg4) (arg5.view.read (Elt Ideal) X_arg5) (arg7.view.read (Elt Ideal) X_arg7) (i 2).val 1 r) v (256 * n)
      (after arg11.view f_arg11 (pb_k1_t1 (F := Ideal) Variants.none c none i arg3 harg3 arg4 harg4 arg5 harg5 arg6 harg6 arg7 harg7 arg8 harg8 arg9 harg9 arg10 harg10 arg11 harg11 arg12 harg12 arg2 X_arg4 X_arg5 X_arg6 X_arg7 f_arg10 f_arg11 f_arg12 n).2.1 (ix3 1 r 0)) (after arg12.view f_arg12 (pb_k1_t1 (F := Ideal) Variants.none c none i arg3 harg3 arg4 harg4 arg5 harg5 arg6 harg6 arg7 harg7 arg8 harg8 arg9 harg9 arg10 harg10 arg11 harg11 arg12 harg12 arg2 X_arg4 X_arg5 X_arg6 X_arg7 f_arg10 f_arg11 f_arg12 n).2.2 (ix3 1 r 0)) (after arg10.view f_arg10 (pb_k1_t1 (F := Ideal) Variants.none c none i arg3 harg3 arg4 harg4 arg5 harg5 arg6 harg6 arg7 harg7 arg8 harg8 arg9 harg9 arg10 harg10 arg11 harg11 arg12 harg12 arg2 X_arg4 X_arg5 X_arg6 X_arg7 f_arg10 f_arg11 f_arg12 n).1 (ix3 1 r e)) := by
  induction n with
  | zero => exact .inl ⟨hm, hl, ha, rfl⟩
  | succ n ih =>
    have ih := ih (by omega)
    have hk : n < (k1_t1_loop i).trips := Nat.lt_of_lt_of_eq (by omega) (trips_eq i).symm
    obtain ⟨j0, h0⟩ := hreal n (by omega)
    have e := pb_k1_t1_succ (F := Ideal) Variants.none c none i arg3 harg3 arg4 harg4 arg5 harg5 arg6 harg6 arg7 harg7 arg8 harg8 arg9 harg9 arg10 harg10 arg11 harg11 arg12 harg12 arg2 X_arg4 X_arg5 X_arg6 X_arg7 f_arg10 f_arg11 f_arg12 ⟨n, hk⟩
    dsimp only at e
    rw [e]
    dsimp only [after]
    rw [View.writes_append, View.writes_append, View.writes_append]
    refine ih.step 256 (fun j => htop _) j0 h0 _ _ _ ?_ ?_ ?_
    · exact trip_m1 c i arg3 harg3 arg4 harg4 arg5 harg5 arg6 harg6 arg7 harg7 arg8 harg8 arg9 harg9 arg10 harg10 arg11 harg11 arg12 harg12 arg2 X_arg4 X_arg5 X_arg6 X_arg7 ⟨n, hk⟩ _ _ _ r
    · exact trip_l1 c i arg3 harg3 arg4 harg4 arg5 harg5 arg6 harg6 arg7 harg7 arg8 harg8 arg9 harg9 arg10 harg10 arg11 harg11 arg12 harg12 arg2 X_arg4 X_arg5 X_arg6 X_arg7 ⟨n, hk⟩ _ _ _ r
    · refine (trip_a1 c i arg3 harg3 arg4 harg4 arg5 harg5 arg6 harg6 arg7 harg7 arg8 harg8 arg9 harg9 arg10 harg10 arg11 harg11 arg12 harg12 arg2 X_arg4 X_arg5 X_arg6 X_arg7 ⟨n, hk⟩ _ _ _ r _).trans ?_
      simp only [hv]

end Trip
end Cert.AttnIdeal.Attend
end
-- ==== Proof.AttnOut.lean ====
module

public import proofs.«01_k».proof.Defs
public import proofs.«01_k».proof.Proof.Gen.AttnIdeal.Frame
public import Idealize.ShloMosaic.Lib.Pipeline.ValueKit
public import Idealize.ShloMosaic.Lib.Pipeline.ReadBack
public import Idealize.ShloMosaic.Lib.WritesUnit
public import proofs.«01_k».proof.Proof.AttnTrip
public import proofs.«01_k».proof.Proof.AttnMath
public import proofs.«01_k».proof.Proof.AttnLoop

@[expose] public section

set_option maxRecDepth 16384

noncomputable section

open Idealize.ShloMosaic Idealize.ShloMosaic.TcCoe Idealize.SL.Sem

namespace Cert.AttnIdeal.Attend

open Cert.AttnIdeal Cert.AttnIdeal.Gen

section Run
variable (c : Dev nD) (i : grid1.Coords) (arg3 : Memref sig .tc .vmem S4x128 .f32) (harg3 : arg3.IsWhole) (arg4 : Memref sig .tc .vmem S256x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1x8x256x256 .f32) (harg7 : arg7.IsWhole) (arg8 : Memref sig .tc .vmem S1x256 .f32) (harg8 : arg8.IsWhole) (arg9 : Memref sig .tc .vmem S256x256 .bf16) (harg9 : arg9.IsWhole) (arg10 : Memref sig .tc .vmem S2x256x256 .f32) (harg10 : arg10.IsWhole) (arg11 : Memref sig .tc .vmem S2x256x1 .f32) (harg11 : arg11.IsWhole) (arg12 : Memref sig .tc .vmem S2x256x1 .f32) (harg12 : arg12.IsWhole)  (x0 : Vec Ideal S4x128 .f32) (x1 : Vec Ideal S256x256 .bf16) (x2 : Vec Ideal S4096x256 .bf16) (x3 : Vec Ideal S4096x256 .bf16) (x4 : Vec Ideal S1x8x256x256 .f32) (x5 : Vec Ideal S1x256 .f32)

/-- The first scratch array as the body clears it. -/
def clearA (v : View sig .tc .vmem S2x256x256 .f32) : BufTy.Contents (Elt Ideal) v.ty := v.writes (Elt Ideal) v.junk [⟨Rect.unit (s := S2x256x256) ![0, 0, 0] S2x256x256.size inb_S2x256x256_S2x256x256_0_0_0, k1_pay34 (F := Ideal)⟩]
/-- The running maxima as the body clears them. -/
def clearM (v : View sig .tc .vmem S2x256x1 .f32) : BufTy.Contents (Elt Ideal) v.ty := v.writes (Elt Ideal) v.junk [⟨Rect.unit (s := S2x256x1) ![0, 0, 0] S2x256x1.size inb_S2x256x1_S2x256x1_0_0_0, k1_pay32 (F := Ideal)⟩]
/-- The running sums as the body clears them. -/
def clearL (v : View sig .tc .vmem S2x256x1 .f32) : BufTy.Contents (Elt Ideal) v.ty := v.writes (Elt Ideal) v.junk [⟨Rect.unit (s := S2x256x1) ![0, 0, 0] S2x256x1.size inb_S2x256x1_S2x256x1_0_0_0, k1_pay33 (F := Ideal)⟩]

/-- What the loop over the key blocks writes, from the cleared arrays on. -/
abbrev looped := pb_k1_t1 (F := Ideal) Variants.none c none i arg3 harg3 arg4 harg4 arg5 harg5 arg6 harg6 arg7 harg7 arg8 harg8 arg9 harg9 arg10 harg10 arg11 harg11 arg12 harg12 (BitVec.ofNat 32 (i 2).val) (harg4.unread x1) (harg5.unread x2) (harg6.unread x3) (harg7.unread x4) (clearA arg10.view) (clearM arg11.view) (clearL arg12.view) ((i 2).val + 1)

theorem second_trips : ∀ i : grid1.Coords, Scf.trips (k1_t2_loop i).lb (k1_t2_loop i).ub (k1_t2_loop i).st = 0 := fun i => Nat.le_zero.mp (k1_t2_abs i).2.1

/-- The accumulators after the loop. -/
abbrev endA : BufTy.Contents (Elt Ideal) arg10.view.ty := arg10.view.writes (Elt Ideal) (clearA arg10.view) (looped c i arg3 harg3 arg4 harg4 arg5 harg5 arg6 harg6 arg7 harg7 arg8 harg8 arg9 harg9 arg10 harg10 arg11 harg11 arg12 harg12 x1 x2 x3 x4).1
/-- The running sums after the loop. -/
abbrev endL : BufTy.Contents (Elt Ideal) arg12.view.ty := arg12.view.writes (Elt Ideal) (clearL arg12.view) (looped c i arg3 harg3 arg4 harg4 arg5 harg5 arg6 harg6 arg7 harg7 arg8 harg8 arg9 harg9 arg10 harg10 arg11 harg11 arg12 harg12 x1 x2 x3 x4).2.2

theorem run_pieces : (kernelRun1_A (F := Ideal) c i arg3 harg3 arg4 harg4 arg5 harg5 arg6 harg6 arg7 harg7 arg8 harg8 arg9 harg9 arg10 harg10 arg11 harg11 arg12 harg12 x0 x1 x2 x3 x4 x5).1 =
    [⟨Rect.unit (s := S256x256) ![0, 0] S256x256.size inb_S256x256_S256x256_0_0, k1_pay1 (k1_pay44 (k1_pay42 (View.readAt (Elt Ideal) arg3.view (Rect.unit (s := S4x128) ![0, 0] S4x128.size inb_S4x128_S4x128_0_0).toLoadRect (harg3.unread x0))) (k1_pay43 (View.readAt (Elt Ideal) arg3.view (Rect.unit (s := S4x128) ![0, 0] S4x128.size inb_S4x128_S4x128_0_0).toLoadRect (harg3.unread x0)))
      (til0 arg10.view (endA c i arg3 harg3 arg4 harg4 arg5 harg5 arg6 harg6 arg7 harg7 arg8 harg8 arg9 harg9 arg10 harg10 arg11 harg11 arg12 harg12 x1 x2 x3 x4)) (col0 arg12.view (endL c i arg3 harg3 arg4 harg4 arg5 harg5 arg6 harg6 arg7 harg7 arg8 harg8 arg9 harg9 arg10 harg10 arg11 harg11 arg12 harg12 x1 x2 x3 x4)) (til1 arg10.view (endA c i arg3 harg3 arg4 harg4 arg5 harg5 arg6 harg6 arg7 harg7 arg8 harg8 arg9 harg9 arg10 harg10 arg11 harg11 arg12 harg12 x1 x2 x3 x4)) (col1 arg12.view (endL c i arg3 harg3 arg4 harg4 arg5 harg5 arg6 harg6 arg7 harg7 arg8 harg8 arg9 harg9 arg10 harg10 arg11 harg11 arg12 harg12 x1 x2 x3 x4))
      (View.readAt (Elt Ideal) arg8.view (Rect.unit (s := S1x256) ![0, 0] S1x256.size inb_S1x256_S1x256_0_0).toLoadRect (harg8.unread x5))) k1_pay45⟩] := by
  have e1 := trips_eq i
  unfold kernelRun1_A
  dsimp only
  unfold kernelRun1_A.sl.r_2 kernelRun1_A.sl.r kernelRun1_A.sl.r_1 kernelRun1_A.sl.v35 kernelRun1_A.sl.v37 kernelRun1_A.sl.v43 kernelRun1_A.sl.v45 endA endL looped
  rw [second_trips]
  rw [show Scf.trips (k1_t1_loop i).lb (k1_t1_loop i).ub (k1_t1_loop i).st = (i 2).val + 1 from e1]
  simp only [pb_k1_t2.eq_1, List.nil_append, View.readCov, View.writes_append]
  unfold clearA clearM clearL kernelRun1_A.sl.HS0_1 kernelRun1_A.sl.HS1_1 kernelRun1_A.sl.HS2_1
  with_reducible rfl

/-- The weight of the second map, from the four rows of parameters. -/
def lamOf (lam : Vec Ideal S4x128 .f32) : EReal :=
  Ideal.exp (∑ x : Fin 128, lam (ix2 0 x) * lam (ix2 1 x)) - Ideal.exp (∑ x : Fin 128, lam (ix2 2 x) * lam (ix2 3 x)) + Ideal.ofBits FTy.f32 1045220557#32

/-- A row's difference of the two averages, normalised and scaled, at column `e`. -/
def normed (d : Fin 256 → EReal) (g : Fin 256 → EReal) (e : Fin 256) : EReal :=
  d e * Ideal.rsqrt (Ideal.div (∑ x, d x * d x) (Ideal.ofBits FTy.f32 1132462080#32) + Ideal.ofBits FTy.f32 925353388#32) * g e * Ideal.ofBits FTy.f32 1061997773#32

theorem final_at (lam : Vec Ideal S4x128 .f32) (a0 a1 : Vec Ideal S1x256x256 .f32) (l0 l1 : Vec Ideal S1x256x1 .f32) (g : Vec Ideal S1x256 .f32) (r e : Fin 256) :
   k1_pay1 (k1_pay44 (k1_pay42 lam) (k1_pay43 lam) a0 l0 a1 l1 g) k1_pay45 (ix2 r e) =
     normed (fun x => a0 (ix3 0 r x) * Ideal.div 1 (l0 (ix3 0 r 0)) - lamOf lam * (a1 (ix3 0 r x) * Ideal.div 1 (l1 (ix3 0 r 0)))) (fun x => g (ix2 0 x)) e := by
  pointwise [k1_pay1, k1_pay44, k1_pay45, k1_pay42, k1_pay43, k1_pay41]
  rfl
theorem cleared_a (v : View sig .tc .vmem S2x256x256 .f32) (mi : Fin 2) (r e : Fin 256) : v.read (Elt Ideal) (clearA v) (ix3 mi r e) = 0 := by
  refine (View.read_writes_cons_unit_of_mem _ _ _ _ _ _ (ix3 mi r e) rfl fun a => ?_).trans ?_
  · fin_cases a
    · show mi.val = 0 + mi.val; omega
    · show r.val = 0 + r.val; omega
    · show e.val = 0 + e.val; omega
  · pointwise [k1_pay34]
theorem cleared_l (v : View sig .tc .vmem S2x256x1 .f32) (mi : Fin 2) (r : Fin 256) : v.read (Elt Ideal) (clearL v) (ix3 mi r 0) = 0 := by
  refine (View.read_writes_cons_unit_of_mem _ _ _ _ _ _ (ix3 mi r 0) rfl fun a => ?_).trans ?_
  · fin_cases a
    · show mi.val = 0 + mi.val; omega
    · show r.val = 0 + r.val; omega
    · rfl
  · pointwise [k1_pay33]
theorem cleared_m (v : View sig .tc .vmem S2x256x1 .f32) (mi : Fin 2) (r : Fin 256) : v.read (Elt Ideal) (clearM v) (ix3 mi r 0) = ⊥ := by
  refine (View.read_writes_cons_unit_of_mem _ _ _ _ _ _ (ix3 mi r 0) rfl fun a => ?_).trans ?_
  · fin_cases a
    · show mi.val = 0 + mi.val; omega
    · show r.val = 0 + r.val; omega
    · rfl
  · pointwise [k1_pay32]
    exact IdealRules.named_const.ideal_named_scalar _ _ _ _ rfl

open Cert.AttnMath in
/-- One grid step's output tile: each row the normalised difference of its two weighted averages. -/
theorem tile_at (r e : Fin 256) (v : Fin 256 → ℕ → ℝ) (hv : ∀ e n, value x3 e n = (v e n : EReal))
    (htop : ∀ mi n, score x1 x2 x4 (i 2).val mi r n ≠ ⊤)
    (hreal : ∀ mi (k : ℕ), k ≤ (i 2).val → ∃ j : Fin 256, score x1 x2 x4 (i 2).val mi r (256 * k + j.val) ≠ ⊥) :
    out1_A_6 (F := Ideal) c i arg3 harg3 arg4 harg4 arg5 harg5 arg6 harg6 arg7 harg7 arg8 harg8 arg9 harg9 arg10 harg10 arg11 harg11 arg12 harg12 x0 x1 x2 x3 x4 x5 (ix2 r e) =
      normed (fun x => ((num (score x1 x2 x4 (i 2).val 0 r) (v x) (256 * ((i 2).val + 1)) / den (score x1 x2 x4 (i 2).val 0 r) (256 * ((i 2).val + 1)) : ℝ) : EReal)
        - lamOf x0 * ((num (score x1 x2 x4 (i 2).val 1 r) (v x) (256 * ((i 2).val + 1)) / den (score x1 x2 x4 (i 2).val 1 r) (256 * ((i 2).val + 1)) : ℝ) : EReal)) (fun x => x5 (ix2 0 x)) e := by
  have hden : ∀ mi, den (score x1 x2 x4 (i 2).val mi r) (256 * ((i 2).val + 1)) ≠ 0 := fun mi => by
    obtain ⟨j, hj⟩ := hreal mi 0 (Nat.zero_le _)
    exact (den_pos _ _ (256 * 0 + j.val) (by omega) hj (htop mi _)).ne'
  have avg0 : ∀ x : Fin 256, til0 arg10.view (endA c i arg3 harg3 arg4 harg4 arg5 harg5 arg6 harg6 arg7 harg7 arg8 harg8 arg9 harg9 arg10 harg10 arg11 harg11 arg12 harg12 x1 x2 x3 x4) (ix3 0 r x) * Ideal.div 1 (col0 arg12.view (endL c i arg3 harg3 arg4 harg4 arg5 harg5 arg6 harg6 arg7 harg7 arg8 harg8 arg9 harg9 arg10 harg10 arg11 harg11 arg12 harg12 x1 x2 x3 x4) (ix3 0 r 0)) =
      ((num (score x1 x2 x4 (i 2).val 0 r) (v x) (256 * ((i 2).val + 1)) / den (score x1 x2 x4 (i 2).val 0 r) (256 * ((i 2).val + 1)) : ℝ) : EReal) := fun x => by
    rw [til0_at, col0_at]
    have h := loop_carries0 c i arg3 harg3 arg4 harg4 arg5 harg5 arg6 harg6 arg7 harg7 arg8 harg8 arg9 harg9 arg10 harg10 arg11 harg11 arg12 harg12 (BitVec.ofNat 32 (i 2).val) (harg4.unread x1) (harg5.unread x2) (harg6.unread x3) (harg7.unread x4) (clearA arg10.view) (clearM arg11.view) (clearL arg12.view) r x (v x)
    rw [harg4.read_unread, harg5.read_unread, harg6.read_unread, harg7.read_unread] at h
    exact (h (hv x) (htop 0) (hreal 0) (cleared_m _ 0 r) (cleared_l _ 0 r) (cleared_a _ 0 r x) ((i 2).val + 1) le_rfl).average (by omega) (hden 0)
  have avg1 : ∀ x : Fin 256, til1 arg10.view (endA c i arg3 harg3 arg4 harg4 arg5 harg5 arg6 harg6 arg7 harg7 arg8 harg8 arg9 harg9 arg10 harg10 arg11 harg11 arg12 harg12 x1 x2 x3 x4) (ix3 0 r x) * Ideal.div 1 (col1 arg12.view (endL c i arg3 harg3 arg4 harg4 arg5 harg5 arg6 harg6 arg7 harg7 arg8 harg8 arg9 harg9 arg10 harg10 arg11 harg11 arg12 harg12 x1 x2 x3 x4) (ix3 0 r 0)) =
      ((num (score x1 x2 x4 (i 2).val 1 r) (v x) (256 * ((i 2).val + 1)) / den (score x1 x2 x4 (i 2).val 1 r) (256 * ((i 2).val + 1)) : ℝ) : EReal) := fun x => by
    rw [til1_at, col1_at]
    have h := loop_carries1 c i arg3 harg3 arg4 harg4 arg5 harg5 arg6 harg6 arg7 harg7 arg8 harg8 arg9 harg9 arg10 harg10 arg11 harg11 arg12 harg12 (BitVec.ofNat 32 (i 2).val) (harg4.unread x1) (harg5.unread x2) (harg6.unread x3) (harg7.unread x4) (clearA arg10.view) (clearM arg11.view) (clearL arg12.view) r x (v x)
    rw [harg4.read_unread, harg5.read_unread, harg6.read_unread, harg7.read_unread] at h
    exact (h (hv x) (htop 1) (hreal 1) (cleared_m _ 1 r) (cleared_l _ 1 r) (cleared_a _ 1 r x) ((i 2).val + 1) le_rfl).average (by omega) (hden 1)
  unfold out1_A_6
  rw [run_pieces]
  refine (View.read_writes_cons_unit_of_mem _ _ _ _ _ _ (ix2 r e) rfl fun a => ?_).trans ?_
  · fin_cases a
    · show r.val = 0 + r.val; omega
    · show e.val = 0 + e.val; omega
  rw [final_at]
  simp only [avg0, avg1]
  rw [View.readAt_eq_ld, View.readAt_eq_ld, harg3.read_unread, harg8.read_unread]
  rw [show View.ld x0 (Rect.unit (s := S4x128) ![0, 0] S4x128.size inb_S4x128_S4x128_0_0) = x0 from View.ld_unit_zero (funext fun a => by fin_cases a <;> rfl) _ _]
  rw [show View.ld x5 (Rect.unit (s := S1x256) ![0, 0] S1x256.size inb_S1x256_S1x256_0_0) = x5 from View.ld_unit_zero (funext fun a => by fin_cases a <;> rfl) _ _]
end Run
end Cert.AttnIdeal.Attend
end
-- ==== Proof.AttnBias.lean ====
module

public import proofs.«01_k».proof.Defs
public import proofs.«01_k».proof.Proof.Gen.AttnIdeal.Frame
public import Idealize.ShloMosaic.Lib.Pipeline.ValueKit
public import Idealize.ShloMosaic.Lib.Pipeline.ReadBack
public import Idealize.ShloMosaic.Lib.WritesUnit
public import proofs.«01_k».proof.Proof.AttnMath

@[expose] public section

set_option maxRecDepth 16384

noncomputable section

open Idealize.ShloMosaic Idealize.ShloMosaic.TcCoe Idealize.SL.Sem

namespace Cert.AttnIdeal.BiasTiles

open Idealize.ShloMosaic.Pipeline Cert.AttnIdeal Cert.AttnIdeal.Gen

/-- The bucket of a distance, as the kernel's table of first distances gives it. -/
def bucket (n : ℤ) : Fin 32 := if n < 1 then 0 else if n < 2 then 1 else if n < 3 then 2 else if n < 4 then 3 else if n < 5 then 4 else if n < 6 then 5 else if n < 7 then 6 else if n < 8 then 7 else if n < 9 then 8 else if n < 10 then 9 else if n < 11 then 10 else if n < 12 then 11 else if n < 13 then 12 else if n < 14 then 13 else if n < 15 then 14 else if n < 16 then 15 else if n < 22 then 16 else if n < 30 then 17 else if n < 40 then 18 else if n < 54 then 19 else if n < 73 then 20 else if n < 99 then 21 else if n < 134 then 22 else if n < 182 then 23 else if n < 246 then 24 else if n < 332 then 25 else if n < 450 then 26 else if n < 609 then 27 else if n < 825 then 28 else if n < 1117 then 29 else if n < 1513 then 30 else 31

theorem select_lt (w b : BitVec 32) (x y : EReal) : Scalar.select (IntOp.cmpi CmpIPredicate.slt w b) x y = if w.toInt < b.toInt then x else y := by
  by_cases h : w.toInt < b.toInt <;> simp [Scalar.select, IntOp.cmpi, BitVec.slt, h]
theorem select_ge (w b : BitVec 32) (x y : EReal) : Scalar.select (IntOp.cmpi CmpIPredicate.sge w b) x y = if b.toInt ≤ w.toInt then x else y := by
  by_cases h : b.toInt ≤ w.toInt <;> simp [Scalar.select, IntOp.cmpi, BitVec.sle, h]

theorem word_toInt (d r k : ℕ) (hd : d < 8) (hr : r < 256) (hk : k < 256) :
    (IntOp.subi (IntOp.addi (Scalar.muli (BitVec.ofNat 32 d) 256#32) (BitVec.ofNat 32 r)) (BitVec.ofNat 32 k)).toInt = 256 * (d : ℤ) + r - k := by
  show (BitVec.ofNat 32 d * 256#32 + BitVec.ofNat 32 r - BitVec.ofNat 32 k).toInt = _
  rw [BitVec.toInt_eq_toNat_bmod]
  simp only [BitVec.toNat_sub, BitVec.toNat_add, BitVec.toNat_mul, BitVec.toNat_ofNat, Int.bmod_def]
  omega

/-- One entry of a bias tile. -/
theorem bias_at (c : Dev nD) (i : grid0.Coords) (arg2 : Memref sig .tc .smem S32x24 .f32) (harg2 : arg2.IsWhole) (arg3 : Memref sig .tc .vmem S1x1x256x256 .f32) (harg3 : arg3.IsWhole) (x0 : Vec Ideal S32x24 .f32) (r k : Fin 256) :
    out0_A_1 (F := Ideal) c i arg2 harg2 arg3 harg3 x0 (ix4 0 0 r k) =
      if (0 : ℤ) ≤ 256 * ((i 1).val : ℤ) + r.val - k.val then x0 (ix2 (bucket (256 * ((i 1).val : ℤ) + r.val - k.val)) ⟨(i 0).val, Nat.lt_trans (i 0).isLt (by decide)⟩) else ⊥ := by
  frame_out
  pointwise [k0_pay1, k0_pay2, k0_pay3, k0_pay4, k0_pay5, k0_pay6, k0_pay7, k0_pay8]
  have hw := word_toInt (i 1).val r.val k.val (i 1).isLt r.isLt k.isLt
  generalize IntOp.subi (IntOp.addi (Scalar.muli (BitVec.ofNat 32 (i 1).val) 256#32) (BitVec.ofNat 32 r.val)) (BitVec.ofNat 32 k.val) = w at hw ⊢
  simp only [select_lt, select_ge, hw, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq]
  rw [show (Named.named (F := Ideal) κ "mask" (φ := .f32) 4048155338#32 : Ideal .f32) = ⊥ from IdealRules.named_const.ideal_named_scalar _ _ _ _ rfl]
  generalize 256 * ((i 1).val : ℤ) + r.val - k.val = n
  refine if_congr Iff.rfl ?_ rfl
  unfold bucket
  simp only [apply_ite (fun j : Fin 32 => x0 (ix2 j ⟨(i 0).val, Nat.lt_trans (i 0).isLt (by decide)⟩))]
  rfl
end Cert.AttnIdeal.BiasTiles
end
-- ==== Proof.AttnRun.lean ====
/- The differential attention: what a run of its two pipelines leaves in the result array. -/
module

public import proofs.«01_k».proof.Proof.Gen.AttnIdeal.Frame

@[expose] public section

set_option maxRecDepth 16384

noncomputable section

namespace Cert.AttnIdeal.Launched

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

set_option backward.isDefEq.respectTransparency.types false in
/-- Every run from zero counters ends with the result array at the contents that the last pipeline leaves
    and with the argument arrays as launched. -/
theorem ends : θ_run defs (onTc (τ := τ) (main (F := F))) ⟨m, fun _ => 0, ρ⟩ (fun r => ∀ c : Dev nD,
      r.2.mem ((c.tc : Thread nD τ).loc main_v7) = W3 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨h c _ (mem_uc main_v7 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.AttnIdeal.Launched

end
-- ==== Proof.AttnValue.lean ====
/- The differential attention: what the two pipelines leave, from the argument arrays. -/
module

public import proofs.«01_k».proof.Proof.AttnOut
public import proofs.«01_k».proof.Proof.AttnBias
public import proofs.«01_k».proof.Proof.AttnRun
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnIdeal.Attend

open Cert.AttnIdeal Cert.AttnIdeal.Gen Cert.AttnIdeal.BiasTiles Cert.AttnMath

variable (m : (ℓ : Loc nD τ sig) → Buf (Elt Ideal) ℓ) (ρ : Dev nD → PrngReg)
variable (V : (c : Dev nD) → (b : Ref sig .tc) → Buf (Elt Ideal) ((c : Thread nD τ).loc b))

/-- Where the blocks of the bias pipeline sit. -/
theorem place0 : ∀ t : Fin cfg0.N, win0_0.index t = ![0, 0] ∧ win0_1.index t = ![(grid0.coords t 0).val, (grid0.coords t 1).val, 0, 0] :=
  (by decide +kernel : ∀ t : Fin grid0.N, _)

/-- Where the blocks of the attention pipeline sit. -/
theorem place1 : ∀ t : Fin cfg1.N, win1_0.index t = ![0, 0] ∧ win1_1.index t = ![16 * (grid1.coords t 1).val + (grid1.coords t 2).val, (grid1.coords t 0).val]
    ∧ win1_2.index t = ![(grid1.coords t 1).val, 8 + (grid1.coords t 0).val] ∧ win1_3.index t = ![(grid1.coords t 1).val, 16 + (grid1.coords t 0).val]
    ∧ win1_4.index t = ![(grid1.coords t 0).val, 0, 0, 0] ∧ win1_5.index t = ![0, 0]
    ∧ win1_6.index t = ![16 * (grid1.coords t 1).val + (grid1.coords t 2).val, (grid1.coords t 0).val] :=
  (by decide +kernel : ∀ t : Fin grid1.N, _)

/-- The bias of head `h` at distance `n`: the table's entry at the distance's bucket, masked before zero. -/
def biasOf (T : FVec Ideal S32x24 .f32) (h : ℕ) (n : ℤ) : EReal := if 0 ≤ n then T (ix2 (bucket n) ⟨h % 24, by omega⟩) else ⊥

/-- The bias tiles. -/
def tiles (T : FVec Ideal S32x24 .f32) : FVec Ideal S8x8x256x256 .f32 := fun y => biasOf T (y 0).val (256 * ((y 1).val : ℤ) + (y 2).val - (y 3).val)

theorem biasOf_congr (T : FVec Ideal S32x24 .f32) {a b c d a' b' c' d' : ℕ} (ha : a = a') (hb : b = b') (hc : c = c') (hd : d = d') :
    biasOf T a (256 * (b : ℤ) + c - d) = biasOf T a' (256 * (b' : ℤ) + c' - d') := by
  subst ha hb hc hd
  rfl

/-- The bias pipeline leaves the tiles. -/
theorem tiles_eq (c : Dev nD) : (dat0 V c).arrAt 1 cfg0.N = tiles (V c main_arg6) := by
  refine (dat0 V c).arrAt_eq_of_covers 1 _ (by decide +kernel) fun t _ y => ?_
  blk_simp
  rw [after0_1]
  have key : ∀ z : S1x1x256x256.Idx, outsAt0 V c t z = tiles (V c main_arg6) ((win0_1.blk t).view.emb z) := by
    intro z
    obtain ⟨r, k, rfl⟩ : ∃ r k : Fin 256, z = ix4 (0 : Fin 1) (0 : Fin 1) r k := by
      refine ⟨z 2, z 3, ?_⟩
      funext a; fin_cases a
      · exact Subsingleton.elim (α := Fin 1) _ _
      · exact Subsingleton.elim (α := Fin 1) _ _
      · rfl
      · rfl
    unfold outsAt0
    refine (BiasTiles.bias_at _ _ _ _ _ _ _ (r : Fin 256) (k : Fin 256)).trans ?_
    have hr : r.val < 256 := r.isLt
    have hk : k.val < 256 := k.isLt
    have h0 : (grid0.coords t 0).val < 8 := (grid0.coords t 0).isLt
    have e1 : (((win0_1.blk t).view.emb (ix4 0 0 r k)) 1).val = (grid0.coords t 1).val := by blk_simp [place0 t]; rfl
    have e0 : (((win0_1.blk t).view.emb (ix4 0 0 r k)) 0).val = (grid0.coords t 0).val := by blk_simp [place0 t]; rfl
    have e2 : (((win0_1.blk t).view.emb (ix4 0 0 r k)) 2).val = r.val := by blk_simp [place0 t]
    have e3 : (((win0_1.blk t).view.emb (ix4 0 0 r k)) 3).val = k.val := by blk_simp [place0 t]
    refine Eq.trans ?_ (biasOf_congr (V c main_arg6) e0 e1 e2 e3).symm
    unfold biasOf
    refine if_congr Iff.rfl ?_ rfl
    generalize bucket _ = j
    have : iblk0 V c 0 t = V c main_arg6 := by blk_ext! [iblk0, place0 t]
    rw [this]
    exact congrArg (V c main_arg6) (congrArg (ix2 j) (Fin.ext (Nat.mod_eq_of_lt (by omega)).symm))
  exact key y

theorem q_at (c : Dev nD) (t : Fin cfg1.N) (r e : Fin 256) (hr) (he) : iblk1 V c 1 t (ix2 r e) = V c main_arg0 (ix2 ⟨256 * (16 * (grid1.coords t 1).val + (grid1.coords t 2).val) + r.val, hr⟩ ⟨256 * (grid1.coords t 0).val + e.val, he⟩) := by
  blk_ext [iblk1, place1 t]
theorem k_at (c : Dev nD) (t : Fin cfg1.N) (n : Fin 4096) (e : Fin 256) (hr) (he) : iblk1 V c 2 t (ix2 n e) = V c main_arg0 (ix2 ⟨4096 * (grid1.coords t 1).val + n.val, hr⟩ ⟨2048 + 256 * (grid1.coords t 0).val + e.val, he⟩) := by
  blk_ext [iblk1, place1 t]
theorem v_at (c : Dev nD) (t : Fin cfg1.N) (n : Fin 4096) (e : Fin 256) (hr) (he) : iblk1 V c 3 t (ix2 n e) = V c main_arg0 (ix2 ⟨4096 * (grid1.coords t 1).val + n.val, hr⟩ ⟨4096 + 256 * (grid1.coords t 0).val + e.val, he⟩) := by
  blk_ext [iblk1, place1 t]
theorem b_at (c : Dev nD) (t : Fin cfg1.N) (d : Fin 8) (r k : Fin 256) (hr) : iblk1 V c 4 t (ix4 0 d r k) = V c main_v0 (ix4 ⟨(grid1.coords t 0).val, hr⟩ d r k) := by
  blk_ext [iblk1, place1 t]
theorem lam_at (c : Dev nD) (t : Fin cfg1.N) : iblk1 V c 0 t = V c main_v5 := by
  blk_ext! [iblk1, place1 t]
theorem g_at (c : Dev nD) (t : Fin cfg1.N) : iblk1 V c 5 t = V c main_v6 := by
  blk_ext! [iblk1, place1 t]

/-- The attention pipeline starts from the bias tiles. -/
theorem entry_tiles (c : Dev nD) : V2 m ρ c main_v0 = tiles (m ((c : Thread nD τ).loc main_arg6)) :=
  (W2_of m ρ c main_v0 (by decide)).trans ((W1_arr m ρ c 1).trans (tiles_eq (V0 m ρ) c))
theorem entry_qkv (c : Dev nD) : V2 m ρ c main_arg0 = m ((c : Thread nD τ).loc main_arg0) := W2_args m ρ c main_arg0 (by decide)
theorem entry_g (c : Dev nD) (e : Fin 256) : V2 m ρ c main_v6 (ix2 0 e) = m ((c : Thread nD τ).loc main_arg5) (ix1 e) := by
  have h : V2 m ρ c main_v6 = shapeCast S1x256 (W1 m ρ c (Proc.devRef .tc main_arg5)) shapeCasts_S256_S1x256 := by
    show StableHlo.after hostOps1 (W1 m ρ c) (Proc.devRef .tc main_v6) = _
    after_results
    rfl
  rw [h, W1_args m ρ c main_arg5 (by decide)]
  pointwise []
theorem entry_stack (c : Dev nD) : V2 m ρ c main_v5 = concatenate S4x128 0
      [⟨S1x128, broadcastInDim S1x128 ![1] bcast_S128_S1x128_1 (m ((c : Thread nD τ).loc main_arg1))⟩, ⟨S1x128, broadcastInDim S1x128 ![1] bcast_S128_S1x128_1 (m ((c : Thread nD τ).loc main_arg2))⟩,
        ⟨S1x128, broadcastInDim S1x128 ![1] bcast_S128_S1x128_1 (m ((c : Thread nD τ).loc main_arg3))⟩, ⟨S1x128, broadcastInDim S1x128 ![1] bcast_S128_S1x128_1 (m ((c : Thread nD τ).loc main_arg4))⟩]
      concatenates_S1x128_S1x128_S1x128_S1x128_S4x128_d0 := by
  rw [← W1_args m ρ c main_arg1 (by decide), ← W1_args m ρ c main_arg2 (by decide), ← W1_args m ρ c main_arg3 (by decide), ← W1_args m ρ c main_arg4 (by decide)]
  show StableHlo.after hostOps1 (W1 m ρ c) (Proc.devRef .tc main_v5) = _
  after_results
  rfl

/-- The second map's weight, from the four parameter rows. -/
def lamBy (a b c d : FVec Ideal S128 .f32) : EReal :=
  Ideal.exp (∑ x : Fin 128, a (ix1 x) * b (ix1 x)) - Ideal.exp (∑ x : Fin 128, c (ix1 x) * d (ix1 x)) + Ideal.ofBits FTy.f32 1045220557#32

theorem entry_lam (c : Dev nD) : lamOf (V2 m ρ c main_v5) = lamBy (m ((c : Thread nD τ).loc main_arg1)) (m ((c : Thread nD τ).loc main_arg2)) (m ((c : Thread nD τ).loc main_arg3)) (m ((c : Thread nD τ).loc main_arg4)) := by
  rw [entry_stack]
  unfold lamOf lamBy
  pointwise []

/-- The joint projection's entry at a row and a column. -/
def at2 (X : FVec Ideal S8192x12288 .bf16) (r c : ℕ) : EReal := X (ix2 ⟨r % 8192, by omega⟩ ⟨c % 12288, by omega⟩)

theorem at2_eq (X : FVec Ideal S8192x12288 .bf16) (r c : ℕ) (hr : r < 8192) (hc : c < 12288) : X (ix2 ⟨r, hr⟩ ⟨c, hc⟩) = at2 X r c := by
  unfold at2
  congr 2 <;> exact Fin.ext (Nat.mod_eq_of_lt (by assumption)).symm

/-- The logit of key `n` for query `q`: batch entry `b`, head `h`, map `mi`; masked past the query. -/
def logit (X : FVec Ideal S8192x12288 .bf16) (T : FVec Ideal S32x24 .f32) (b h mi q n : ℕ) : EReal :=
  (∑ x : Fin 128, at2 X (4096 * b + q) (256 * h + 128 * mi + x.val) * at2 X (4096 * b + n) (2048 + 256 * h + 128 * mi + x.val)) * scale
    + biasOf T h ((q : ℤ) - n)

/-- The average of the values under the logits' softmax. -/
def avg (X : FVec Ideal S8192x12288 .bf16) (T : FVec Ideal S32x24 .f32) (b h mi q e : ℕ) : ℝ :=
  (∑ n : Fin 4096, wt (logit X T b h mi q n.val) * (at2 X (4096 * b + n.val) (4096 + 256 * h + e)).toReal) / ∑ n : Fin 4096, wt (logit X T b h mi q n.val)

/-- The attention's entry at row `r`, column `c` of the differential heads. -/
def attended (X : FVec Ideal S8192x12288 .bf16) (T : FVec Ideal S32x24 .f32) (lam : EReal) (g : FVec Ideal S256 .f32) (r c : ℕ) : EReal :=
  normed (fun x => (avg X T (r / 4096) (c / 256) 0 (r % 4096) x.val : EReal) - lam * (avg X T (r / 4096) (c / 256) 1 (r % 4096) x.val : EReal))
    (fun x => g (ix1 x)) ⟨c % 256, by omega⟩

/-- Every entry is a real number. -/
def Finite {s : Shape} {φ : FTy} (X : FVec Ideal s φ) : Prop := ∀ i, ∃ a : ℝ, X i = (a : EReal)

theorem scale_real : ∃ a : ℝ, scale = (a : EReal) := by
  unfold scale
  simp [Ideal.ofBits, Ideal.ieee]
  exact ⟨_, rfl⟩

theorem dot_real {ι : Type*} (S : Finset ι) (f g : ι → EReal) (hf : ∀ i, ∃ a : ℝ, f i = (a : EReal)) (hg : ∀ i, ∃ a : ℝ, g i = (a : EReal)) :
    ∃ a : ℝ, (∑ i ∈ S, f i * g i) * scale = (a : EReal) := by
  choose f' hf using hf
  choose g' hg using hg
  obtain ⟨s, hs⟩ := scale_real
  refine ⟨(∑ i ∈ S, f' i * g' i) * s, ?_⟩
  rw [hs, EReal.coe_mul, coe_sum]
  simp only [hf, hg, EReal.coe_mul]

theorem bucket_far (n : ℤ) (h : 1513 ≤ n) : bucket n = 31 := by
  unfold bucket
  repeat rw [if_neg (by omega)]

theorem biasOf_ne_top {T : FVec Ideal S32x24 .f32} (hT : Finite T) (h : ℕ) (n : ℤ) : biasOf T h n ≠ ⊤ := by
  unfold biasOf
  split
  · obtain ⟨a, ha⟩ := hT (ix2 (bucket n) ⟨h % 24, by omega⟩)
    rw [ha]; exact EReal.coe_ne_top _
  · exact bot_ne_top

theorem logit_masked (X : FVec Ideal S8192x12288 .bf16) (T : FVec Ideal S32x24 .f32) (b h mi q n : ℕ) (hn : q < n) : logit X T b h mi q n = ⊥ := by
  unfold logit biasOf
  rw [if_neg (by omega), EReal.add_bot]

theorem logit_real {X : FVec Ideal S8192x12288 .bf16} {T : FVec Ideal S32x24 .f32} (hX : Finite X) (hT : Finite T) (b h mi q n : ℕ) (hn : n ≤ q) : ∃ a : ℝ, logit X T b h mi q n = (a : EReal) := by
  unfold logit biasOf
  obtain ⟨a, ha⟩ := dot_real Finset.univ (fun x : Fin 128 => at2 X (4096 * b + q) (256 * h + 128 * mi + x.val)) (fun x : Fin 128 => at2 X (4096 * b + n) (2048 + 256 * h + 128 * mi + x.val)) (fun _ => hX _) (fun _ => hX _)
  obtain ⟨d, hd⟩ := hT (ix2 (bucket ((q : ℤ) - n)) ⟨h % 24, by omega⟩)
  rw [if_pos (by omega), ha, hd]
  exact ⟨a + d, (EReal.coe_add a d).symm⟩

theorem logit_ne_top {X : FVec Ideal S8192x12288 .bf16} {T : FVec Ideal S32x24 .f32} (hX : Finite X) (hT : Finite T) (b h mi q n : ℕ) : logit X T b h mi q n ≠ ⊤ := by
  rcases Nat.lt_or_ge q n with hn | hn
  · rw [logit_masked X T b h mi q n hn]; exact bot_ne_top
  · obtain ⟨a, ha⟩ := logit_real hX hT b h mi q n hn
    rw [ha]; exact EReal.coe_ne_top _

/-- The joint projection. -/
abbrev argX (m : (ℓ : Loc nD τ sig) → Buf (Elt Ideal) ℓ) (c : Dev nD) : FVec Ideal S8192x12288 .bf16 := m ((c : Thread nD τ).loc main_arg0)
/-- The bias table. -/
abbrev argT (m : (ℓ : Loc nD τ sig) → Buf (Elt Ideal) ℓ) (c : Dev nD) : FVec Ideal S32x24 .f32 := m ((c : Thread nD τ).loc main_arg6)
/-- The gain of the heads' norm. -/
abbrev argG (m : (ℓ : Loc nD τ sig) → Buf (Elt Ideal) ℓ) (c : Dev nD) : FVec Ideal S256 .f32 := m ((c : Thread nD τ).loc main_arg5)
/-- The second map's weight. -/
abbrev argLam (m : (ℓ : Loc nD τ sig) → Buf (Elt Ideal) ℓ) (c : Dev nD) : EReal :=
  lamBy (m ((c : Thread nD τ).loc main_arg1)) (m ((c : Thread nD τ).loc main_arg2)) (m ((c : Thread nD τ).loc main_arg3)) (m ((c : Thread nD τ).loc main_arg4))

section Tile
variable {m ρ}
variable (c : Dev nD) (t : Fin cfg1.N)

abbrev hd : ℕ := (grid1.coords t 0).val
abbrev bt : ℕ := (grid1.coords t 1).val
abbrev qb : ℕ := (grid1.coords t 2).val
theorem hd_lt : hd t < 8 := (grid1.coords t 0).isLt
theorem bt_lt : bt t < 2 := (grid1.coords t 1).isLt
theorem qb_lt : qb t < 16 := (grid1.coords t 2).isLt

/-- A tile entry as the loop reads it is the bias at the distance, for the keys the loop visits. -/
theorem tile_bias (T : FVec Ideal S32x24 .f32) (h : ℕ) (b r n : ℕ) (hr : r < 256) (hn : n < 256 * (b + 1)) :
    biasOf T h (256 * ((min (b - n / 256) 7 : ℕ) : ℤ) + r - ((n % 256 : ℕ) : ℤ)) = biasOf T h (((256 * b + r : ℕ) : ℤ) - n) := by
  by_cases h7 : b - n / 256 ≤ 7
  · congr 1; omega
  · unfold biasOf
    rw [bucket_far _ (by omega), bucket_far _ (by omega), if_pos (by omega), if_pos (by omega)]

/-- A step's scores over its blocks are the logits, for the keys the loop visits; none is plus infinity. -/
theorem score_eq (mi : Fin 2) (r : Fin 256) (n : ℕ) :
    score (iblk1 (V2 m ρ) c 1 t) (iblk1 (V2 m ρ) c 2 t) (iblk1 (V2 m ρ) c 4 t) (qb t) mi r n =
      (∑ x : Fin 128, at2 (argX m c) (4096 * bt t + (256 * qb t + r.val)) (256 * hd t + 128 * mi.val + x.val)
          * at2 (argX m c) (4096 * bt t + n % 4096) (2048 + 256 * hd t + 128 * mi.val + x.val)) * scale
        + biasOf (argT m c) (hd t) (256 * ((min (qb t - n / 256) 7 : ℕ) : ℤ) + r.val - ((n % 256 : ℕ) : ℤ)) := by
  have h0 := hd_lt t
  have h1 := bt_lt t
  have h2 := qb_lt t
  unfold score
  rw [b_at _ c t _ _ _ h0, entry_tiles]
  refine congrArg₂ _ (congrArg (· * scale) (Finset.sum_congr rfl fun x _ => ?_)) rfl
  rw [q_at _ c t _ _ (by unfold hd bt qb at *; have := r.isLt; omega) (by unfold hd bt qb at *; show _ + (128 * mi.val + x.val) < _; omega),
    k_at _ c t _ _ (by unfold hd bt qb at *; show _ + n % 4096 < _; omega) (by unfold hd bt qb at *; show _ + (128 * mi.val + x.val) < _; omega), entry_qkv]
  exact congrArg₂ _ ((at2_eq (argX m c) _ _ _ _).trans (congrArg₂ (at2 _) (by unfold bt qb; omega) (by unfold hd; show _ + (128 * mi.val + x.val) = _; omega)))
    ((at2_eq (argX m c) _ _ _ _).trans (congrArg₂ (at2 _) rfl (by unfold hd; show _ + (128 * mi.val + x.val) = _; omega)))

theorem score_ne_top (hX : Finite (argX m c)) (hT : Finite (argT m c)) (mi : Fin 2) (r : Fin 256) (n : ℕ) :
    score (iblk1 (V2 m ρ) c 1 t) (iblk1 (V2 m ρ) c 2 t) (iblk1 (V2 m ρ) c 4 t) (qb t) mi r n ≠ ⊤ := by
  rw [score_eq]
  obtain ⟨a, ha⟩ := dot_real Finset.univ
    (fun x : Fin 128 => at2 (argX m c) (4096 * bt t + (256 * qb t + r.val)) (256 * hd t + 128 * mi.val + x.val))
    (fun x : Fin 128 => at2 (argX m c) (4096 * bt t + n % 4096) (2048 + 256 * hd t + 128 * mi.val + x.val)) (fun _ => hX _) (fun _ => hX _)
  rw [ha]
  exact EReal.add_ne_top (EReal.coe_ne_top _) (biasOf_ne_top hT _ _)

/-- For a key the loop visits the score is the logit. -/
theorem score_logit (mi : Fin 2) (r : Fin 256) (n : ℕ) (hn : n < 256 * (qb t + 1)) :
    score (iblk1 (V2 m ρ) c 1 t) (iblk1 (V2 m ρ) c 2 t) (iblk1 (V2 m ρ) c 4 t) (qb t) mi r n =
      logit (argX m c) (argT m c) (bt t) (hd t) mi.val (256 * qb t + r.val) n := by
  have h2 := qb_lt t
  rw [score_eq, tile_bias _ _ _ _ _ r.isLt hn]
  unfold logit
  rw [Nat.mod_eq_of_lt (show n < 4096 by omega)]

/-- A sum over the visited keys is the sum over all keys, the others being masked. -/
theorem visited_sum (X : FVec Ideal S8192x12288 .bf16) (T : FVec Ideal S32x24 .f32) (b h mi i : ℕ) (r : Fin 256) (N : ℕ) (hi : 256 * (i + 1) ≤ N) (s : ℕ → EReal)
    (hs : ∀ n, n < 256 * (i + 1) → s n = logit X T b h mi (256 * i + r.val) n) (w : ℕ → ℝ) :
    ∑ n ∈ Finset.range (256 * (i + 1)), wt (s n) * w n = ∑ n : Fin N, wt (logit X T b h mi (256 * i + r.val) n.val) * w n.val := by
  have e : ∑ n ∈ Finset.range (256 * (i + 1)), wt (s n) * w n = ∑ n ∈ Finset.range (256 * (i + 1)), wt (logit X T b h mi (256 * i + r.val) n) * w n :=
    Finset.sum_congr rfl fun n hn => by rw [hs n (Finset.mem_range.mp hn)]
  rw [e, ← Finset.sum_range (fun n => wt (logit X T b h mi (256 * i + r.val) n) * w n)]
  refine Finset.sum_subset (Finset.range_subset_range.mpr hi) fun n _ hn => ?_
  have := r.isLt
  rw [logit_masked _ _ _ _ _ _ _ (by simp only [Finset.mem_range] at hn; omega)]
  have : wt ⊥ = 0 := by unfold wt; rw [Ideal.exp_bot]; rfl
  rw [this, zero_mul]

theorem visited_avg (X : FVec Ideal S8192x12288 .bf16) (T : FVec Ideal S32x24 .f32) (b h mi i e : ℕ) (r : Fin 256) (hi : i < 16) (s : ℕ → EReal)
    (hs : ∀ n, n < 256 * (i + 1) → s n = logit X T b h mi (256 * i + r.val) n) :
    num s (fun n => (at2 X (4096 * b + n % 4096) (4096 + 256 * h + e)).toReal) (256 * (i + 1)) / den s (256 * (i + 1)) = avg X T b h mi (256 * i + r.val) e := by
  unfold avg num den
  have hd := visited_sum X T b h mi i r 4096 (by omega) s hs fun _ => 1
  simp only [mul_one] at hd
  rw [hd, visited_sum X T b h mi i r 4096 (by omega) s hs]
  refine congrArg (· / _) (Finset.sum_congr rfl fun n _ => ?_)
  rw [Nat.mod_eq_of_lt n.isLt]

theorem at2_real {X : FVec Ideal S8192x12288 .bf16} (hX : Finite X) (r c : ℕ) : ∃ a : ℝ, at2 X r c = (a : EReal) := hX _

attribute [local irreducible] avg normed logit at2

/-- A step of the attention launch writes the attention's entries. -/
theorem tile_attended (hX : Finite (argX m c)) (hT : Finite (argT m c)) (r e : Fin 256) :
    outsAt1 (V2 m ρ) c t (ix2 r e) = attended (argX m c) (argT m c)
      (argLam m c)
      (argG m c) (4096 * bt t + 256 * qb t + r.val) (256 * hd t + e.val) := by
  have h0 := hd_lt t
  have h1 := bt_lt t
  have h2 := qb_lt t
  have hr := r.isLt
  have he := e.isLt
  unfold outsAt1
  rw [tile_at c (grid1.coords t) _ _ _ _ _ _ _ _ _ _ _ _ _ _ _ _ _ _ _ _ _ _ _ _ _ _ r e
    (fun x n => (at2 (argX m c) (4096 * bt t + n % 4096) (4096 + 256 * hd t + x.val)).toReal) ?_ ?_ ?_]
  · rw [lam_at, g_at, entry_lam]
    unfold attended
    have e1 : (4096 * bt t + 256 * qb t + r.val) / 4096 = bt t := by omega
    have e2 : (4096 * bt t + 256 * qb t + r.val) % 4096 = 256 * qb t + r.val := by omega
    have e3 : (256 * hd t + e.val) / 256 = hd t := by omega
    have e4 : (⟨(256 * hd t + e.val) % 256, by omega⟩ : Fin 256) = e := Fin.ext (by show _ % 256 = _; omega)
    rw [e1, e2, e3, e4]
    congr 1
    · funext x
      rw [visited_avg _ _ _ _ 0 _ _ r h2 _ fun n hn => score_logit c t 0 r n hn, visited_avg _ _ _ _ 1 _ _ r h2 _ fun n hn => score_logit c t 1 r n hn]
    · funext x
      exact entry_g m ρ c x
  · intro x n
    unfold value
    have hx := x.isLt
    rw [v_at _ c t _ _ (by unfold bt at *; show _ + n % 4096 < _; omega) (by unfold hd at *; omega), entry_qkv]
    refine (at2_eq (argX m c) _ _ _ _).trans ?_
    refine Eq.trans ?_ (b := at2 (argX m c) (4096 * bt t + n % 4096) (4096 + 256 * hd t + x.val)) ?_
    · exact congrArg₂ (at2 _) rfl (by unfold hd; omega)
    · obtain ⟨a, ha⟩ := at2_real hX (4096 * bt t + n % 4096) (4096 + 256 * hd t + x.val)
      rw [ha, EReal.toReal_coe]
  · exact fun mi n => score_ne_top c t hX hT mi r n
  · intro mi k hk
    refine ⟨0, ?_⟩
    have hk' : k ≤ qb t := hk
    have := score_logit (m := m) (ρ := ρ) c t mi r (256 * k + (0 : Fin 256).val) (by show 256 * k + 0 < _; omega)
    obtain ⟨a, ha⟩ := logit_real hX hT (bt t) (hd t) mi.val (256 * qb t + r.val) (256 * k + (0 : Fin 256).val) (by show 256 * k + 0 ≤ _; omega)
    exact fun h => EReal.coe_ne_bot a (ha.symm.trans (this.symm.trans h))

end Tile

/-- The kernel's result at a column of the differential heads. -/
theorem result_at (hX : ∀ c : Dev nD, Finite (argX m c)) (hT : ∀ c : Dev nD, Finite (argT m c))
    (c : Dev nD) (r : Fin 8192) (e : Fin 4096) (he : e.val < 2048) :
    W3 m ρ c (Proc.devRef .tc main_v7) (ix2 r e) = attended (argX m c) (argT m c)
      (argLam m c)
      (argG m c) r.val e.val := by
  have h := (dat1 (V2 m ρ) c).arrAt_apply_of_coversWhere 6
    (fun i : S8192x4096.Idx => attended (argX m c) (argT m c)
      (argLam m c)
      (argG m c) (i 0).val (i 1).val)
    (P := fun i : S8192x4096.Idx => (i 1).val < 2048) (fun β => β 1 < 8) (by decide +kernel)
    (fun t _ y => by
      have hy : ∀ z : S256x256.Idx, outsAt1 (V2 m ρ) c t z = attended (argX m c) (argT m c) (argLam m c) (argG m c) (4096 * bt t + 256 * qb t + (z 0).val) (256 * hd t + (z 1).val) := by
        intro z
        rw [eq_ix2 z]
        exact tile_attended c t (hX c) (hT c) (z 0) (z 1)
      blk_simp
      rw [after1_6]
      refine (hy _).trans ?_
      refine congrArg₂ (attended (argX m c) (argT m c) (argLam m c) (argG m c)) ?_ ?_
      · show _ = win1_6.index t 0 * 256 + (y 0).val
        rw [(place1 t).2.2.2.2.2.2]
        show 4096 * (grid1.coords t 1).val + 256 * (grid1.coords t 2).val + (y 0).val = (16 * (grid1.coords t 1).val + (grid1.coords t 2).val) * 256 + (y 0).val
        omega
      · show _ = win1_6.index t 1 * 256 + (y 1).val
        rw [(place1 t).2.2.2.2.2.2]
        show 256 * (grid1.coords t 0).val + (y 1).val = (grid1.coords t 0).val * 256 + (y 1).val
        omega) (fun j => by blk_simp [Pipeline.Window.cell_apply]; omega) (ix2 r e)
  rw [W3_arr m ρ c 6]
  exact h.trans (if_pos he)
end Cert.AttnIdeal.Attend
-- ==== Proof.AttnBucket.lean ====
/- The bias buckets as the reference computes them, by a logarithm, are those that the kernel tests for. -/
module

public import proofs.«01_k».proof.Proof.AttnBias
public import proofs.«01_k».proof.Proof.AttnMath

@[expose] public section

set_option maxRecDepth 16384

noncomputable section

open Idealize.ShloMosaic

namespace Cert.AttnBuckets

open Cert.AttnIdeal.BiasTiles (bucket select_lt)

/-- The logarithm of 128 as the reference rounds it. -/
def span : ℝ := 10175445 / 2097152

theorem span_pos : 0 < span := by unfold span; norm_num

theorem span_bits : Ideal.ofBits FTy.f32 1083917269#32 = ((span : ℝ) : EReal) := by
  unfold span
  simp [Ideal.ofBits, Ideal.ieee]
  rw [← EReal.coe_mul]
  congr 1
  norm_num

theorem sixteen_bits : Ideal.ofBits FTy.f32 1098907648#32 = ((16 : ℝ) : EReal) := by
  simp [Ideal.ofBits, Ideal.ieee]
  rw [← EReal.coe_mul]
  congr 1
  norm_num

/-- The logarithm of two between nine-digit bounds, from the first terms of its series. -/
theorem log_two_bounds : 0.6931471803 < Real.log 2 ∧ Real.log 2 < 0.6931471808 := by
  have h1 := Real.exp_bound (show |(0.6931471803 : ℝ)| ≤ 1 by rw [abs_of_pos] <;> norm_num) (n := 14) (by norm_num)
  have h2 := Real.exp_bound (show |(0.6931471808 : ℝ)| ≤ 1 by rw [abs_of_pos] <;> norm_num) (n := 14) (by norm_num)
  rw [abs_le, abs_of_pos (show (0 : ℝ) < 0.6931471803 by norm_num)] at h1
  rw [abs_le, abs_of_pos (show (0 : ℝ) < 0.6931471808 by norm_num)] at h2
  obtain ⟨_, h1⟩ := h1
  obtain ⟨h2, _⟩ := h2
  simp only [Finset.sum_range_succ, Finset.sum_range_zero, Nat.factorial] at h1 h2
  refine ⟨(Real.lt_log_iff_exp_lt (by norm_num)).mpr ?_, (Real.log_lt_iff_lt_exp (by norm_num)).mpr ?_⟩
  · generalize Real.exp 0.6931471803 = e at h1 ⊢
    norm_num at h1
    linarith
  · generalize Real.exp 0.6931471808 = e at h2 ⊢
    norm_num at h2
    linarith

/-- The bucket of a distance before it is cut to a whole number, from 16. -/
def place (d : ℕ) : ℝ := Real.log (d / 16) / span * 16

theorem log_sixteenth (d : ℕ) (hd : 16 ≤ d) : Real.log ((d : ℝ) / 16) = Real.log d - 4 * Real.log 2 := by
  have h : (0 : ℝ) < d := by exact_mod_cast (by omega : 0 < d)
  rw [Real.log_div h.ne' (by norm_num), show (16 : ℝ) = 2 ^ 4 by norm_num, Real.log_pow]
  norm_num

theorem place_lt (d k : ℕ) (hd : 16 ≤ d) (h : d ^ 16 < 2 ^ (64 + 7 * k)) : place d < k := by
  have hp : (0 : ℝ) < d := by exact_mod_cast (by omega : 0 < d)
  have h1 : Real.log ((d : ℝ) ^ 16) < Real.log ((2 : ℝ) ^ (64 + 7 * k)) := Real.log_lt_log (by positivity) (by exact_mod_cast h)
  rw [Real.log_pow, Real.log_pow] at h1
  push_cast at h1
  have h2 : (k : ℝ) * (7 * Real.log 2) ≤ k * span := mul_le_mul_of_nonneg_left (by have := log_two_bounds.2; unfold span; linarith) (Nat.cast_nonneg k)
  unfold place
  rw [log_sixteenth d hd, div_mul_eq_mul_div, div_lt_iff₀ span_pos]
  linarith

theorem le_place (d k : ℕ) (hd : 16 ≤ d) (hk : k ≤ 15) (h : 2 ^ (64 + 7 * k) * 1000001 ≤ d ^ 16 * 1000000) : (k : ℝ) ≤ place d := by
  have hp : (0 : ℝ) < d := by exact_mod_cast (by omega : 0 < d)
  have h1 : Real.log ((2 : ℝ) ^ (64 + 7 * k) * (1000001 / 1000000)) ≤ Real.log ((d : ℝ) ^ 16) := by
    refine Real.log_le_log (by positivity) ?_
    have : ((2 : ℝ) ^ (64 + 7 * k) * 1000001) ≤ (d : ℝ) ^ 16 * 1000000 := by exact_mod_cast h
    linarith
  have h3 := Real.one_sub_inv_le_log_of_pos (show (0 : ℝ) < 1000001 / 1000000 by norm_num)
  rw [Real.log_mul (by positivity) (by norm_num), Real.log_pow, Real.log_pow] at h1
  push_cast at h1
  have hk' : (k : ℝ) ≤ 15 := by exact_mod_cast hk
  have h2 : (k : ℝ) * span ≤ k * (7 * Real.log 2 + 2 / 100000000) := mul_le_mul_of_nonneg_left (by have := log_two_bounds.1; unfold span; linarith) (Nat.cast_nonneg k)
  norm_num at h3
  unfold place
  rw [log_sixteenth d hd, div_mul_eq_mul_div, le_div_iff₀ span_pos]
  linarith

theorem place_nonneg (d : ℕ) (hd : 16 ≤ d) : 0 ≤ place d := by
  have h16 : (16 : ℝ) ≤ d := by exact_mod_cast hd
  have : 0 ≤ Real.log ((d : ℝ) / 16) := Real.log_nonneg (by rw [le_div_iff₀ (by norm_num)]; linarith)
  unfold place span
  positivity

/-- The whole part of the place, on both sides of each bound. -/
theorem floor_place (d : ℕ) (hd : 16 ≤ d) (hd' : d < 4096) (k B : ℕ) (hk : k ≤ 15) (hB : 2 ^ (64 + 7 * k) * 1000001 ≤ B ^ 16 * 1000000)
    (hB' : (B - 1) ^ 16 < 2 ^ (64 + 7 * k)) : (B ≤ d → k ≤ ⌊place d⌋₊) ∧ (d < B → ⌊place d⌋₊ < k) := by
  refine ⟨fun h => Nat.le_floor (le_place d k hd hk (hB.trans (Nat.mul_le_mul_right _ (Nat.pow_le_pow_left h 16)))), fun h => ?_⟩
  exact (Nat.floor_lt (place_nonneg d hd)).mpr (place_lt d k hd (lt_of_le_of_lt (Nat.pow_le_pow_left (by omega) 16) hB'))

theorem floor_le (d : ℕ) (hd : 16 ≤ d) (hd' : d < 4096) : ⌊place d⌋₊ < 20 :=
  (Nat.floor_lt (place_nonneg d hd)).mpr (place_lt d 20 hd (lt_of_le_of_lt (Nat.pow_le_pow_left (show d ≤ 4095 by omega) 16) (by norm_num)))

theorem bucket_floor (d : ℕ) (hd : 16 ≤ d) (hd' : d < 4096) : (bucket (d : ℤ)).val = min (16 + ⌊place d⌋₊) 31 := by
  have h1 := floor_place d hd hd' 1 22 (by norm_num) (by norm_num) (by norm_num)
  have h2 := floor_place d hd hd' 2 30 (by norm_num) (by norm_num) (by norm_num)
  have h3 := floor_place d hd hd' 3 40 (by norm_num) (by norm_num) (by norm_num)
  have h4 := floor_place d hd hd' 4 54 (by norm_num) (by norm_num) (by norm_num)
  have h5 := floor_place d hd hd' 5 73 (by norm_num) (by norm_num) (by norm_num)
  have h6 := floor_place d hd hd' 6 99 (by norm_num) (by norm_num) (by norm_num)
  have h7 := floor_place d hd hd' 7 134 (by norm_num) (by norm_num) (by norm_num)
  have h8 := floor_place d hd hd' 8 182 (by norm_num) (by norm_num) (by norm_num)
  have h9 := floor_place d hd hd' 9 246 (by norm_num) (by norm_num) (by norm_num)
  have h10 := floor_place d hd hd' 10 332 (by norm_num) (by norm_num) (by norm_num)
  have h11 := floor_place d hd hd' 11 450 (by norm_num) (by norm_num) (by norm_num)
  have h12 := floor_place d hd hd' 12 609 (by norm_num) (by norm_num) (by norm_num)
  have h13 := floor_place d hd hd' 13 825 (by norm_num) (by norm_num) (by norm_num)
  have h14 := floor_place d hd hd' 14 1117 (by norm_num) (by norm_num) (by norm_num)
  have h15 := floor_place d hd hd' 15 1513 (by norm_num) (by norm_num) (by norm_num)
  have hj := floor_le d hd hd'
  generalize ⌊place d⌋₊ = j at h1 h2 h3 h4 h5 h6 h7 h8 h9 h10 h11 h12 h13 h14 h15 hj ⊢
  interval_cases j <;> simp only [Nat.reduceLeDiff, Nat.reduceLT, imp_false, imp_true_iff, and_true, true_and, not_lt, not_le, Nat.lt_irrefl, le_refl] at h1 h2 h3 h4 h5 h6 h7 h8 h9 h10 h11 h12 h13 h14 h15 <;>
    · unfold bucket
      repeat rw [if_neg (by omega)]
      first
        | rfl
        | (rw [if_pos (by omega)]; rfl)

theorem small_bucket : ∀ d : Fin 16, BitVec.ofNat 32 d.val = BitVec.ofNat 32 (bucket (d.val : ℤ)).val := by decide

theorem cut_word : ∀ j : Fin 20, IntOp.minsi (IntOp.addi (16#32) (BitVec.ofInt 32 (j.val : ℤ))) 31#32 = BitVec.ofNat 32 (min (16 + j.val) 31) := by decide

theorem word_toInt (d : ℕ) (hd : d < 4096) : (BitVec.ofNat 32 d).toInt = d := by
  rw [BitVec.toInt_eq_toNat_bmod]
  simp only [BitVec.toNat_ofNat, Int.bmod_def]
  omega

theorem word_max (d : ℕ) (hd : 16 ≤ d) (hd' : d < 4096) : IntOp.maxsi (BitVec.ofNat 32 d) 16#32 = BitVec.ofNat 32 d := by
  unfold IntOp.maxsi
  rcases Nat.eq_or_lt_of_le hd with h | h
  · subst h
    decide
  · have h16 : (16#32).toInt = 16 := by decide
    rw [if_pos]
    simp only [BitVec.slt, word_toInt d hd', h16, decide_eq_true_eq]
    omega

theorem select_slt {α : Type} (w b : BitVec 32) (x y : α) : Scalar.select (IntOp.cmpi CmpIPredicate.slt w b) x y = if w.toInt < b.toInt then x else y := by
  by_cases h : w.toInt < b.toInt <;> simp [Scalar.select, IntOp.cmpi, BitVec.slt, h]

/-- The bucket of a distance, as the reference computes its word. -/
theorem word_bucket (d : ℕ) (hd : d < 4096) :
    Scalar.select (IntOp.cmpi CmpIPredicate.slt (BitVec.ofNat 32 d) 16#32) (BitVec.ofNat 32 d)
      (IntOp.minsi
        (IntOp.addi (16#32)
          (FloatOps.fptosi (F := Ideal) (φ := .f32) 32
            (Ideal.div
                (Ideal.log
                  (Ideal.div (FloatOps.sitofp (F := Ideal) FTy.f32 (IntOp.maxsi (BitVec.ofNat 32 d) 16#32))
                    (Ideal.ofBits FTy.f32 1098907648#32)))
                (Ideal.ofBits FTy.f32 1083917269#32) *
              Ideal.ofBits FTy.f32 1098907648#32)))
        31#32) =
    BitVec.ofNat 32 (bucket (d : ℤ)).val := by
  have h16 : (16#32).toInt = 16 := by decide
  rcases Nat.lt_or_ge d 16 with h | h
  · rw [select_slt, word_toInt d hd, h16, if_pos (by omega)]
    exact small_bucket ⟨d, h⟩
  · rw [select_slt, word_toInt d hd, h16, if_neg (by omega), word_max d h hd, span_bits, sixteen_bits]
    have e1 : FloatOps.sitofp (F := Ideal) FTy.f32 (BitVec.ofNat 32 d) = (((d : ℝ)) : EReal) := by
      show (((BitVec.ofNat 32 d).toInt : ℝ) : EReal) = _
      rw [word_toInt d hd]
      norm_cast
    have hpos : (0 : ℝ) < d / 16 := by
      have : (0 : ℝ) < d := by exact_mod_cast (by omega : 0 < d)
      positivity
    rw [e1, Cert.AttnMath.div_real _ _ (by norm_num), Ideal.log_coe, if_neg (not_le.mpr hpos), Cert.AttnMath.div_real _ _ span_pos.ne', ← EReal.coe_mul]
    have hf := floor_le d h hd
    have e2 : FloatOps.fptosi (F := Ideal) (φ := .f32) 32 ((Real.log ((d : ℝ) / 16) / span * 16 : ℝ) : EReal) = BitVec.ofInt 32 ((⌊place d⌋₊ : ℕ) : ℤ) := by
      show Ideal.fptosi 32 ((place d : ℝ) : EReal) = _
      unfold Ideal.fptosi
      rw [Ideal.toIntClamped_coe, if_pos (place_nonneg d h)]
      have : ⌊place d⌋ = ((⌊place d⌋₊ : ℕ) : ℤ) := (Int.natCast_floor_eq_floor (place_nonneg d h)).symm
      rw [this]
      congr 1
      norm_num
      omega
    show IntOp.minsi (IntOp.addi (16#32) (FloatOps.fptosi (F := Ideal) (φ := .f32) 32 ((Real.log ((d : ℝ) / 16) / span * 16 : ℝ) : EReal))) 31#32 = _
    rw [e2, bucket_floor d h hd]
    exact cut_word ⟨_, hf⟩

end Cert.AttnBuckets
end
-- ==== Proof.AttnRef.lean ====
/- The differential attention as the reference writes it, on the columns of the differential heads. -/
module

public import proofs.«01_k».proof.Proof.AttnValue
public import proofs.«01_k».proof.Proof.AttnBucket
public import proofs.«01_k».proof.AttnRefIdeal
public import proofs.«01_k».proof.Proof.Gen.AttnRefIdeal
public import proofs.«01_k».proof.Proof.Gen.AttnRefIdeal.Run

@[expose] public section

set_option maxRecDepth 16384

noncomputable section

open Idealize.ShloMosaic Idealize.ShloMosaic.TcCoe Idealize.SL.Sem

namespace Cert.AttnRefIdeal.Attend

open Cert.AttnRefIdeal Cert.AttnRefIdeal.Gen Cert.AttnRefIdeal.Value Cert.AttnMath
open Cert.AttnIdeal.BiasTiles (bucket)
open Cert.AttnIdeal.Attend (at2 logit avg attended lamBy Finite biasOf normed scale)

variable (V : Valuation τ sig (Elt Ideal))

/-- The arguments, as the reference finds them. -/
abbrev aX : FVec Ideal S8192x12288 .bf16 := V (Proc.devRef .tc main_arg0)
abbrev aT : FVec Ideal S32x24 .f32 := V (Proc.devRef .tc main_arg6)

theorem diff_at (q n : Fin 4096) : (res_main_v25 V (ix2 q n)).toInt = (q.val : ℤ) - n.val := by
  pointwise [res_main_v25]
  show (BitVec.ofNat 32 q.val - BitVec.ofNat 32 n.val).toInt = _
  rw [BitVec.toInt_eq_toNat_bmod]
  simp only [BitVec.toNat_sub, BitVec.toNat_ofNat, Int.bmod_def]
  omega

theorem dist_at (q n : Fin 4096) (h : n ≤ q) : res_main_v28 V (ix2 q n) = BitVec.ofNat 32 (q.val - n.val) := by
  have hd := diff_at V q n
  have hn : n.val ≤ q.val := h
  pointwise [res_main_v28]
  have e : res_main_v25 V (ix2 q n) = BitVec.ofNat 32 (q.val - n.val) :=
    BitVec.eq_of_toInt_eq (hd.trans ((Cert.AttnBuckets.word_toInt _ (by omega)).trans (by omega)).symm)
  rw [e]
  have h0 : (0#32).toInt = 0 := by decide
  unfold IntOp.maxsi
  by_cases hp : q.val - n.val = 0
  · rw [hp]
    rfl
  · rw [if_pos]
    simp only [BitVec.slt, Cert.AttnBuckets.word_toInt _ (show q.val - n.val < 4096 by omega), h0, decide_eq_true_eq]
    omega

theorem bucket_at (q n : Fin 4096) (h : n ≤ q) : res_main_v46 V (ix2 q n) = BitVec.ofNat 32 (bucket ((q.val : ℤ) - n.val)).val := by
  have hn : n.val ≤ q.val := h
  have h := dist_at V q n h
  pointwise [res_main_v46]
  rw [h]
  exact (Cert.AttnBuckets.word_bucket (q.val - n.val) (by omega)).trans (by rw [Int.ofNat_sub hn])

/-- A gather of the table's rows reads the row of its index word, kept within the table. -/
theorem row_of_word {α : Type} (x : S32x8.Idx → α) (w : IVec S4096x4096x1 32) (q n : Fin 4096) (h : Fin 8) :
    Host.gather gather_S32x8_S4096x4096x1_S4096x4096x8_2_0_n_n_0_2_18 x w (ix3 q n h)
      = x (ix2 ⟨min (w (ix3 q n 0)).toInt.toNat 31, by omega⟩ h) := by
  show x _ = x _
  refine congrArg x (funext fun a => Fin.ext ?_)
  show gather_S32x8_S4096x4096x1_S4096x4096x8_2_0_n_n_0_2_18.start (ix3 q n h) w a
    + gather_S32x8_S4096x4096x1_S4096x4096x8_2_0_n_n_0_2_18.batchCoord (ix3 q n h) a
    + gather_S32x8_S4096x4096x1_S4096x4096x8_2_0_n_n_0_2_18.offCoord (ix3 q n h) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S32x8_S4096x4096x1_S4096x4096x8_2_0_n_n_0_2_18.startIndexMap from List.mem_singleton.mpr rfl)]
    have e : gather_S32x8_S4096x4096x1_S4096x4096x8_2_0_n_n_0_2_18.siIdx (ix3 q n h)
        ⟨List.idxOf (0 : Fin 2) gather_S32x8_S4096x4096x1_S4096x4096x8_2_0_n_n_0_2_18.startIndexMap, List.idxOf_lt_length_iff.2 (List.mem_singleton.mpr rfl)⟩ = ix3 q n 0 := by
      funext b
      refine Fin.ext ?_
      match b with
      | ⟨0, _⟩ => rfl
      | ⟨1, _⟩ => rfl
      | ⟨2, _⟩ => rfl
    exact congrArg (fun i => min (w i).toInt.toNat 31) e
  · unfold GatherDims.start
    rw [dif_neg (show (1 : Fin 2) ∉ gather_S32x8_S4096x4096x1_S4096x4096x8_2_0_n_n_0_2_18.startIndexMap from by show (1 : Fin 2) ∉ [(0 : Fin 2)]; decide)]
    show 0 + 0 + _ = _
    simp only [Nat.zero_add]
    rfl

theorem row_of_word' {α : Type} (x : S32x8.Idx → α) (w : IVec S4096x4096x1 32) (q n : Fin 4096) (h : Fin 8) (k : Fin 32)
    (hk : w (ix3 q n 0) = BitVec.ofNat 32 k.val) :
    Host.gather gather_S32x8_S4096x4096x1_S4096x4096x8_2_0_n_n_0_2_18 x w (ix3 q n h) = x (ix2 k h) := by
  rw [row_of_word]
  refine congrArg x (congrArg (fun i => ix2 i h) (Fin.ext ?_))
  show min (w (ix3 q n 0)).toInt.toNat 31 = k.val
  rw [hk]
  clear hk
  revert k
  decide

theorem bot_bits : Ideal.ofBits FTy.f32 4286578688#32 = ⊥ := by
  simp [Ideal.ofBits, Ideal.ieee]

/-- A masked logit of the reference is the kernel's. -/
theorem logit_at (b : Fin 2) (h : Fin 8) (mi : Fin 2) (q n : Fin 4096) :
    res_main_v60 V (ix5 b h mi q n) = logit (aX V) (aT V) b.val h.val mi.val q.val n.val := by
  have h1 : ∀ (b : Fin 2) (n : Fin 4096) (c : Fin 12288), res_main_v1 V (ix3 b n c) = at2 (aX V) (4096 * b.val + n.val) c.val := by
    intro b n c
    pointwise [res_main_v1]
    exact (Cert.AttnIdeal.Attend.at2_eq _ _ _ _ _).trans (congrArg₂ (at2 _) (by omega) rfl)
  pointwise [res_main_v60]
  rw [Cert.AttnIdeal.BiasTiles.select_ge, diff_at]
  have h0 : (0#32).toInt = 0 := by decide
  rw [h0]
  by_cases hn : n ≤ q
  · have hn' : n.val ≤ q.val := hn
    rw [if_pos (by omega)]
    unfold logit biasOf
    rw [if_pos (by omega)]
    refine congrArg₂ _ (congrArg₂ _ (Finset.sum_congr rfl fun x _ => ?_) rfl) ?_
    · rw [h1, h1]
      exact congrArg₂ _ (congrArg (at2 _ _) (by show h.val * 256 + mi.val * 128 + x.val = _; omega)) (congrArg (at2 _ _) (by show 2048 + (h.val * 256 + mi.val * 128 + x.val) = _; omega))
    · refine (row_of_word' _ _ q n h (bucket ((q.val : ℤ) - n.val)) ?_).trans ?_
      · have hk := bucket_at V q n hn
        pointwise []
        rw [hk]
        generalize bucket ((q.val : ℤ) - n.val) = k
        revert k
        decide
      · generalize bucket ((q.val : ℤ) - n.val) = k
        have hh := h.isLt
        pointwise []
        exact congrArg (aT V) (congrArg (ix2 k) (Fin.ext (Nat.mod_eq_of_lt (by omega)).symm))
  · have hn' : q.val < n.val := not_le.mp hn
    rw [if_neg (by omega), Cert.AttnIdeal.Attend.logit_masked _ _ _ _ _ _ _ hn']
    exact bot_bits

/-- The greatest of the elements is real when none is plus infinity and one is not minus infinity. -/
theorem greatest_real {ι : Type*} (S : Finset ι) (f : ι → EReal) (ht : ∀ i ∈ S, f i ≠ ⊤) (i0 : ι) (h0 : i0 ∈ S) (hb : f i0 ≠ ⊥) :
    ∃ μ : ℝ, max ⊥ (S.fold max ⊥ f) = (μ : EReal) := by
  rw [max_eq_right bot_le]
  have h1 : S.fold max ⊥ f ≠ ⊤ := ne_of_lt ((Finset.fold_max_lt ⊤).mpr ⟨bot_lt_top, fun i hi => lt_top_iff_ne_top.mpr (ht i hi)⟩)
  have h2 : S.fold max ⊥ f ≠ ⊥ := fun h => hb (le_bot_iff.mp (h ▸ (Finset.le_fold_max (f i0)).mpr (Or.inr ⟨i0, h0, le_rfl⟩)))
  exact ⟨_, (EReal.coe_toReal h1 h2).symm⟩

end Cert.AttnRefIdeal.Attend
end
-- ==== Proof.AttnMix.lean ====
/- The reference's softmax weights, its mixed values and its norm. -/
module

public import proofs.«01_k».proof.Proof.AttnRef
public import proofs.«01_k».proof.AttnRefIdeal
public import proofs.«01_k».proof.Proof.Gen.AttnRefIdeal
public import proofs.«01_k».proof.Proof.Gen.AttnRefIdeal.Run

@[expose] public section

set_option maxRecDepth 16384

noncomputable section

open Idealize.ShloMosaic Idealize.ShloMosaic.TcCoe Idealize.SL.Sem

namespace Cert.AttnRefIdeal.Attend

open Cert.AttnRefIdeal Cert.AttnRefIdeal.Gen Cert.AttnRefIdeal.Value Cert.AttnMath
open Cert.AttnIdeal.BiasTiles (bucket)
open Cert.AttnIdeal.Attend (at2 logit avg attended lamBy Finite biasOf normed scale)

variable (V : Valuation τ sig (Elt Ideal))

/-- The greatest element of each row. -/
def peak (R : FVec Ideal S2x8x2x4096x4096 .f32) : FVec Ideal S2x8x2x4096 .f32 :=
  Host.reduce FloatOps.maximumf R (constant S_ .f32 0xFF800000#32) reducesTo_S2x8x2x4096x4096_S2x8x2x4096_d4 h_S_
/-- The exponentials, each row lowered by its greatest element. -/
def lifted (R : FVec Ideal S2x8x2x4096x4096 .f32) (P : FVec Ideal S2x8x2x4096 .f32) : FVec Ideal S2x8x2x4096x4096 .f32 :=
  Host.exp (subf R (broadcastInDim S2x8x2x4096x4096 ![0, 1, 2, 3, 4] bcast_S2x8x2x4096x1_S2x8x2x4096x4096_0_1_2_3_4 (broadcastInDim S2x8x2x4096x1 ![0, 1, 2, 3] bcast_S2x8x2x4096_S2x8x2x4096x1_0_1_2_3 (maximumf (broadcastInDim S2x8x2x4096 ![] bcast_S_S2x8x2x4096 (constant S_ .f32 0xFF800000#32)) P))))
theorem v67_eq : res_main_v67 V = lifted (res_main_v60 V) (peak (res_main_v60 V)) := rfl
theorem lifted_at (R : FVec Ideal S2x8x2x4096x4096 .f32) (P : FVec Ideal S2x8x2x4096 .f32) (b : Fin 2) (h : Fin 8) (mi : Fin 2) (q n : Fin 4096) :
    lifted R P (ix5 b h mi q n) = Ideal.exp (R (ix5 b h mi q n) - max ⊥ (P (ix4 b h mi q))) := by
  pointwise [lifted]
  rw [bot_bits]

theorem peak_at (R : FVec Ideal S2x8x2x4096x4096 .f32) (b : Fin 2) (h : Fin 8) (mi : Fin 2) (q : Fin 4096) :
    ∃ S : Finset S2x8x2x4096x4096.Idx, (∀ n, ix5 b h mi q n ∈ S) ∧ peak R (ix4 b h mi q) = S.fold max ⊥ R := by
  have hd : ∀ n, reducesTo_S2x8x2x4096x4096_S2x8x2x4096_d4.drop (ix5 b h mi q n) = ix4 b h mi q := by
    intro n
    funext a
    match a with
    | ⟨0, _⟩ => rfl
    | ⟨1, _⟩ => rfl
    | ⟨2, _⟩ => rfl
    | ⟨3, _⟩ => rfl
  refine ⟨Finset.univ.filter fun i => reducesTo_S2x8x2x4096x4096_S2x8x2x4096_d4.drop i = ix4 b h mi q, fun n => Finset.mem_filter.mpr ⟨Finset.mem_univ _, hd n⟩, ?_⟩
  exact (Host.reduce_eq_fold _ _ _ _ _ _).trans (congrArg (fun x => Finset.fold max x R _) bot_bits)

/-- Each row's shares of its sum. -/
def shared (W : FVec Ideal S2x8x2x4096x4096 .f32) : FVec Ideal S2x8x2x4096x4096 .f32 :=
  Host.divf W (broadcastInDim S2x8x2x4096x4096 ![0, 1, 2, 3, 4] bcast_S2x8x2x4096x1_S2x8x2x4096x4096_0_1_2_3_4 (broadcastInDim S2x8x2x4096x1 ![0, 1, 2, 3] bcast_S2x8x2x4096_S2x8x2x4096x1_0_1_2_3 (Host.reduceAdd W (constant S_ .f32 0x00000000#32) reducesTo_S2x8x2x4096x4096_S2x8x2x4096_d4 h_S_)))
theorem v71_eq : res_main_v71 V = shared (res_main_v67 V) := rfl
theorem shared_at (W : FVec Ideal S2x8x2x4096x4096 .f32) (b : Fin 2) (h : Fin 8) (mi : Fin 2) (q n : Fin 4096) :
    shared W (ix5 b h mi q n) = Ideal.div (W (ix5 b h mi q n)) (∑ x, W (ix5 b h mi q x)) := by
  pointwise [shared]
/-- A row of logits through the softmax. -/
theorem weight_of {X : FVec Ideal S8192x12288 .bf16} {T : FVec Ideal S32x24 .f32} (R : FVec Ideal S2x8x2x4096x4096 .f32) (hX : Finite X) (hT : Finite T)
    (hl : ∀ b h mi q n, R (ix5 b h mi q n) = logit X T b.val h.val mi.val q.val n.val) (b : Fin 2) (h : Fin 8) (mi : Fin 2) (q n : Fin 4096)
    (S : Finset S2x8x2x4096x4096.Idx) (hS : ix5 b h mi q q ∈ S) :
    Ideal.div
      (Ideal.exp
        (R (ix5 b h mi q n) - max ⊥ (Finset.fold max ⊥ R S)))
      (∑ x, Ideal.exp (R (ix5 b h mi q x) - max ⊥ (Finset.fold max ⊥ R S)))
      = ((wt (logit X T b.val h.val mi.val q.val n.val) / ∑ j : Fin 4096, wt (logit X T b.val h.val mi.val q.val j.val) : ℝ) : EReal) := by
  have htop : ∀ i, R i ≠ ⊤ := by
    intro i
    rw [eq_ix5 i]
    refine ne_of_eq_of_ne (hl _ _ _ _ _) ?_
    exact Cert.AttnIdeal.Attend.logit_ne_top hX hT _ _ _ _ _
  obtain ⟨a, ha⟩ := Cert.AttnIdeal.Attend.logit_real hX hT b.val h.val mi.val q.val q.val le_rfl
  have hq : R (ix5 b h mi q q) ≠ ⊥ := by
    rw [hl, ha]
    exact EReal.coe_ne_bot a
  obtain ⟨μ, hμ⟩ := greatest_real S R (fun i _ => htop i) (ix5 b h mi q q) hS hq
  rw [hμ]
  simp only [hl]
  refine softmax_average (fun j : Fin 4096 => logit X T b.val h.val mi.val q.val j.val) (fun _ => 0) μ
    (fun j => Cert.AttnIdeal.Attend.logit_ne_top hX hT _ _ _ _ _) (ne_of_gt ?_) n
  refine Finset.sum_pos' (fun j _ => wt_nonneg _) ⟨q, Finset.mem_univ _, ?_⟩
  exact wt_pos _ (ha ▸ EReal.coe_ne_bot a) (ha ▸ EReal.coe_ne_top a)

/-- A weight of the reference's softmax. -/
theorem weight_at (hX : Finite (aX V)) (hT : Finite (aT V)) (b : Fin 2) (h : Fin 8) (mi : Fin 2) (q n : Fin 4096) :
    res_main_v71 V (ix5 b h mi q n) = ((wt (logit (aX V) (aT V) b.val h.val mi.val q.val n.val)
      / ∑ j : Fin 4096, wt (logit (aX V) (aT V) b.val h.val mi.val q.val j.val) : ℝ) : EReal) := by
  obtain ⟨S, hS, hp⟩ := peak_at (res_main_v60 V) b h mi q
  rw [v71_eq, v67_eq, shared_at]
  simp only [lifted_at, hp]
  exact weight_of (res_main_v60 V) hX hT (logit_at V) b h mi q n S (hS q)

/-- The second map's weight as the reference computes it. -/
def lamRef (a b c d : FVec Ideal S128 .f32) : FVec Ideal S_ .f32 :=
  addf (subf (Host.exp (Host.reduceAdd (mulf a b) (constant S_ .f32 0x00000000#32) reducesTo_S128_S_d0 h_S_)) (Host.exp (Host.reduceAdd (mulf c d) (constant S_ .f32 0x00000000#32) reducesTo_S128_S_d0 h_S_))) (constant S_ .f32 0x3E4CCCCD#32)

/-- The values, by batch entry, row, head and column. -/
def valuesRef (Y : FVec Ideal S2x4096x12288 .f32) : FVec Ideal S2x4096x8x256 .f32 :=
  shapeCast _ (extractStridedSlice S2x4096x2048 ![0, 0, 4096] Y slices_S2x4096x12288_S2x4096x2048_0_0_4096) shapeCasts_S2x4096x2048_S2x4096x8x256

/-- The first map less the weighted second. -/
def differenceRef (W : FVec Ideal S2x8x2x4096x4096 .f32) (l : FVec Ideal S_ .f32) : FVec Ideal S2x8x4096x4096 .f32 :=
  subf (shapeCast _ (extractStridedSlice S2x8x1x4096x4096 ![0, 0, 0, 0, 0] W slices_S2x8x2x4096x4096_S2x8x1x4096x4096_0_0_0_0_0) shapeCasts_S2x8x1x4096x4096_S2x8x4096x4096) (mulf (broadcastInDim S2x8x4096x4096 ![] bcast_S_S2x8x4096x4096 l) (shapeCast _ (extractStridedSlice S2x8x1x4096x4096 ![0, 0, 1, 0, 0] W slices_S2x8x2x4096x4096_S2x8x1x4096x4096_0_0_1_0_0) shapeCasts_S2x8x1x4096x4096_S2x8x4096x4096))

/-- The values mixed by a map. -/
def mixedRef (A : FVec Ideal S2x4096x8x256 .f32) (D : FVec Ideal S2x8x4096x4096 .f32) : FVec Ideal S2x4096x8x256 .f32 :=
  transpose S2x4096x8x256 [0, 3, 1, 2] (Host.dotGeneral (φ₁ := .f32) (φ₂ := .f32) dot_S2x4096x8x256_S2x8x4096x4096_S2x8x256x4096_1_3_3_2_02_01 none A D) transposes_S2x8x256x4096_S2x4096x8x256_0_3_1_2

theorem v80_eq : res_main_v80 V = mixedRef (valuesRef (res_main_v1 V)) (differenceRef (res_main_v71 V)
    (lamRef (V (Proc.devRef .tc main_arg1)) (V (Proc.devRef .tc main_arg2)) (V (Proc.devRef .tc main_arg3)) (V (Proc.devRef .tc main_arg4)))) := rfl

theorem lamRef_at (a b c d : FVec Ideal S128 .f32) : lamRef a b c d ix0 = lamBy a b c d := by
  unfold lamBy
  pointwise [lamRef]

theorem valuesRef_at (Y : FVec Ideal S2x4096x12288 .f32) (b : Fin 2) (n : Fin 4096) (h : Fin 8) (e : Fin 256) :
    valuesRef Y (ix4 b n h e) = Y (ix3 b n ⟨4096 + (h.val * 256 + e.val), by omega⟩) := by
  pointwise [valuesRef]

theorem differenceRef_at (W : FVec Ideal S2x8x2x4096x4096 .f32) (l : FVec Ideal S_ .f32) (b : Fin 2) (h : Fin 8) (q n : Fin 4096) :
    differenceRef W l (ix4 b h q n) = W (ix5 b h 0 q n) - l ix0 * W (ix5 b h 1 q n) := by
  pointwise [differenceRef]

theorem mixedRef_at (A : FVec Ideal S2x4096x8x256 .f32) (D : FVec Ideal S2x8x4096x4096 .f32) (b : Fin 2) (q : Fin 4096) (h : Fin 8) (e : Fin 256) :
    mixedRef A D (ix4 b q h e) = ∑ x : Fin 4096, A (ix4 b x h e) * D (ix4 b h q x) := by
  pointwise [mixedRef]

/-- The norm over a head's columns, laid out over 8192 rows. -/
def normRef (Y : FVec Ideal S2x4096x8x256 .f32) (g : FVec Ideal S256 .f32) : FVec Ideal S8192x2048 .f32 :=
  shapeCast _ (mulf (mulf (mulf Y (broadcastInDim S2x4096x8x256 ![0, 1, 2, 3] bcast_S2x4096x8x1_S2x4096x8x256_0_1_2_3 (Host.rsqrt (addf (Host.divf (broadcastInDim S2x4096x8x1 ![0, 1, 2] bcast_S2x4096x8_S2x4096x8x1_0_1_2 (Host.reduceAdd (mulf Y Y) (constant S_ .f32 0x00000000#32) reducesTo_S2x4096x8x256_S2x4096x8_d3 h_S_)) (broadcastInDim S2x4096x8x1 ![] bcast_S_S2x4096x8x1 (constant S_ .f32 0x43800000#32))) (broadcastInDim S2x4096x8x1 ![] bcast_S_S2x4096x8x1 (constant S_ .f32 0x3727C5AC#32)))))) (broadcastInDim S2x4096x8x256 ![0, 1, 2, 3] bcast_S1x1x1x256_S2x4096x8x256_0_1_2_3 (broadcastInDim S1x1x1x256 ![3] bcast_S256_S1x1x1x256_3 g))) (broadcastInDim S2x4096x8x256 ![] bcast_S_S2x4096x8x256 (constant S_ .f32 0x3F4CCCCD#32))) shapeCasts_S2x4096x8x256_S8192x2048

/-- The differential heads' columns beside zeros. -/
def besideZeros (N : FVec Ideal S8192x2048 .f32) : FVec Ideal S8192x4096 .bf16 :=
  truncf .bf16 (concatenate S8192x4096 1 [⟨S8192x2048, N⟩, ⟨S8192x2048, (broadcastInDim S8192x2048 ![] bcast_S_S8192x2048 (constant S_ .f32 0x00000000#32))⟩] concatenates_S8192x2048_S8192x2048_S8192x4096_d1) bitsLt_bf16_f32

theorem normRef_at (Y : FVec Ideal S2x4096x8x256 .f32) (g : FVec Ideal S256 .f32) (r : Fin 8192) (c : Fin 2048) :
    normRef Y g (ix2 r c) = normed (fun x => Y (ix4 ⟨r.val / 4096, by omega⟩ ⟨r.val % 4096, by omega⟩ ⟨c.val / 256, by omega⟩ x)) (fun x => g (ix1 x)) ⟨c.val % 256, by omega⟩ := by
  unfold normed
  pointwise [normRef]

theorem besideZeros_at (N : FVec Ideal S8192x2048 .f32) (r : Fin 8192) (c : Fin 4096) (hc : c.val < 2048) :
    besideZeros N (ix2 r c) = N (ix2 r ⟨c.val, hc⟩) := by
  pointwise [besideZeros]
  rw [dif_pos hc]

end Cert.AttnRefIdeal.Attend
end
-- ==== Proof.AttnClaim.lean ====
/- The differential attention's claim: the kernel's columns are the reference's. -/
module

public import proofs.«01_k».proof.Defs
public import proofs.«01_k».proof.Proof.AttnMix
public import proofs.«01_k».proof.Proof.AttnValue
public import proofs.«01_k».proof.Proof.AttnRun
public import Idealize.ShloMosaic.Lib.ReduceAll

@[expose] public section

set_option maxRecDepth 16384

noncomputable section

open Idealize.ShloMosaic Idealize.ShloMosaic.TcCoe Idealize.SL.Sem

namespace Cert.Pre_finite_attn.Gen

/-- The shape relations of the precondition's operations. -/
instance facts : Cert.Pre_finite_attn.Facts where
  bitsLt_bf16_f32 := by decide
  bcast_S_S8192x12288 := by decide
  reducesTo_S8192x12288_S_d0_1 := by decide
  h_S_ := by decide
  bcast_S_S32x24 := by decide
  reducesTo_S32x24_S_d0_1 := by decide
  bcast_S_S128 := by decide
  reducesTo_S128_S_d0 := by decide

end Cert.Pre_finite_attn.Gen

namespace Cert.On_diff_columns.Gen

/-- The shape relations of the column mask's operations. -/
instance facts : Cert.On_diff_columns.Facts where
  bcast_S_S8192x4096 := by decide

end Cert.On_diff_columns.Gen

namespace Cert.AttnRefIdeal.Attend

open Cert.AttnRefIdeal Cert.AttnRefIdeal.Gen Cert.AttnRefIdeal.Value Cert.AttnMath
open Cert.AttnIdeal.Attend (at2 at2_real logit avg attended lamBy Finite normed)

variable (V : Valuation τ sig (Elt Ideal))

/-- The subtracted map's factor, from the arguments. -/
abbrev aLam : EReal := lamBy (V (Proc.devRef .tc main_arg1)) (V (Proc.devRef .tc main_arg2)) (V (Proc.devRef .tc main_arg3)) (V (Proc.devRef .tc main_arg4))

/-- A sum of products of real numbers is real. -/
theorem sum_mul_real {ι : Type*} (S : Finset ι) (f g : ι → EReal) (hf : ∀ i, ∃ a : ℝ, f i = (a : EReal)) (hg : ∀ i, ∃ a : ℝ, g i = (a : EReal)) :
    ∃ a : ℝ, (∑ i ∈ S, f i * g i) = (a : EReal) := by
  choose f' hf using hf
  choose g' hg using hg
  refine ⟨∑ i ∈ S, f' i * g' i, ?_⟩
  rw [coe_sum]
  exact Finset.sum_congr rfl fun i _ => by rw [hf, hg, EReal.coe_mul]

/-- The subtracted map's factor is real when the four vectors are. -/
theorem lamBy_real {a b c d : FVec Ideal S128 .f32} (ha : Finite a) (hb : Finite b) (hc : Finite c) (hd : Finite d) :
    ∃ l : ℝ, lamBy a b c d = (l : EReal) := by
  obtain ⟨x, hx⟩ := sum_mul_real Finset.univ (fun i : Fin 128 => a (ix1 i)) (fun i => b (ix1 i)) (fun i => ha _) (fun i => hb _)
  obtain ⟨y, hy⟩ := sum_mul_real Finset.univ (fun i : Fin 128 => c (ix1 i)) (fun i => d (ix1 i)) (fun i => hc _) (fun i => hd _)
  have hk : ∃ k : ℝ, Ideal.ofBits FTy.f32 1045220557#32 = (k : EReal) := by
    simp [Ideal.ofBits, Ideal.ieee]
    exact ⟨_, rfl⟩
  obtain ⟨k, hk⟩ := hk
  refine ⟨Real.exp x - Real.exp y + k, ?_⟩
  unfold lamBy
  rw [hx, hy, hk, Ideal.exp_coe, Ideal.exp_coe, ← EReal.coe_sub, ← EReal.coe_add]

/-- Mixing by the difference of two weightings is the difference of the two averages. -/
theorem mix_split {ι : Type*} [Fintype ι] (v w w' : ι → ℝ) (l s s' : ℝ) :
    (∑ x, (v x : EReal) * (((w x / s : ℝ) : EReal) - (l : EReal) * ((w' x / s' : ℝ) : EReal)))
      = ((((∑ x, w x * v x) / s : ℝ) : EReal)) - (l : EReal) * ((((∑ x, w' x * v x) / s' : ℝ)) : EReal) := by
  have e : ∀ x, (v x : EReal) * (((w x / s : ℝ) : EReal) - (l : EReal) * ((w' x / s' : ℝ) : EReal))
      = ((v x * (w x / s - l * (w' x / s')) : ℝ) : EReal) := fun x => by
    rw [EReal.coe_mul, EReal.coe_sub, EReal.coe_mul]
  rw [Finset.sum_congr rfl fun x _ => e x, ← coe_sum, ← EReal.coe_mul, ← EReal.coe_sub]
  congr 1
  rw [Finset.sum_div, Finset.sum_div, Finset.mul_sum, ← Finset.sum_sub_distrib]
  exact Finset.sum_congr rfl fun x _ => by ring

/-- The reference's mixed value is the difference of the two maps' averages. -/
theorem v80_at (hX : Finite (aX V)) (hT : Finite (aT V)) (l : ℝ)
    (hl : aLam V = (l : EReal)) (b : Fin 2) (h : Fin 8) (q : Fin 4096) (e : Fin 256) :
    res_main_v80 V (ix4 b q h e) = (avg (aX V) (aT V) b.val h.val 0 q.val e.val : EReal)
      - aLam V * (avg (aX V) (aT V) b.val h.val 1 q.val e.val : EReal) := by
  rw [v80_eq, hl]
  refine (mixedRef_at _ _ _ _ _ _).trans ?_
  unfold avg
  rw [← mix_split]
  refine Finset.sum_congr rfl fun x _ => ?_
  rw [valuesRef_at, differenceRef_at, lamRef_at, show lamBy _ _ _ _ = _ from hl, weight_at V hX hT, weight_at V hX hT]
  obtain ⟨v, hv⟩ := at2_real hX (4096 * b.val + x.val) (4096 + 256 * h.val + e.val)
  have h1 : res_main_v1 V (ix3 b x ⟨4096 + (h.val * 256 + e.val), by omega⟩) = (v : EReal) := by
    refine Eq.trans ?_ hv
    pointwise [res_main_v1]
    exact (Cert.AttnIdeal.Attend.at2_eq _ _ _ _ _).trans (congrArg₂ (at2 _) (by omega) (by omega))
  rw [h1, hv, EReal.toReal_coe]
  rfl

/-- The reference's result on the differential heads' columns. -/
theorem result_at (hX : Finite (aX V)) (hT : Finite (aT V)) (l : ℝ)
    (hl : aLam V = (l : EReal)) (g : FVec Ideal S256 .f32) (r : Fin 8192) (c : Fin 4096) (hc : c.val < 2048) :
    besideZeros (normRef (res_main_v80 V) g) (ix2 r c) = attended (aX V) (aT V) (aLam V) g r.val c.val := by
  rw [besideZeros_at _ _ _ hc, normRef_at]
  unfold attended
  refine congrArg (fun d => normed d _ _) (funext fun x => ?_)
  exact v80_at V hX hT l hl _ _ _ x

end Cert.AttnRefIdeal.Attend

namespace Cert.Proof.AttnClaim

open Cert.AttnIdeal.Attend (Finite)

/-- An extended real whose absolute value is below infinity is a real number. -/
theorem real_of_abs_lt (x : EReal) (h : max x (-x) < ⊤) : ∃ a : ℝ, x = (a : EReal) := by
  induction x using EReal.rec with
  | bot => simp at h
  | coe r => exact ⟨r, rfl⟩
  | top => simp at h

/-- The precondition's bound is infinity. -/
theorem inf_bits : Ideal.ofBits FTy.f32 0x7F800000#32 = ⊤ := by
  simp [Ideal.ofBits, Ideal.ieee]

/-- Arrays that pass the precondition's test hold real numbers. -/
theorem finite_of {s : Shape} {φ : FTy} (X B : FVec Ideal s φ) (hB : ∀ i, B i = (⊤ : EReal))
    (h : ∀ i, cmpf CmpFPredicate.olt (Host.absf X) B i = 1#1) : Finite X := by
  intro i
  have e : Ideal.cmp .olt (max (X i) (-(X i)) : EReal) (B i) = 1 := h i
  rw [Ideal.cmp_olt_eq_one, hB] at e
  exact real_of_abs_lt _ e

/-- The precondition, read: every number that enters a logit, a value or the factor is real. -/
theorem reals (x0 : FVec Ideal Cert.Pre_finite_attn.S8192x12288 .bf16) (x1 x2 x3 x4 : FVec Ideal Cert.Pre_finite_attn.S128 .f32)
    (x5 : FVec Ideal Cert.Pre_finite_attn.S256 .f32) (x6 : FVec Ideal Cert.Pre_finite_attn.S32x24 .f32)
    (h : Cert.Pre_finite_attn.fn (F := Ideal) x0 x1 x2 x3 x4 x5 x6 = fun _ => 1#1) :
    Finite x0 ∧ Finite x6 ∧ Finite x1 ∧ Finite x2 ∧ Finite x3 ∧ Finite x4 := by
  have e := congrFun h ix0
  unfold Cert.Pre_finite_attn.fn Cert.Pre_finite_attn.fn_part1 at e
  simp only [andi, IntOp.andi_eq_one] at e
  obtain ⟨⟨⟨⟨⟨h0, h6⟩, h1⟩, h2⟩, h3⟩, h4⟩ := e
  have T : ∀ (t : Shape) (f : Fin Cert.Pre_finite_attn.S_.rank → Fin t.rank) (b : Cert.Pre_finite_attn.S_.BroadcastsInDim t f) (i : t.Idx),
      broadcastInDim t f b (constant (F := Ideal) Cert.Pre_finite_attn.S_ .f32 0x7F800000#32) i = (⊤ : EReal) := fun _ _ _ _ => inf_bits
  exact ⟨finite_of (φ := .f32) (extf .f32 x0 _) _ (T _ _ _) (Host.reduce_andi_all _ _ _ _ _ h0), finite_of x6 _ (T _ _ _) (Host.reduce_andi_all _ _ _ _ _ h6),
    finite_of x1 _ (T _ _ _) (Host.reduce_andi_all _ _ _ _ _ h1), finite_of x2 _ (T _ _ _) (Host.reduce_andi_all _ _ _ _ _ h2),
    finite_of x3 _ (T _ _ _) (Host.reduce_andi_all _ _ _ _ _ h3), finite_of x4 _ (T _ _ _) (Host.reduce_andi_all _ _ _ _ _ h4)⟩

/-- The mask's columns are the first 2048. -/
theorem column_of_mask (x0 : FVec Ideal Cert.On_diff_columns.S8192x12288 .bf16) (x1 x2 x3 x4 : FVec Ideal Cert.On_diff_columns.S128 .f32)
    (x5 : FVec Ideal Cert.On_diff_columns.S256 .f32) (x6 : FVec Ideal Cert.On_diff_columns.S32x24 .f32) (r : Fin 8192) (e : Fin 4096)
    (h : Cert.On_diff_columns.fn (F := Ideal) x0 x1 x2 x3 x4 x5 x6 (ix2 r e) = 1#1) : e.val < 2048 := by
  unfold Cert.On_diff_columns.fn at h
  have := IntOp.cmpi_slt.1 h
  have k : (BitVec.ofNat 32 e.val).toInt < (2048#32 : BitVec 32).toInt := this
  rw [BitVec.toInt_eq_toNat_bmod, BitVec.toInt_eq_toNat_bmod] at k
  simp only [BitVec.toNat_ofNat, Int.bmod_def] at k
  omega

/-- Kernel and reference end with the same columns of the differential heads. -/
theorem equal : Cert.algebraic_AttnIdeal_AttnRefIdeal_on_diff_columns_pre_finite_attn := by
  intro m ρ m' ρ' hpre hagree
  have hr := fun c => reals _ _ _ _ _ _ _ (hpre c)
  refine ⟨fun c => Cert.AttnIdeal.Gen.W3 m ρ c (Proc.devRef .tc Cert.AttnIdeal.main_v7), ?_, ?_⟩
  · exact (θ_run Cert.AttnIdeal.defs _ _).mono (fun _ h c => ⟨fun i _ => congrFun (h c).1 i, (h c).2⟩) (Cert.AttnIdeal.Launched.ends m ρ)
  · refine (θ_run Cert.AttnRefIdeal.defs _ _).mono (fun _ h c => ⟨fun i hi => (congrFun (h c).1 i).trans ?_, (h c).2⟩)
      (Cert.AttnRefIdeal.Value.run (F := Ideal) m' ρ')
    obtain ⟨r, e, rfl⟩ : ∃ (r : Fin 8192) (e : Fin 4096), i = ix2 r e := ⟨i 0, i 1, (ix2_eta i).symm⟩
    have he := column_of_mask _ _ _ _ _ _ _ r e hi
    refine Eq.trans ?_ (Cert.AttnIdeal.Attend.result_at m ρ (fun c => (hr c).1) (fun c => (hr c).2.1) c r e he).symm
    have hv : ∀ V : Valuation Cert.AttnRefIdeal.τ Cert.AttnRefIdeal.sig (Elt Ideal),
        V (Proc.devRef .tc Cert.AttnRefIdeal.main_arg0) = Cert.AttnIdeal.Attend.argX m c → V (Proc.devRef .tc Cert.AttnRefIdeal.main_arg6) = Cert.AttnIdeal.Attend.argT m c →
        Cert.AttnRefIdeal.Attend.aLam V = Cert.AttnIdeal.Attend.argLam m c →
        Cert.AttnRefIdeal.Attend.besideZeros (Cert.AttnRefIdeal.Attend.normRef (Cert.AttnRefIdeal.Value.res_main_v80 V) (Cert.AttnIdeal.Attend.argG m c)) (ix2 r e)
          = Cert.AttnIdeal.Attend.attended (Cert.AttnIdeal.Attend.argX m c) (Cert.AttnIdeal.Attend.argT m c) (Cert.AttnIdeal.Attend.argLam m c) (Cert.AttnIdeal.Attend.argG m c) r.val e.val := by
      intro V hx ht hl
      obtain ⟨l, h⟩ := Cert.AttnRefIdeal.Attend.lamBy_real (hr c).2.2.1 (hr c).2.2.2.1 (hr c).2.2.2.2.1 (hr c).2.2.2.2.2
      refine (Cert.AttnRefIdeal.Attend.result_at V (fun i => ((hr c).1 i).imp fun a h => (congrFun hx i).trans h) (fun i => ((hr c).2.1 i).imp fun a h => (congrFun ht i).trans h) l (hl.trans h) _ r e he).trans ?_
      rw [hl]
      exact congrArg₂ (fun x t => Cert.AttnIdeal.Attend.attended x t _ _ _ _) hx ht
    obtain ⟨h0, h1, h2, h3, h4, h5, h6⟩ := hagree c
    refine Eq.trans ?_ (hv (StableHlo.launchContents m' c) h0 h6 ?_)
    · rw [← show _ = Cert.AttnIdeal.Attend.argG m c from h5]
      rfl
    · unfold Cert.AttnRefIdeal.Attend.aLam
      exact congr (congr (congrArg₂ _ h1 h2) h3) h4

end Cert.Proof.AttnClaim

end
-- ==== Proof.UpIdealRun.lean ====
/- The up projection's run. Each row block of the product keeps its last eight rows in a scratch, one group per column
   block, for the causal convolution of the next row block of the same sequence. The scratch's contents are carried from
   point to point (`Good`), so that what the body finds there is what the row block before saved, or zeros where a
   sequence begins. The pipeline's output is then named point by point (`outAt`). -/
module

public import proofs.«01_k».proof.Proof.Gen.UpIdeal.Frame
public import proofs.«01_k».proof.Proof.Gen.UpIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WholeRead
public import Idealize.ShloMosaic.Lib.ValueIdx

@[expose] public section

set_option maxRecDepth 16384

noncomputable section

namespace Cert.Proof.UpIdealRun

open Cert.UpIdeal Cert.UpIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Group `r` of the eight-row groups the scratch keeps, one per column block. -/
def slab (d : Vec F S43x8x256 .f32) (r : Fin 43) : Vec F S1x8x256 .f32 := fun y => d (ix3 r (y 1) (y 2))

/-- What the body finds saved at grid point `i`: zeros where a sequence begins, else its column block's group. -/
def prevOf (i : grid0.Coords) (d : Vec F S43x8x256 .f32) : Vec F S1x8x256 .f32 :=
  if k0_cond1 i = 1#1 then k0_pay4 else slab d (i 1)

/-- The output block from the input blocks and the saved rows `p`. -/
def outOf (x0 : Vec F S1024x4096 .bf16) (x1 x2 : Vec F S4096x256 .bf16) (x3 : Vec F S3x256 .f32) (x4 : Vec F S1x256 .f32)
    (p : Vec F S1x8x256 .f32) : FVec F S1024x256 .bf16 :=
  k0_pay1 (k0_pay2 x0 x1) (k0_pay3 x0 x2) (iota .tc S1024x256 32 [0] iota_S1024x256_d0_w32) (k0_pay7 p) (k0_pay8 p) k0_pay9 (k0_pay10 x0 x1) x3 x4

/-- A load of the whole of a memref held at `X` reads `X`. -/
theorem load_whole {s : Shape} {e : EltTy} {m : Memref sig .tc .vmem s e} (h : m.IsWhole) (X : s.Idx → Elt F e)
    {off : Fin s.rank → Nat} (h0 : ∀ a, off a = 0) (inb : ∀ a, off a + s.size a ≤ s.size a) :
    View.readAt (Elt F) m.view (Rect.unit (s := s) off s.size inb).toLoadRect (h.unread X) = X := by
  funext x
  refine (h.readAt_unread X _ x).trans (congrArg X (funext fun a => Fin.ext ?_))
  show off a + 1 * (x a).val = (x a).val
  rw [h0, Nat.zero_add, Nat.one_mul]

/-- Reading through a view what one store of a whole block left is the stored block. -/
theorem read_store_whole {s : Shape} {e : EltTy} (m : Memref sig .tc .vmem s e) (f : m.view.ty.Contents (Elt F))
    {off : Fin s.rank → Nat} (h0 : ∀ a, off a = 0) (inb : ∀ a, off a + s.size a ≤ s.size a) (w : s.Idx → Elt F e) :
    m.view.read (Elt F) (m.view.writes (Elt F) f [(⟨Rect.unit (s := s) off s.size inb, w⟩ : View.Piece (Elt F) s e)]) = w := by
  funext y
  refine View.read_writes_cons_hit_of_coords m.view f (Rect.unit (s := s) off s.size inb) w [] y y fun a => ?_
  show (y a).val = off a + 1 * (y a).val
  rw [h0, Nat.zero_add, Nat.one_mul]

/-- Position `y` of the rectangle at grid point `i` is group `i 1`'s. -/
theorem slot_coords (i : grid0.Coords) (y : S1x8x256.Idx) (a : Fin 3) :
    ((ix3 (i 1) (y 1) (y 2) : S43x8x256.Idx) a).val = k0_off2 i a + 1 * (y a).val := by
  rw [k0_off2_eq i]
  have h0 : (y 0).val < 1 := (y 0).isLt
  match a with
  | ⟨0, _⟩ => show (i 1).val = (i 1).val + 1 * (y 0).val; omega
  | ⟨1, _⟩ => show (y 1).val = 0 + 1 * (y 1).val; omega
  | ⟨2, _⟩ => show (y 2).val = 0 + 1 * (y 2).val; omega

/-- A load of the group at grid point `i` from the scratch held at `d`. -/
theorem load_slab {m : Memref sig .tc .vmem S43x8x256 .f32} (h : m.IsWhole) (i : grid0.Coords) (d : Vec F S43x8x256 .f32)
    (inb : ∀ a, k0_off2 i a + S1x8x256.size a ≤ S43x8x256.size a) :
    View.readAt (Elt F) m.view (Rect.unit (s := S43x8x256) (k0_off2 i) S1x8x256.size inb).toLoadRect (h.unread d) = slab d (i 1) := by
  funext x
  refine (h.readAt_unread d _ x).trans (congrArg d (funext fun a => Fin.ext ?_))
  exact (slot_coords i x a).symm

/-- What a store of the group at grid point `i` leaves: that group. -/
theorem store_slab_hit (m : Memref sig .tc .vmem S43x8x256 .f32) (i : grid0.Coords) (f : m.view.ty.Contents (Elt F))
    (inb : ∀ a, k0_off2 i a + S1x8x256.size a ≤ S43x8x256.size a) (w : Vec F S1x8x256 .f32) (L : List (View.Piece (Elt F) S43x8x256 .f32)) :
    slab (m.view.read (Elt F) (m.view.writes (Elt F) f ((⟨Rect.unit (s := S43x8x256) (k0_off2 i) S1x8x256.size inb, w⟩ : View.Piece (Elt F) S43x8x256 .f32) :: L))) (i 1) = w := by
  funext y
  exact View.read_writes_cons_hit_of_coords m.view f (Rect.unit (s := S43x8x256) (k0_off2 i) S1x8x256.size inb) w L y _ fun a => slot_coords i y a

/-- What a store of the group at grid point `i` leaves: the other groups as they were. -/
theorem store_slab_miss (m : Memref sig .tc .vmem S43x8x256 .f32) (i : grid0.Coords) (f : m.view.ty.Contents (Elt F))
    (off : Fin 3 → Nat) (hoff : off = k0_off2 i)
    (inb : ∀ a, off a + S1x8x256.size a ≤ S43x8x256.size a) (w : Vec F S1x8x256 .f32) (L : List (View.Piece (Elt F) S43x8x256 .f32))
    (r : Fin 43) (hr : r ≠ i 1) :
    slab (m.view.read (Elt F) (m.view.writes (Elt F) f ((⟨Rect.unit (s := S43x8x256) off S1x8x256.size inb, w⟩ : View.Piece (Elt F) S43x8x256 .f32) :: L))) r
      = slab (m.view.read (Elt F) (m.view.writes (Elt F) f L)) r := by
  funext y
  refine View.read_writes_cons_miss_of_axis m.view f (⟨Rect.unit (s := S43x8x256) off S1x8x256.size inb, w⟩ : View.Piece (Elt F) S43x8x256 .f32) L _ 0 (i 1).val 1 ?_ rfl rfl ?_
  · show off 0 = _; rw [hoff, k0_off2_eq i]; rfl
  · have h : r.val ≠ (i 1).val := fun e => hr (Fin.ext e)
    show r.val < _ ∨ _ ≤ r.val
    omega

/-- A load of the group at grid point `i` just after it was stored reads what was stored. -/
theorem load_stored {m : Memref sig .tc .vmem S43x8x256 .f32} (i : grid0.Coords) (f : m.view.ty.Contents (Elt F))
    (off : Fin 3 → Nat) (hoff : off = k0_off2 i)
    (inb : ∀ a, k0_off2 i a + S1x8x256.size a ≤ S43x8x256.size a) (inb' : ∀ a, off a + S1x8x256.size a ≤ S43x8x256.size a)
    (w : Vec F S1x8x256 .f32) (L : List (View.Piece (Elt F) S43x8x256 .f32)) :
    View.readAt (Elt F) m.view (Rect.unit (s := S43x8x256) (k0_off2 i) S1x8x256.size inb).toLoadRect
      (m.view.writes (Elt F) f ((⟨Rect.unit (s := S43x8x256) off S1x8x256.size inb', w⟩ : View.Piece (Elt F) S43x8x256 .f32) :: L)) = w := by
  subst hoff
  funext x
  exact View.read_writes_cons_hit m.view f (Rect.unit (s := S43x8x256) (k0_off2 i) S1x8x256.size inb') w L x _ rfl

/-- The offsets of a whole two-axis block are zero. -/
theorem zero2 : ∀ a : Fin 2, (![0, 0] : Fin 2 → Nat) a = 0 := by decide

/-- Equal input blocks and saved rows give equal output blocks. -/
theorem congrArgs5 {y0 x0 : Vec F S1024x4096 .bf16} {y1 x1 y2 x2 : Vec F S4096x256 .bf16} {y3 x3 : Vec F S3x256 .f32} {y4 x4 : Vec F S1x256 .f32}
    {q p : Vec F S1x8x256 .f32} (h0 : y0 = x0) (h1 : y1 = x1) (h2 : y2 = x2) (h3 : y3 = x3) (h4 : y4 = x4) (hp : q = p) :
    outOf y0 y1 y2 y3 y4 q = outOf x0 x1 x2 x3 x4 p := by
  rw [h0, h1, h2, h3, h4, hp]

set_option maxHeartbeats 1000000 in
/-- The body where no sequence begins: its output from the group saved for its column block, which it replaces by its own last rows. -/
theorem body_keep (c : Dev nD) (i : grid0.Coords) (hc : ¬ k0_cond1 i = 1#1)
    (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S3x256 .f32) (harg5 : arg5.IsWhole) (arg6 : Memref sig .tc .vmem S1x256 .f32) (harg6 : arg6.IsWhole) (arg7 : Memref sig .tc .vmem S1024x256 .bf16) (harg7 : arg7.IsWhole) (arg8 : Memref sig .tc .vmem S43x8x256 .f32) (harg8 : arg8.IsWhole)
    (x0 : Vec F S1024x4096 .bf16) (x1 x2 : Vec F S4096x256 .bf16) (x3 : Vec F S3x256 .f32) (x4 : Vec F S1x256 .f32) (d : Vec F S43x8x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outOf x0 x1 x2 x3 x4 (slab d (i 1)))
            ∗ (∃ d', owns (c : Thread nD τ) arg8 fullShare d' ∗ ⌜slab d' (i 1) = k0_pay6 x0 x1 ∧ ∀ r, r ≠ i 1 → slab d' r = slab d r⌝)) -∗ K ⟨⟩))
      ⊢ wp frame (wpE (defs₀ (F := F)) Variants.none c none) E (cc0_up_glu i arg2 harg2 arg3 harg3 arg4 harg4 arg5 harg5 arg6 harg6 arg7 harg7 arg8 harg8) K := by
  simp only [cc0_up_glu_eq_skeleton]; unfold cc0_up_glu_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (read_store_whole arg7 f5 zero2 _ _).trans ?_
    dsimp only
    exact congrArgs5 (load_whole harg2 x0 zero2 _) (load_whole harg3 x1 zero2 _) (load_whole harg4 x2 zero2 _) (load_whole harg5 x3 zero2 _) (load_whole harg6 x4 zero2 _) (load_slab harg8 i d _)
  iexists _
  isplitl [HS]
  · iexists _; isplitr; swap; · iexact HS
    ipureintro; rfl
  ipureintro
  refine ⟨?_, fun r hr => ?_⟩
  · refine (store_slab_hit arg8 i _ _ _ []).trans ?_
    exact congr (congrArg k0_pay6 (load_whole harg2 x0 zero2 _)) (load_whole harg3 x1 zero2 _)
  · refine (store_slab_miss arg8 i _ _ rfl _ _ [] r hr).trans ?_
    exact congrArg (slab · r) (harg8.read_unread d)

set_option maxHeartbeats 1000000 in
/-- The body where a sequence begins: its output from zeros, and its own last rows saved for its column block. -/
theorem body_reset (c : Dev nD) (i : grid0.Coords) (hc : k0_cond1 i = 1#1)
    (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S3x256 .f32) (harg5 : arg5.IsWhole) (arg6 : Memref sig .tc .vmem S1x256 .f32) (harg6 : arg6.IsWhole) (arg7 : Memref sig .tc .vmem S1024x256 .bf16) (harg7 : arg7.IsWhole) (arg8 : Memref sig .tc .vmem S43x8x256 .f32) (harg8 : arg8.IsWhole)
    (x0 : Vec F S1024x4096 .bf16) (x1 x2 : Vec F S4096x256 .bf16) (x3 : Vec F S3x256 .f32) (x4 : Vec F S1x256 .f32) (d : Vec F S43x8x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outOf x0 x1 x2 x3 x4 k0_pay4)
            ∗ (∃ d', owns (c : Thread nD τ) arg8 fullShare d' ∗ ⌜slab d' (i 1) = k0_pay6 x0 x1 ∧ ∀ r, r ≠ i 1 → slab d' r = slab d r⌝)) -∗ K ⟨⟩))
      ⊢ wp frame (wpE (defs₀ (F := F)) Variants.none c none) E (cc0_up_glu i arg2 harg2 arg3 harg3 arg4 harg4 arg5 harg5 arg6 harg6 arg7 harg7 arg8 harg8) K := by
  simp only [cc0_up_glu_eq_skeleton]; unfold cc0_up_glu_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (read_store_whole arg7 f5 zero2 _ _).trans ?_
    dsimp only
    exact congrArgs5 (load_whole harg2 x0 zero2 _) (load_whole harg3 x1 zero2 _) (load_whole harg4 x2 zero2 _) (load_whole harg5 x3 zero2 _) (load_whole harg6 x4 zero2 _) (load_stored i _ _ rfl _ _ _ [])
  iexists _
  isplitl [HS]
  · iexists _; isplitr; swap; · iexact HS
    ipureintro; rfl
  ipureintro
  refine ⟨?_, fun r hr => ?_⟩
  · refine (store_slab_hit arg8 i _ _ _ _).trans ?_
    exact congr (congrArg k0_pay6 (load_whole harg2 x0 zero2 _)) (load_whole harg3 x1 zero2 _)
  · refine (store_slab_miss arg8 i _ _ rfl _ _ _ r hr).trans ?_
    refine (store_slab_miss arg8 i _ _ rfl _ _ [] r hr).trans ?_
    exact congrArg (slab · r) (harg8.read_unread d)

/-! ## The grid's points -/

/-- The column block of a point. -/
theorem col_at : ∀ t : Fin grid0.N, (grid0.coords t 1).val = t.val % 43 := by decide +kernel

/-- A sequence begins at every fourth row block. -/
theorem begins_at : ∀ t : Fin grid0.N, k0_cond1 (grid0.coords t) = 1#1 ↔ t.val / 43 % 4 = 0 := by decide +kernel

variable (m : (ℓ : Loc nD τ sig) → Buf (Elt F) ℓ) (ρ : Dev nD → PrngReg)

/-- The last eight rows of the product at point `t`, which it saves. -/
def savedAt (c : Dev nD) (t : Fin cfg0.N) : Vec F S1x8x256 .f32 := k0_pay6 (iblk m c 0 t) (iblk m c 1 t)

/-- What the body finds saved at point `t`: zeros where a sequence begins, else what the row block before saved. -/
def prevAt (c : Dev nD) (t : Fin cfg0.N) : Vec F S1x8x256 .f32 :=
  if k0_cond1 (grid0.coords t) = 1#1 then k0_pay4 else savedAt m c ⟨t.val - 43, Nat.lt_of_le_of_lt (Nat.sub_le _ _) t.isLt⟩

/-- The output block at point `t`. -/
def outAt (c : Dev nD) (t : Fin cfg0.N) : Vec F S1024x256 .bf16 :=
  outOf (iblk m c 0 t) (iblk m c 1 t) (iblk m c 2 t) (iblk m c 3 t) (iblk m c 4 t) (prevAt m c t)

/-- Before point `n` the scratch holds what the last 43 points saved, each in its column block's group. -/
def Good (c : Dev nD) (n : ℕ) (d : Vec F S43x8x256 .f32) : Prop :=
  ∀ s : Fin cfg0.N, s.val < n → n ≤ s.val + 43 → slab d (grid0.coords s 1) = savedAt m c s

/-- Where no sequence begins, the group found is the row block before's. -/
theorem Good.found {c : Dev nD} {t : Fin cfg0.N} {d : Vec F S43x8x256 .f32} (h : Good m c t.val d) (hc : ¬ k0_cond1 (grid0.coords t) = 1#1) :
    slab d (grid0.coords t 1) = prevAt m c t := by
  have hq : ¬ t.val / 43 % 4 = 0 := fun e => hc ((begins_at t).mpr e)
  have hl : 43 ≤ t.val := by
    by_contra hlt
    exact hq (by rw [Nat.div_eq_of_lt (by omega)])
  unfold prevAt
  rw [if_neg hc, ← h ⟨t.val - 43, _⟩ (by show t.val - 43 < _; omega) (by show _ ≤ t.val - 43 + 43; omega)]
  refine congrArg (slab d) (Fin.ext ?_)
  refine (col_at t).trans (Eq.trans ?_ (col_at ⟨t.val - 43, _⟩).symm)
  show t.val % 43 = (t.val - 43) % 43
  omega

/-- The body keeps the scratch's contents good. -/
theorem Good.step {c : Dev nD} {t : Fin cfg0.N} {d d' : Vec F S43x8x256 .f32} (h : Good m c t.val d)
    (h1 : slab d' (grid0.coords t 1) = savedAt m c t) (h2 : ∀ r, r ≠ grid0.coords t 1 → slab d' r = slab d r) :
    Good m c (t.val + 1) d' := by
  intro s hs hn
  by_cases e : s = t
  · subst e; exact h1
  · have hlt : s.val < t.val := lt_of_le_of_ne (Nat.lt_succ_iff.mp hs) fun e' => e (Fin.ext e')
    refine (h2 _ fun e' => ?_).trans (h s hlt (by omega))
    have hv := congrArg Fin.val e'
    rw [col_at, col_at] at hv
    omega

/-- Nothing has been saved before the first point. -/
theorem Good.zero (c : Dev nD) (d : Vec F S43x8x256 .f32) : Good m c 0 d := fun _ h _ => absurd h (Nat.not_lt_zero _)

/-! ## The pipeline's proof data -/

/-- The scratch. -/
abbrev scratch : Memref sig .tc .vmem S43x8x256 .f32 := Memref.whole cc0_scratch0

/-- What is carried from point to point: the scratch at good contents, and the generator register. -/
def carried (c : Dev nD) (n : ℕ) : sProp 𝕄 :=
  iprop((∃ d, owns (c : Thread nD τ) scratch fullShare d ∗ ⌜Good m c n d⌝) ∗ (∃ r, prngReg c r))

/-- The class invariant with the scratch as a memref owned at some contents. -/
theorem rest_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-- At entry the scratch may hold anything. -/
theorem enter (c : Dev nD) : (Pipeline.ΦA spec0 c : sProp 𝕄) ⊢ carried m c 0 := by
  rw [rest_eq]; unfold carried
  iintro ⟨⟨%d, H⟩, Hg⟩
  isplitl [H]
  · iexists d
    isplitl [H]; · iexact H
    ipureintro; exact Good.zero m c d
  iexact Hg

/-- At exit what it holds is forgotten. -/
theorem leave (c : Dev nD) (n : ℕ) : carried m c n ⊢ (Pipeline.ΦA spec0 c : sProp 𝕄) := by
  rw [rest_eq]; unfold carried
  iintro ⟨⟨%d, H, -⟩, Hg⟩
  isplitl [H]
  · iexists d; iexact H
  iexact Hg

/-- The proof data: the arrays as the region finds them, after the body each input's buffer at its block and the output's
    at `outAt`, and `carried` between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ n := carried m c n.val
  q w := Pipeline.shareOf spec0 w
  owed _ := 0

/-- The arrays are the region-entry contents. -/
theorem A_eq (c : Dev nD) (w : Fin cfg0.W) : (dats m 0 c).A w = V m c (Pipeline.arrRef spec0 w) := by
  dsimp only [dats]

/-- Window 0's buffer after the body. -/
theorem after_0 (c : Dev nD) (t : Fin cfg0.N) : (dats m 0 c).after 0 t = iblk m c 0 t := by dsimp only [dats]
/-- Window 1's buffer after the body. -/
theorem after_1 (c : Dev nD) (t : Fin cfg0.N) : (dats m 0 c).after 1 t = iblk m c 1 t := by dsimp only [dats]
/-- Window 2's buffer after the body. -/
theorem after_2 (c : Dev nD) (t : Fin cfg0.N) : (dats m 0 c).after 2 t = iblk m c 2 t := by dsimp only [dats]
/-- Window 3's buffer after the body. -/
theorem after_3 (c : Dev nD) (t : Fin cfg0.N) : (dats m 0 c).after 3 t = iblk m c 3 t := by dsimp only [dats]
/-- Window 4's buffer after the body. -/
theorem after_4 (c : Dev nD) (t : Fin cfg0.N) : (dats m 0 c).after 4 t = iblk m c 4 t := by dsimp only [dats]
/-- Window 5's buffer after the body. -/
theorem after_5 (c : Dev nD) (t : Fin cfg0.N) : (dats m 0 c).after 5 t = outAt m c t := by dsimp only [dats]
/-- Window 0's buffer before the body. -/
theorem before_0 (c : Dev nD) (t : Fin cfg0.N) (d) : (dats m 0 c).before 0 t d = iblk m c 0 t :=
  before0_0_of m (dats m 0 c) (A_eq m c 0) (after_0 m c) t d
/-- Window 1's buffer before the body. -/
theorem before_1 (c : Dev nD) (t : Fin cfg0.N) (d) : (dats m 0 c).before 1 t d = iblk m c 1 t :=
  before0_1_of m (dats m 0 c) (A_eq m c 1) (after_1 m c) t d
/-- Window 2's buffer before the body. -/
theorem before_2 (c : Dev nD) (t : Fin cfg0.N) (d) : (dats m 0 c).before 2 t d = iblk m c 2 t :=
  before0_2_of m (dats m 0 c) (A_eq m c 2) (after_2 m c) t d
/-- Window 3's buffer before the body. -/
theorem before_3 (c : Dev nD) (t : Fin cfg0.N) (d) : (dats m 0 c).before 3 t d = iblk m c 3 t :=
  before0_3_of m (dats m 0 c) (A_eq m c 3) (after_3 m c) t d
/-- Window 4's buffer before the body. -/
theorem before_4 (c : Dev nD) (t : Fin cfg0.N) (d) : (dats m 0 c).before 4 t d = iblk m c 4 t :=
  before0_4_of m (dats m 0 c) (A_eq m c 4) (after_4 m c) t d

/-! ## The body at a point -/

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- What it returns. -/
def post (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t))

set_option maxHeartbeats 800000 in
/-- The body at any point, by whether a sequence begins there. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).Φ t.succ = carried m c (t.val + 1) from rfl,
    show (dats m 0 c).Φ t.castSucc = carried m c t.val from rfl,
    show (dats m 0 c).owesAt () t.succ = (dats m 0 c).owesAt () t.castSucc from rfl,
    after_0, after_1, after_2, after_3, after_4, after_5]
  unfold carried outAt
  iintro ⟨⟨⟨%d, HS, %hd⟩, Hg⟩, Ho, ⟨%d0, H0⟩, ⟨%d1, H1⟩, ⟨%d2, H2⟩, ⟨%d3, H3⟩, ⟨%d4, H4⟩, ⟨%d5, H5⟩⟩
  by_cases hc : k0_cond1 (grid0.coords t) = 1#1
  · rw [show prevAt m c t = k0_pay4 from if_pos hc]
    iapply (body_reset c (grid0.coords t) hc (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) scratch (Memref.isWhole_whole _) (iblk m c 0 t) (iblk m c 1 t) (iblk m c 2 t) (iblk m c 3 t) (iblk m c 4 t) d Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, ⟨%d', HS, %hs⟩⟩
    isplitl [HS Hg]
    · isplitl [HS]
      · iexists d'
        isplitl [HS]; · iexact HS
        ipureintro; exact hd.step m hs.1 hs.2
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [← hd.found m hc]
    iapply (body_keep c (grid0.coords t) hc (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) scratch (Memref.isWhole_whole _) (iblk m c 0 t) (iblk m c 1 t) (iblk m c 2 t) (iblk m c 3 t) (iblk m c 4 t) d Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, ⟨%d', HS, %hs⟩⟩
    isplitl [HS Hg]
    · isplitl [HS]
      · iexists d'
        isplitl [HS]; · iexact HS
        ipureintro; exact hd.step m hs.1 hs.2
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body. -/
theorem row_at (t : Fin cfg0.N) :
    defs₀ (F := F) .tc cfg0.body (cfg0.bodyArgs t (cfg0.slots t)) = bodyAt0 t := by
  unfold defs₀; rw [Defs.onTc_tc]

/-- The body obligation at every point. -/
theorem obligation (c : Dev nD) : BodyObligation (dats (F := F) m 0 c) (defs₀ (F := F)) Variants.none () Set.univ := fun t => by
  rw [bigSep_W0, bigSep_W0, row_at]
  exact triple_restated (body_at m c t) rfl .rfl fun _ => .rfl

/-! ## The run and the frame -/

set_option backward.isDefEq.respectTransparency.types false in
set_option maxHeartbeats 800000 in
/-- Every execution ends with the pipeline's arrays at what the proof data say, every other unscoped buffer as the region
    found it, and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m)
    (hin := fun c => enter m c) (hout := fun c => leave m c _)

/-- Every execution ends, with the argument arrays unchanged and every counter at zero. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.UpIdealRun

end
-- ==== Proof.UpValue.lean ====
/- The up projection with its gated convolution: the blocks that the kernel's grid points leave are one array, a
   function of the rows, the weights and the taps. -/
module

public import proofs.«01_k».proof.Proof.UpIdealRun
public import Idealize.ShloMosaic.Lib.KernelVsHost
public import Idealize.ShloMosaic.Lib.ValueIdx
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpIdeal.Gated

open Cert.UpIdeal Cert.UpIdeal.Gen Cert.Proof.UpIdealRun

/-- An entry of a block product. -/
theorem prod_at (x0 : Vec Ideal S1024x4096 .bf16) (x1 : Vec Ideal S4096x256 .bf16) (a : Fin 1024) (b : Fin 256) :
    k0_pay2 (F := Ideal) x0 x1 (ix2 a b) = ∑ k : Fin 4096, x0 (ix2 a k) * x1 (ix2 k b) := by
  pointwise [k0_pay2]

/-- An entry of the other block product. -/
theorem prod_at' (x0 : Vec Ideal S1024x4096 .bf16) (x1 : Vec Ideal S4096x256 .bf16) (a : Fin 1024) (b : Fin 256) :
    k0_pay3 (F := Ideal) x0 x1 (ix2 a b) = ∑ k : Fin 4096, x0 (ix2 a k) * x1 (ix2 k b) := by
  pointwise [k0_pay3]

/-- The rows saved are the last eight of the block product. -/
theorem saved_at (x0 : Vec Ideal S1024x4096 .bf16) (x1 : Vec Ideal S4096x256 .bf16) (a : Fin 8) (b : Fin 256) :
    k0_pay6 (F := Ideal) x0 x1 (ix3 0 a b) = k0_pay2 (F := Ideal) x0 x1 (ix2 ⟨1016 + a.val, by omega⟩ b) := by
  pointwise [k0_pay6]

/-- The row before a row block's first is the last row saved, -/
theorem last_at (p : Vec Ideal S1x8x256 .f32) (b : Fin 256) : k0_pay7 (F := Ideal) p (ix2 0 b) = p (ix3 0 7 b) := by
  pointwise [k0_pay7, k0_pay5]

/-- and the one before that is the last but one. -/
theorem last_but_one_at (p : Vec Ideal S1x8x256 .f32) (b : Fin 256) : k0_pay8 (F := Ideal) p (ix2 0 b) = p (ix3 0 6 b) := by
  pointwise [k0_pay8, k0_pay5]

/-- Where a sequence begins zeros stand for the rows before it. -/
theorem zeros_at (a : Fin 8) (b : Fin 256) : k0_pay4 (F := Ideal) (ix3 0 a b) = (0 : EReal) := by
  pointwise [k0_pay4]

/-- A choice by an entry's row number, as the body writes it. -/
theorem choose_row (a : Fin 1024) (n : Nat) (hn : n < 1024) (x y : EReal) :
    Scalar.select (IntOp.cmpi CmpIPredicate.eq (BitVec.ofNat 32 a.val) (BitVec.ofNat 32 n)) x y = if a.val = n then x else y := by
  have ha := a.isLt
  by_cases h : a.val = n
  · rw [if_pos h, h]
    simp [IntOp.cmpi, Scalar.select]
  · rw [if_neg h]
    have hne : ¬ BitVec.ofNat 32 a.val = BitVec.ofNat 32 n := fun e => h (by
      have e' := congrArg BitVec.toNat e
      rw [BitVec.toNat_ofNat, BitVec.toNat_ofNat, Nat.mod_eq_of_lt (by omega), Nat.mod_eq_of_lt (by omega)] at e'
      exact e')
    have hf : (BitVec.ofNat 32 a.val == BitVec.ofNat 32 n) = false := beq_eq_false_iff_ne.mpr hne
    show (if BitVec.ofBool (BitVec.ofNat 32 a.val == BitVec.ofNat 32 n) = 1#1 then x else y) = y
    rw [hf]
    exact if_neg (by decide)

/-- The gated convolution of three values of the gate, the taps and the bias, times the linear value. -/
def act (w0 w1 w2 cb g g1 g2 v : EReal) : EReal :=
  (w2 * g + w1 * g1 + w0 * g2 + cb) * Ideal.logistic (w2 * g + w1 * g1 + w0 * g2 + cb) * v

/-- An entry of the output block, from the block products and the rows found saved. -/
theorem glu_at (g v : FVec Ideal S1024x256 .f32) (p7 p8 : FVec Ideal S1x256 .f32) (x3 : Vec Ideal S3x256 .f32) (x4 : Vec Ideal S1x256 .f32)
    (a : Fin 1024) (b : Fin 256) :
    k0_pay1 (F := Ideal) g v (iota .tc S1024x256 32 [0] iota_S1024x256_d0_w32) p7 p8 k0_pay9
        (dynamicRotate 0 1#32 none g rotates_S1024x256_d0) x3 x4 (ix2 a b)
      = act (x3 (ix2 0 b)) (x3 (ix2 1 b)) (x3 (ix2 2 b)) (x4 (ix2 0 b)) (g (ix2 a b))
          (if a.val = 0 then p7 (ix2 0 b) else g (ix2 ⟨(a.val + 1024 - 1) % 1024, Nat.mod_lt _ (by decide)⟩ b))
          (if a.val = 0 then p8 (ix2 0 b) else if a.val = 1 then p7 (ix2 0 b)
            else g (ix2 ⟨(a.val + 1024 - 2) % 1024, Nat.mod_lt _ (by decide)⟩ b)) (v (ix2 a b)) := by
  rw [← choose_row a 0 (by decide), ← choose_row a 0 (by decide), ← choose_row a 1 (by decide)]
  unfold act
  pointwise [k0_pay1, k0_pay9]

/-- An entry of the product of the rows by the weights. -/
def gate (U : FVec Ideal S8192x4096 .bf16) (W : FVec Ideal S4096x22016 .bf16) (r : Fin 8192) (j : Fin 22016) : EReal :=
  ∑ k : Fin 4096, U (ix2 r k) * W (ix2 k j)

/-- The product's entry `s` rows before, zero where that is before the sequence. -/
def back (U : FVec Ideal S8192x4096 .bf16) (W : FVec Ideal S4096x22016 .bf16) (s : Nat) (r : Fin 8192) (j : Fin 22016) : EReal :=
  if r.val % 4096 < s then 0 else gate U W ⟨r.val - s, Nat.lt_of_le_of_lt (Nat.sub_le _ _) r.isLt⟩ j

/-- The whole result. -/
def glu (U : FVec Ideal S8192x4096 .bf16) (W : FVec Ideal S4096x22016 .bf16) (C : FVec Ideal S3x11008 .f32) (B : FVec Ideal S1x11008 .f32) :
    FVec Ideal S8192x11008 .bf16 := fun i =>
  act (C (ix2 0 (i 1))) (C (ix2 1 (i 1))) (C (ix2 2 (i 1))) (B (ix2 0 (i 1)))
    (gate U W (i 0) ⟨(i 1).val, Nat.lt_trans (i 1).isLt (by decide)⟩)
    (back U W 1 (i 0) ⟨(i 1).val, Nat.lt_trans (i 1).isLt (by decide)⟩)
    (back U W 2 (i 0) ⟨(i 1).val, Nat.lt_trans (i 1).isLt (by decide)⟩)
    (gate U W (i 0) ⟨11008 + (i 1).val, by have h : (i 1).val < 11008 := (i 1).isLt; omega⟩)

variable (m : (ℓ : Loc nD τ sig) → Buf (Elt Ideal) ℓ) (ρ : Dev nD → PrngReg)

/-- Where the windows' blocks sit at grid point `t`. -/
theorem place : ∀ t : Fin cfg0.N, win0_0.index t = ![t.val / 43, 0] ∧ win0_1.index t = ![0, t.val % 43]
    ∧ win0_2.index t = ![0, 43 + t.val % 43] ∧ win0_3.index t = ![0, t.val % 43] ∧ win0_4.index t = ![0, t.val % 43]
    ∧ win0_5.index t = ![t.val / 43, t.val % 43] ∧ t.val < 344 :=
  (by decide +kernel : ∀ t : Fin grid0.N, _)

theorem lt_points (t : Fin cfg0.N) : t.val < 344 := (place t).2.2.2.2.2.2

/-- Row `a` of the row block at `t`, among all rows. -/
abbrev rowOf (t : Fin cfg0.N) (a : Fin 1024) : Fin 8192 := ⟨t.val / 43 * 1024 + a.val, by have := lt_points t; omega⟩

/-- Column `b` of the column block at `t`, among the gate's columns. -/
abbrev colOf (t : Fin cfg0.N) (b : Fin 256) : Fin 11008 := ⟨t.val % 43 * 256 + b.val, by omega⟩

/-- The gate's block product at a grid point is the whole product there. -/
theorem gate_block (c : Dev nD) (t : Fin cfg0.N) (a : Fin 1024) (b : Fin 256) :
    k0_pay2 (F := Ideal) (iblk m c 0 t) (iblk m c 1 t) (ix2 a b)
      = gate (V m c main_arg0) (V m c main_v0) (rowOf t a) ⟨(colOf t b).val, by have := (colOf t b).isLt; omega⟩ := by
  rw [prod_at]
  unfold gate
  blk_point [iblk, place t]

/-- The linear part's block product at a grid point is the whole product in the columns after the gate's. -/
theorem lin_block (c : Dev nD) (t : Fin cfg0.N) (a : Fin 1024) (b : Fin 256) :
    k0_pay3 (F := Ideal) (iblk m c 0 t) (iblk m c 2 t) (ix2 a b)
      = gate (V m c main_arg0) (V m c main_v0) (rowOf t a) ⟨11008 + (colOf t b).val, by have := (colOf t b).isLt; omega⟩ := by
  rw [prod_at']
  unfold gate
  blk_point [iblk, place t]

/-- A tap's block. -/
theorem tap_block (c : Dev nD) (t : Fin cfg0.N) (a : Fin 3) (b : Fin 256) :
    iblk m c 3 t (ix2 a b) = V m c main_arg2 (ix2 a (colOf t b)) := by
  blk_point [iblk, place t]

/-- The bias's block. -/
theorem bias_block (c : Dev nD) (t : Fin cfg0.N) (b : Fin 256) :
    iblk m c 4 t (ix2 0 b) = V m c main_v1 (ix2 0 (colOf t b)) := by
  blk_point [iblk, place t]

/-- The rows found saved at a grid point: zeros where a sequence begins, else the product in the rows before. -/
theorem found_at (c : Dev nD) (t : Fin cfg0.N) (q : Fin 8) (b : Fin 256) :
    prevAt m c t (ix3 0 q b) = if t.val / 43 % 4 = 0 then 0 else
      gate (V m c main_arg0) (V m c main_v0) ⟨t.val / 43 * 1024 - (8 - q.val), by have := lt_points t; omega⟩
        ⟨(colOf t b).val, by have := (colOf t b).isLt; omega⟩ := by
  unfold prevAt
  by_cases h : t.val / 43 % 4 = 0
  · rw [if_pos h, if_pos ((begins_at t).mpr h)]
    exact zeros_at q b
  · rw [if_neg h, if_neg fun e => h ((begins_at t).mp e)]
    unfold savedAt
    rw [saved_at, gate_block]
    have hq := q.isLt
    have ht : 43 ≤ t.val := by
      by_contra hlt
      exact h (by rw [Nat.div_eq_of_lt (by omega)])
    congr 1
    · refine Fin.ext ?_
      show (t.val - 43) / 43 * 1024 + (1016 + q.val) = t.val / 43 * 1024 - (8 - q.val)
      omega
    · refine Fin.ext ?_
      show (t.val - 43) % 43 * 256 + b.val = t.val % 43 * 256 + b.val
      omega

/-- An entry of the block left at a grid point is the whole result's entry there. -/
theorem out_at (c : Dev nD) (t : Fin cfg0.N) (a : Fin 1024) (b : Fin 256) :
    outAt m c t (ix2 a b) = glu (V m c main_arg0) (V m c main_v0) (V m c main_arg2) (V m c main_v1) (ix2 (rowOf t a) (colOf t b)) := by
  unfold outAt outOf k0_pay10
  have ha := a.isLt
  refine (glu_at _ _ _ _ _ _ a b).trans ?_
  rw [tap_block, tap_block, tap_block, bias_block, gate_block, lin_block, last_at, last_but_one_at, found_at, found_at, gate_block, gate_block]
  have e1 : (if a.val = 0 then
        (if t.val / 43 % 4 = 0 then (0 : EReal) else gate (V m c main_arg0) (V m c main_v0)
          ⟨t.val / 43 * 1024 - (8 - (7 : Fin 8).val), by have := lt_points t; omega⟩ ⟨(colOf t b).val, by have := (colOf t b).isLt; omega⟩)
      else gate (V m c main_arg0) (V m c main_v0) (rowOf t ⟨(a.val + 1024 - 1) % 1024, Nat.mod_lt _ (by decide)⟩)
        ⟨(colOf t b).val, by have := (colOf t b).isLt; omega⟩)
      = back (V m c main_arg0) (V m c main_v0) 1 (rowOf t a) ⟨(colOf t b).val, by have := (colOf t b).isLt; omega⟩ := by
    unfold back
    by_cases h0 : a.val = 0
    · rw [if_pos h0]
      by_cases h : t.val / 43 % 4 = 0
      · rw [if_pos h, if_pos (by show (t.val / 43 * 1024 + a.val) % 4096 < 1; omega)]
      · rw [if_neg h, if_neg (by show ¬ (t.val / 43 * 1024 + a.val) % 4096 < 1; omega)]
        congr 1
        refine Fin.ext ?_
        show t.val / 43 * 1024 - (8 - 7) = t.val / 43 * 1024 + a.val - 1
        omega
    · rw [if_neg h0, if_neg (by show ¬ (t.val / 43 * 1024 + a.val) % 4096 < 1; omega)]
      congr 1
      refine Fin.ext ?_
      show t.val / 43 * 1024 + (a.val + 1024 - 1) % 1024 = t.val / 43 * 1024 + a.val - 1
      omega
  have e2 : (if a.val = 0 then
        (if t.val / 43 % 4 = 0 then (0 : EReal) else gate (V m c main_arg0) (V m c main_v0)
          ⟨t.val / 43 * 1024 - (8 - (6 : Fin 8).val), by have := lt_points t; omega⟩ ⟨(colOf t b).val, by have := (colOf t b).isLt; omega⟩)
      else if a.val = 1 then
        (if t.val / 43 % 4 = 0 then (0 : EReal) else gate (V m c main_arg0) (V m c main_v0)
          ⟨t.val / 43 * 1024 - (8 - (7 : Fin 8).val), by have := lt_points t; omega⟩ ⟨(colOf t b).val, by have := (colOf t b).isLt; omega⟩)
      else gate (V m c main_arg0) (V m c main_v0) (rowOf t ⟨(a.val + 1024 - 2) % 1024, Nat.mod_lt _ (by decide)⟩)
        ⟨(colOf t b).val, by have := (colOf t b).isLt; omega⟩)
      = back (V m c main_arg0) (V m c main_v0) 2 (rowOf t a) ⟨(colOf t b).val, by have := (colOf t b).isLt; omega⟩ := by
    unfold back
    by_cases h0 : a.val = 0
    · rw [if_pos h0]
      by_cases h : t.val / 43 % 4 = 0
      · rw [if_pos h, if_pos (by show (t.val / 43 * 1024 + a.val) % 4096 < 2; omega)]
      · rw [if_neg h, if_neg (by show ¬ (t.val / 43 * 1024 + a.val) % 4096 < 2; omega)]
        congr 1
        refine Fin.ext ?_
        show t.val / 43 * 1024 - (8 - 6) = t.val / 43 * 1024 + a.val - 2
        omega
    · rw [if_neg h0]
      by_cases h1 : a.val = 1
      · rw [if_pos h1]
        by_cases h : t.val / 43 % 4 = 0
        · rw [if_pos h, if_pos (by show (t.val / 43 * 1024 + a.val) % 4096 < 2; omega)]
        · rw [if_neg h, if_neg (by show ¬ (t.val / 43 * 1024 + a.val) % 4096 < 2; omega)]
          congr 1
          refine Fin.ext ?_
          show t.val / 43 * 1024 - (8 - 7) = t.val / 43 * 1024 + a.val - 2
          omega
      · rw [if_neg h1, if_neg (by show ¬ (t.val / 43 * 1024 + a.val) % 4096 < 2; omega)]
        congr 1
        refine Fin.ext ?_
        show t.val / 43 * 1024 + (a.val + 1024 - 2) % 1024 = t.val / 43 * 1024 + a.val - 2
        omega
  exact congrArg₂ (fun x y => act _ _ _ _ _ x y _) e1 e2

/-- After the run the output array is the whole result. -/
theorem result_eq (c : Dev nD) : (dats m 0 c).arrAt 5 cfg0.N
    = glu (V m c main_arg0) (V m c main_v0) (V m c main_arg2) (V m c main_v1) := by
  refine (dats m 0 c).arrAt_eq_of_covers 5 _ (by decide +kernel) fun t _ y => ?_
  rw [after_5]
  idx_vars y
  refine (out_at m c t _ _).trans (congrArg _ ?_)
  blk_point [place t]

end Cert.UpIdeal.Gated

end
-- ==== Proof.UpRef.lean ====
/- The up projection with its gated convolution as the reference writes it, over two batch entries of 4096 rows that it
   pads by two rows in front, is the array that the kernel leaves, over 8192 rows. -/
module

public import proofs.«01_k».proof.Defs
public import proofs.«01_k».proof.Proof.UpValue
public import proofs.«01_k».proof.Proof.Gen.UpRefIdeal.Run
public import Idealize.ShloMosaic.Lib.Claim

@[expose] public section

set_option maxRecDepth 16384

noncomputable section

open Idealize.ShloMosaic Idealize.ShloMosaic.TcCoe Idealize.SL.Sem

namespace Cert.UpRefIdeal.Gated

open Cert.UpRefIdeal Cert.UpRefIdeal.Gen

/-- The product over batch entry, row and column. -/
def prods (U : FVec Ideal S8192x4096 .bf16) (W : FVec Ideal S4096x22016 .f32) : FVec Ideal S2x4096x22016 .f32 :=
  Host.dotGeneral (φ₁ := .f32) (φ₂ := .f32) dot_S2x4096x4096_S4096x22016_S2x4096x22016_2_0_01_1_n_n none
    (shapeCast S2x4096x4096 (extf .f32 U bitsLt_bf16_f32) shapeCasts_S8192x4096_S2x4096x4096) W

/-- The gate's columns, with two rows of zeros in front. -/
def padded (Y : FVec Ideal S2x4096x22016 .f32) : FVec Ideal S2x4098x11008 .f32 :=
  pad S2x4098x11008 ![0, 2, 0] ![0, 0, 0] ![0, 0, 0] (extractStridedSlice S2x4096x11008 ![0, 0, 0] Y slices_S2x4096x22016_S2x4096x11008_0_0_0)
    (sitofp .f32 (constantI S_ 32 0#32)) pads_S2x4096x11008_S2x4098x11008_000_200_000 h_S_

/-- The convolution of the padded gate with the taps, plus the bias. -/
def convolved (P : FVec Ideal S2x4098x11008 .f32) (C : FVec Ideal S3x11008 .f32) (B : FVec Ideal S11008 .f32) : FVec Ideal S2x4096x11008 .f32 :=
  addf (addf (addf (addf (broadcastInDim S2x4096x11008 ![] bcast_S_S2x4096x11008 (constant S_ .f32 0x00000000#32))
    (mulf (broadcastInDim S2x4096x11008 ![0, 1, 2] bcast_S1x1x11008_S2x4096x11008_0_1_2 (broadcastInDim S1x1x11008 ![2] bcast_S11008_S1x1x11008_2 (shapeCast S11008 (extractStridedSlice S1x11008 ![0, 0] C slices_S3x11008_S1x11008_0_0) shapeCasts_S1x11008_S11008)))
      (extractStridedSlice S2x4096x11008 ![0, 0, 0] P slices_S2x4098x11008_S2x4096x11008_0_0_0)))
    (mulf (broadcastInDim S2x4096x11008 ![0, 1, 2] bcast_S1x1x11008_S2x4096x11008_0_1_2 (broadcastInDim S1x1x11008 ![2] bcast_S11008_S1x1x11008_2 (shapeCast S11008 (extractStridedSlice S1x11008 ![1, 0] C slices_S3x11008_S1x11008_1_0) shapeCasts_S1x11008_S11008)))
      (extractStridedSlice S2x4096x11008 ![0, 1, 0] P slices_S2x4098x11008_S2x4096x11008_0_1_0)))
    (mulf (broadcastInDim S2x4096x11008 ![0, 1, 2] bcast_S1x1x11008_S2x4096x11008_0_1_2 (broadcastInDim S1x1x11008 ![2] bcast_S11008_S1x1x11008_2 (shapeCast S11008 (extractStridedSlice S1x11008 ![2, 0] C slices_S3x11008_S1x11008_2_0) shapeCasts_S1x11008_S11008)))
      (extractStridedSlice S2x4096x11008 ![0, 2, 0] P slices_S2x4098x11008_S2x4096x11008_0_2_0)))
    (broadcastInDim S2x4096x11008 ![0, 1, 2] bcast_S1x1x11008_S2x4096x11008_0_1_2 (broadcastInDim S1x1x11008 ![2] bcast_S11008_S1x1x11008_2 B))

/-- The gated array, laid out over 8192 rows. -/
def gated (Z : FVec Ideal S2x4096x11008 .f32) (Y : FVec Ideal S2x4096x22016 .f32) : FVec Ideal S8192x11008 .bf16 :=
  truncf .bf16 (shapeCast S8192x11008 (mulf (mulf Z (Host.divf (broadcastInDim S2x4096x11008 ![] bcast_S_S2x4096x11008 (constant S_ .f32 0x3F800000#32)) (addf (broadcastInDim S2x4096x11008 ![] bcast_S_S2x4096x11008 (constant S_ .f32 0x3F800000#32)) (Host.exp (Host.negf Z)))))
    (extractStridedSlice S2x4096x11008 ![0, 0, 11008] Y slices_S2x4096x22016_S2x4096x11008_0_0_11008)) shapeCasts_S2x4096x11008_S8192x11008) bitsLt_bf16_f32

/-- The reference's result is that gated array. -/
theorem result_eq (m : (ℓ : Loc nD τ sig) → Buf (Elt Ideal) ℓ) (c : Dev nD) : Cert.UpRefIdeal.Value.res_main_v34 (F := Ideal) m c
    = gated (convolved (padded (prods (m ((c : Thread nD τ).loc main_arg0)) (m ((c : Thread nD τ).loc main_arg1)))) (m ((c : Thread nD τ).loc main_arg2))
        (m ((c : Thread nD τ).loc main_arg3))) (prods (m ((c : Thread nD τ).loc main_arg0)) (m ((c : Thread nD τ).loc main_arg1))) := rfl

/-- An entry of the product. -/
theorem prods_at (U : FVec Ideal S8192x4096 .bf16) (W : FVec Ideal S4096x22016 .f32) (b : Fin 2) (r : Fin 4096) (j : Fin 22016) :
    prods U W (ix3 b r j) = Cert.UpIdeal.Gated.gate U W ⟨b.val * 4096 + r.val, by omega⟩ j := by
  unfold Cert.UpIdeal.Gated.gate
  pointwise [prods]

/-- An entry of the padded gate: zero in the two rows in front, else the gate's two rows before. -/
theorem padded_at (Y : FVec Ideal S2x4096x22016 .f32) (b : Fin 2) (r : Fin 4098) (j : Fin 11008) :
    padded Y (ix3 b r j) = if h : r.val < 2 then (0 : EReal)
      else Y (ix3 b ⟨r.val - 2, by omega⟩ ⟨j.val, by omega⟩) := by
  unfold padded
  by_cases h : r.val < 2
  · rw [dif_pos h]
    refine (pad_apply_of_not_inside _ _ _ _ _ _ _ _ 1 ?_).trans ?_
    · intro hin
      have h2 : 2 ≤ r.val := hin.1
      omega
    · show ((((0#32 : BitVec 32).toInt : ℝ)) : EReal) = 0
      simp
  · rw [dif_neg h]
    refine (pad_apply_of_inside _ _ _ _ _ _ _ _ (ix3 b ⟨r.val - 2, by omega⟩ j) ?_).trans ?_
    · intro a
      match a with
      | ⟨0, _⟩ => show b.val = 0 + b.val * (0 + 1); omega
      | ⟨1, _⟩ => show r.val = 2 + (r.val - 2) * (0 + 1); omega
      | ⟨2, _⟩ => show j.val = 0 + j.val * (0 + 1); omega
    · pointwise

/-- An entry of the convolution. -/
theorem convolved_at (P : FVec Ideal S2x4098x11008 .f32) (C : FVec Ideal S3x11008 .f32) (B : FVec Ideal S11008 .f32)
    (b : Fin 2) (r : Fin 4096) (j : Fin 11008) :
    convolved P C B (ix3 b r j) = (((0 + C (ix2 0 j) * P (ix3 b ⟨r.val, by omega⟩ j)) + C (ix2 1 j) * P (ix3 b ⟨1 + r.val, by omega⟩ j))
      + C (ix2 2 j) * P (ix3 b ⟨2 + r.val, by omega⟩ j)) + B (ix1 j) := by
  pointwise [convolved]

/-- An entry of the gated array. -/
theorem gated_at (Z : FVec Ideal S2x4096x11008 .f32) (Y : FVec Ideal S2x4096x22016 .f32) (r : Fin 8192) (j : Fin 11008) :
    gated Z Y (ix2 r j) = Z (ix3 ⟨r.val / 4096, by omega⟩ ⟨r.val % 4096, by omega⟩ j)
      * Ideal.logistic (Z (ix3 ⟨r.val / 4096, by omega⟩ ⟨r.val % 4096, by omega⟩ j))
      * Y (ix3 ⟨r.val / 4096, by omega⟩ ⟨r.val % 4096, by omega⟩ ⟨11008 + j.val, by omega⟩) := by
  unfold Ideal.logistic
  pointwise [gated]

/-- A vector of 11008 as a matrix of one row. -/
abbrev asRow (B : FVec Ideal S11008 .f32) : FVec Ideal Cert.UpIdeal.S1x11008 .f32 :=
  shapeCast Cert.UpIdeal.S1x11008 B Cert.UpIdeal.Gen.shapeCasts_S11008_S1x11008

/-- A row of the padded gate, `s` rows before the row of its number, is the product `s` rows before. -/
theorem lagged (U : FVec Ideal S8192x4096 .bf16) (W : FVec Ideal S4096x22016 .f32) (s : Nat) (hs : s ≤ 2) (r : Fin 8192) (j : Fin 11008)
    (q : Fin 4098) (hq : q.val = 2 - s + r.val % 4096) :
    padded (prods U W) (ix3 ⟨r.val / 4096, by omega⟩ q j) = Cert.UpIdeal.Gated.back U W s r ⟨j.val, by omega⟩ := by
  rw [padded_at]
  unfold Cert.UpIdeal.Gated.back
  by_cases h : r.val % 4096 < s
  · rw [if_pos h, dif_pos (by omega)]
  · rw [if_neg h, dif_neg (by omega), prods_at]
    congr 1
    refine Fin.ext ?_
    show r.val / 4096 * 4096 + (q.val - 2) = r.val - s
    omega

/-- The reference's gated array is the kernel's. -/
theorem gated_eq (U : FVec Ideal S8192x4096 .bf16) (W : FVec Ideal S4096x22016 .f32) (C : FVec Ideal S3x11008 .f32) (B : FVec Ideal S11008 .f32) :
    gated (convolved (padded (prods U W)) C B) (prods U W) = Cert.UpIdeal.Gated.glu U W C (asRow B) := by
  funext i
  idx_vars i
  revert i0 i1
  intro r j
  have hj := j.isLt
  have hb : asRow B (ix2 0 j) = B (ix1 j) := by pointwise [asRow]
  have h0 : Cert.UpIdeal.Gated.back U W 0 r ⟨j.val, by omega⟩ = Cert.UpIdeal.Gated.gate U W r ⟨j.val, by omega⟩ := if_neg (Nat.not_lt_zero _)
  rw [gated_at, convolved_at, lagged U W 2 (by decide) r j _ (by show r.val % 4096 = 2 - 2 + r.val % 4096; omega),
    lagged U W 1 (by decide) r j _ (by show 1 + r.val % 4096 = 2 - 1 + r.val % 4096; omega),
    lagged U W 0 (by decide) r j _ (by show 2 + r.val % 4096 = 2 - 0 + r.val % 4096; omega), prods_at, h0]
  have hr : (⟨r.val / 4096 * 4096 + r.val % 4096, by omega⟩ : Fin 8192) = r := Fin.ext (by show r.val / 4096 * 4096 + r.val % 4096 = r.val; omega)
  unfold Cert.UpIdeal.Gated.glu Cert.UpIdeal.Gated.act
  show _ = (C (ix2 2 j) * Cert.UpIdeal.Gated.gate U W r ⟨j.val, by omega⟩ + C (ix2 1 j) * Cert.UpIdeal.Gated.back U W 1 r ⟨j.val, by omega⟩
      + C (ix2 0 j) * Cert.UpIdeal.Gated.back U W 2 r ⟨j.val, by omega⟩ + asRow B (ix2 0 j))
    * Ideal.logistic (C (ix2 2 j) * Cert.UpIdeal.Gated.gate U W r ⟨j.val, by omega⟩ + C (ix2 1 j) * Cert.UpIdeal.Gated.back U W 1 r ⟨j.val, by omega⟩
      + C (ix2 0 j) * Cert.UpIdeal.Gated.back U W 2 r ⟨j.val, by omega⟩ + asRow B (ix2 0 j)) * Cert.UpIdeal.Gated.gate U W r ⟨11008 + j.val, by omega⟩
  rw [hb, hr]
  have hsum : ∀ x y z : EReal, 0 + x + y + z = z + y + x := fun x y z => by
    rw [zero_add, add_comm (x + y) z, add_comm x y, ← add_assoc]
  rw [hsum]

end Cert.UpRefIdeal.Gated

namespace Cert.UpIdeal.Gated

open Cert.UpIdeal Cert.UpIdeal.Gen Cert.Proof.UpIdealRun

variable (m : (ℓ : Loc nD τ sig) → Buf (Elt Ideal) ℓ) (ρ : Dev nD → PrngReg)

/-- The pipeline finds the weights as launched, whose change of format changes no value here, -/
theorem entry_weights (c : Dev nD) : (V m c main_v0 : FVec Ideal S4096x22016 .bf16) = (m ((c : Thread nD τ).loc main_arg1) : FVec Ideal S4096x22016 .f32) := by
  show StableHlo.after hostOps0 _ (Proc.devRef .tc main_v0) = _
  after_results
  rfl

/-- and the bias as a row. -/
theorem entry_bias (c : Dev nD) : V m c main_v1 = Cert.UpRefIdeal.Gated.asRow (m ((c : Thread nD τ).loc main_arg3)) := by
  show StableHlo.after hostOps0 _ (Proc.devRef .tc main_v1) = _
  after_results
  rfl

/-- The result as the kernel leaves it, a function of the arguments. -/
theorem ends_at (c : Dev nD) : (dats m 0 c).arrAt 5 cfg0.N
    = glu (m ((c : Thread nD τ).loc main_arg0)) (m ((c : Thread nD τ).loc main_arg1)) (m ((c : Thread nD τ).loc main_arg2))
        (Cert.UpRefIdeal.Gated.asRow (m ((c : Thread nD τ).loc main_arg3))) := by
  rw [result_eq, V_main_arg0, V_main_arg2, entry_bias]
  exact congrArg (fun w => glu _ w _ _) (entry_weights m c)

end Cert.UpIdeal.Gated

namespace Cert.Proof.UpClaim

/-- Kernel and reference end with the same gated array, of any extended reals. -/
theorem equal : Cert.algebraic_UpIdeal_UpRefIdeal := by
  intro m ρ m' ρ' _ hagree
  refine ⟨fun c => Cert.UpIdeal.Gated.glu (m ((c : Thread Cert.UpIdeal.nD Cert.UpIdeal.τ).loc Cert.UpIdeal.main_arg0))
    (m ((c : Thread Cert.UpIdeal.nD Cert.UpIdeal.τ).loc Cert.UpIdeal.main_arg1)) (m ((c : Thread Cert.UpIdeal.nD Cert.UpIdeal.τ).loc Cert.UpIdeal.main_arg2))
    (Cert.UpRefIdeal.Gated.asRow (m ((c : Thread Cert.UpIdeal.nD Cert.UpIdeal.τ).loc Cert.UpIdeal.main_arg3))), ?_, ?_⟩
  · refine (θ_run Cert.UpIdeal.defs _ _).mono (fun _ h c => ⟨?_, h.2.1 c⟩)
      (θ_run_and (Cert.Proof.UpIdealRun.run_main (F := Ideal) m ρ) (Cert.Proof.UpIdealRun.ends (F := Ideal) m ρ))
    exact ((h.1.1 c).1 5).trans (Cert.UpIdeal.Gated.ends_at m c)
  · refine (θ_run Cert.UpRefIdeal.defs _ _).mono (fun _ h c => ⟨(h c).1.trans ?_, (h c).2⟩)
      (Cert.UpRefIdeal.Value.run (F := Ideal) m' ρ')
    obtain ⟨h0, h1, h2, h3⟩ := hagree c
    rw [Cert.UpRefIdeal.Gated.result_eq, h0, h1, h2, h3]
    exact Cert.UpRefIdeal.Gated.gated_eq _ _ _ _

end Cert.Proof.UpClaim

end
-- ==== Proof.StartRun.lean ====
/- The start of the first layer, its modulated norm and projection: what a run of the two pipelines leaves in the result array. -/
module

public import proofs.«01_k».proof.Proof.Gen.StartIdeal.Frame

@[expose] public section

set_option maxRecDepth 16384

noncomputable section

namespace Cert.StartIdeal.Launched

open Cert.StartIdeal Cert.StartIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every run from zero counters ends with the result array at the contents that the last pipeline leaves
    and with the argument arrays as launched. -/
theorem ends : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.StartIdeal.Launched

end
-- ==== Proof.StartValue.lean ====
/- The start of the first layer: the modulated norm of the rows and its projection, as the kernel's two pipelines leave
   them. -/
module

public import proofs.«01_k».proof.Defs
public import proofs.«01_k».proof.Proof.StartRun
public import Idealize.ShloMosaic.Lib.ValueIdx
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Norm

/-- A row less its mean, over the square root of its variance, with a small number added to that. -/
def plain (z : Fin 4096 → EReal) (j : Fin 4096) : EReal :=
  (z j - Ideal.div (∑ x : Fin 4096, z x) (Ideal.ofBits .f32 0x45800000#32))
    * Ideal.rsqrt (Ideal.div (∑ x : Fin 4096,
          (z x - Ideal.div (∑ y : Fin 4096, z y) (Ideal.ofBits .f32 0x45800000#32))
            * (z x - Ideal.div (∑ y : Fin 4096, z y) (Ideal.ofBits .f32 0x45800000#32)))
        (Ideal.ofBits .f32 0x45800000#32) + Ideal.ofBits .f32 0x3727C5AC#32)

end Cert.Norm

namespace Cert.StartIdeal.Modulated

open Cert.StartIdeal Cert.StartIdeal.Gen

variable (m : (ℓ : Loc nD τ sig) → Buf (Elt Ideal) ℓ) (ρ : Dev nD → PrngReg)
variable (V : (c : Dev nD) → (b : Ref sig .tc) → Buf (Elt Ideal) ((c : Thread nD τ).loc b))

/-- The modulated norm of every row. The scale and the shift of a row are those of its batch entry, the second and the
    first of the layer's six rows of 4096. -/
def normed (X : FVec Ideal S8192x4096 .f32) (M : FVec Ideal S24x1x4096 .f32) : FVec Ideal S8192x4096 .bf16 := fun i =>
  Norm.plain (fun x => X (ix2 (i 0) x)) (i 1)
      * (1 + M (ix3 ⟨1 + 6 * ((i 0).val / 4096), by have h : (i 0).val < 8192 := (i 0).isLt; omega⟩ 0 (i 1)))
    + M (ix3 ⟨6 * ((i 0).val / 4096), by have h : (i 0).val < 8192 := (i 0).isLt; omega⟩ 0 (i 1))

/-- The product of the rows by the weights, entry by entry. -/
def prod (A : FVec Ideal S8192x4096 .bf16) (B : FVec Ideal S4096x12288 .bf16) : FVec Ideal S8192x12288 .bf16 :=
  fun i => ∑ k : Fin 4096, A (ix2 (i 0) k) * B (ix2 k (i 1))

/-- Where the blocks of the norm's pipeline sit at grid point `t`. -/
theorem place0 : ∀ t : Fin cfg0.N, win0_0.index t = ![t.val, 0] ∧ win0_1.index t = ![1 + 6 * (t.val / 32), 0, 0]
    ∧ win0_2.index t = ![6 * (t.val / 32), 0, 0] ∧ win0_3.index t = ![t.val, 0] ∧ t.val < 64 :=
  (by decide +kernel : ∀ t : Fin grid0.N, _)

/-- The body's rows at a grid point are the whole array's rows where the block sits. -/
theorem block0 (c : Dev nD) (t : Fin cfg0.N) (y) : k0_pay1 (iblk0 V c 0 t) (iblk0 V c 1 t) (iblk0 V c 2 t) y
    = normed (V c main_v1) (V c main_v0) (((cfg0.win 3).blk t).view.emb y) := by
  pointwise [k0_pay1, normed, Norm.plain]
  blk_point [iblk0, place0 t]

/-- The first pipeline leaves the modulated norm. -/
theorem normed_eq (c : Dev nD) : (dat0 V c).arrAt 3 cfg0.N = normed (V c main_v1) (V c main_v0) := by
  refine (dat0 V c).arrAt_eq_of_covers 3 _ (by decide +kernel) fun t _ y => ?_
  blk_simp
  rw [after0_3]; frame_out
  exact block0 V c t y

/-- Where the blocks of the product's pipeline sit at grid point `t`. -/
theorem place1 : ∀ t : Fin cfg1.N, win1_0.index t = ![(grid1.coords t 0).val, 0] ∧ win1_1.index t = ![0, (grid1.coords t 1).val]
    ∧ win1_2.index t = ![(grid1.coords t 0).val, (grid1.coords t 1).val] :=
  (by decide +kernel : ∀ t : Fin grid1.N, _)

/-- The block product at a grid point is the whole product where the block sits. -/
theorem block1 (c : Dev nD) (t : Fin cfg1.N) (y) : k1_pay1 (iblk1 V c 0 t) (iblk1 V c 1 t) y
    = prod (V c main_v2) (V c main_v3) (((cfg1.win 2).blk t).view.emb y) := by
  pointwise [k1_pay1, prod]
  blk_point [iblk1, place1 t]

/-- The second pipeline leaves the whole product. -/
theorem product_eq (c : Dev nD) : (dat1 V c).arrAt 2 cfg1.N = prod (V c main_v2) (V c main_v3) := by
  refine (dat1 V c).arrAt_eq_of_covers 2 _ (by decide +kernel) fun t _ y => ?_
  blk_simp
  rw [after1_2]; frame_out
  exact block1 V c t y

/-- The first pipeline finds the input by rows -/
theorem entry_rows (c : Dev nD) : V1 m ρ c main_v1 = shapeCast S8192x4096 (m ((c : Thread nD τ).loc main_arg0)) Gen.shapeCasts_S2x4096x4096_S8192x4096 := by
  show StableHlo.after hostOps0 (W0 m ρ c) (Proc.devRef .tc main_v1) = _
  after_results
  rfl
/-- and the modulations by rows. -/
theorem entry_mods (c : Dev nD) : V1 m ρ c main_v0 = shapeCast S24x1x4096 (m ((c : Thread nD τ).loc main_arg1)) Gen.shapeCasts_S2x2x24576_S24x1x4096 := by
  show StableHlo.after hostOps0 (W0 m ρ c) (Proc.devRef .tc main_v0) = _
  after_results
  rfl
/-- The second finds what the first left, -/
theorem entry_normed (c : Dev nD) : V3 m ρ c main_v2 = (dat0 (V1 m ρ) c).arrAt 3 cfg0.N :=
  (W3_of m ρ c main_v2 (by decide)).trans (W2_arr m ρ c 3)
/-- and the weights, whose change of format changes no value here. -/
theorem entry_weights (c : Dev nD) : (V3 m ρ c main_v3 : FVec Ideal S4096x12288 .bf16) = (m ((c : Thread nD τ).loc main_arg2) : FVec Ideal S4096x12288 .f32) := by
  show StableHlo.after hostOps1 (W2 m ρ c) (Proc.devRef .tc main_v3) = _
  after_results
  rw [W2_args m ρ c main_arg2 (by decide)]
  rfl

/-- The projection as the kernel leaves it, a function of the arguments. -/
theorem ends_at (c : Dev nD) : W4 m ρ c (Proc.devRef .tc main_v4)
    = prod (normed (shapeCast S8192x4096 (m ((c : Thread nD τ).loc main_arg0)) Gen.shapeCasts_S2x4096x4096_S8192x4096)
        (shapeCast S24x1x4096 (m ((c : Thread nD τ).loc main_arg1)) Gen.shapeCasts_S2x2x24576_S24x1x4096)) (m ((c : Thread nD τ).loc main_arg2)) := by
  refine (W4_arr m ρ c 2).trans ((product_eq (V3 m ρ) c).trans ?_)
  rw [entry_normed, normed_eq, entry_rows, entry_mods]
  exact congrArg (fun w => prod _ w) (entry_weights m ρ c)

end Cert.StartIdeal.Modulated

end
-- ==== Proof.StartRef.lean ====
/- The start of the first layer as the reference writes it, over two batch entries of 4096 rows, is the array that the
   kernel's pipelines leave, over 8192 rows. -/
module

public import proofs.«01_k».proof.Proof.StartValue
public import proofs.«01_k».proof.Proof.Gen.StartRefIdeal.Run

@[expose] public section

set_option maxRecDepth 16384

noncomputable section

open Idealize.ShloMosaic Idealize.ShloMosaic.TcCoe Idealize.SL.Sem

namespace Cert.StartRefIdeal.Modulated

open Cert.StartRefIdeal Cert.StartRefIdeal.Gen

/-- The norm of every row, without scale and shift. -/
def hostNorm (T : FVec Ideal S2x4096x4096 .f32) : FVec Ideal S2x4096x4096 .f32 :=
  mulf (subf T (broadcastInDim S2x4096x4096 ![0, 1, 2] bcast_S2x4096x1_S2x4096x4096_0_1_2 (Host.divf (broadcastInDim S2x4096x1 ![0, 1] bcast_S2x4096_S2x4096x1_0_1 (Host.reduceAdd T (constant S_ .f32 0x00000000#32) reducesTo_S2x4096x4096_S2x4096_d2 h_S_)) (broadcastInDim S2x4096x1 ![] bcast_S_S2x4096x1 (constant S_ .f32 0x45800000#32))))) (broadcastInDim S2x4096x4096 ![0, 1, 2] bcast_S2x4096x1_S2x4096x4096_0_1_2 (Host.rsqrt (addf (Host.divf (broadcastInDim S2x4096x1 ![0, 1] bcast_S2x4096_S2x4096x1_0_1 (Host.reduceAdd (mulf (subf T (broadcastInDim S2x4096x4096 ![0, 1, 2] bcast_S2x4096x1_S2x4096x4096_0_1_2 (Host.divf (broadcastInDim S2x4096x1 ![0, 1] bcast_S2x4096_S2x4096x1_0_1 (Host.reduceAdd T (constant S_ .f32 0x00000000#32) reducesTo_S2x4096x4096_S2x4096_d2 h_S_)) (broadcastInDim S2x4096x1 ![] bcast_S_S2x4096x1 (constant S_ .f32 0x45800000#32))))) (subf T (broadcastInDim S2x4096x4096 ![0, 1, 2] bcast_S2x4096x1_S2x4096x4096_0_1_2 (Host.divf (broadcastInDim S2x4096x1 ![0, 1] bcast_S2x4096_S2x4096x1_0_1 (Host.reduceAdd T (constant S_ .f32 0x00000000#32) reducesTo_S2x4096x4096_S2x4096_d2 h_S_)) (broadcastInDim S2x4096x1 ![] bcast_S_S2x4096x1 (constant S_ .f32 0x45800000#32)))))) (constant S_ .f32 0x00000000#32) reducesTo_S2x4096x4096_S2x4096_d2 h_S_)) (broadcastInDim S2x4096x1 ![] bcast_S_S2x4096x1 (constant S_ .f32 0x45800000#32))) (broadcastInDim S2x4096x1 ![] bcast_S_S2x4096x1 (constant S_ .f32 0x3727C5AC#32)))))

/-- The modulation of a normed array by the first layer's second and first groups of 4096. -/
def hostMod (N : FVec Ideal S2x4096x4096 .f32) (M : FVec Ideal S2x2x24576 .f32) : FVec Ideal S2x4096x4096 .f32 :=
  addf (mulf N (broadcastInDim S2x4096x4096 ![0, 1, 2] bcast_S2x1x4096_S2x4096x4096_0_1_2 (addf (broadcastInDim S2x1x4096 ![] bcast_S_S2x1x4096 (constant S_ .f32 0x3F800000#32)) (broadcastInDim S2x1x4096 ![0, 2] bcast_S2x4096_S2x1x4096_0_2 (extractStridedSlice S2x4096 ![0, 4096] (shapeCast S2x24576 (extractStridedSlice S1x2x24576 ![0, 0, 0] M slices_S2x2x24576_S1x2x24576_0_0_0) shapeCasts_S1x2x24576_S2x24576) slices_S2x24576_S2x4096_0_4096))))) (broadcastInDim S2x4096x4096 ![0, 1, 2] bcast_S2x1x4096_S2x4096x4096_0_1_2 (broadcastInDim S2x1x4096 ![0, 2] bcast_S2x4096_S2x1x4096_0_2 (extractStridedSlice S2x4096 ![0, 0] (shapeCast S2x24576 (extractStridedSlice S1x2x24576 ![0, 0, 0] M slices_S2x2x24576_S1x2x24576_0_0_0) shapeCasts_S1x2x24576_S2x24576) slices_S2x24576_S2x4096_0_0)))

/-- The projection of an array, laid out over 8192 rows. -/
def hostProd (U : FVec Ideal S2x4096x4096 .f32) (W : FVec Ideal S4096x12288 .f32) : FVec Ideal S8192x12288 .bf16 :=
  truncf .bf16 (shapeCast S8192x12288 (Host.dotGeneral (φ₁ := .f32) (φ₂ := .f32) dot_S2x4096x4096_S4096x12288_S2x4096x12288_2_0_01_1_n_n none U W) shapeCasts_S2x4096x12288_S8192x12288) bitsLt_bf16_f32

/-- Every run of the reference ends with the projection of the modulated norm, and with the arguments as launched. -/
theorem run_hosts (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = hostProd (hostMod (hostNorm (m ((c.tc : Thread nD τ).loc main_arg0))) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2⟩) (Cert.StartRefIdeal.Value.run (F := Ideal) m ρ)

/-- An entry of the norm. -/
theorem hostNorm_at (T : FVec Ideal S2x4096x4096 .f32) (b : Fin 2) (r j : Fin 4096) :
    hostNorm T (ix3 b r j) = Norm.plain (fun x => T (ix3 b r x)) j := by
  unfold Norm.plain
  pointwise [hostNorm]

/-- An entry of a modulated array. -/
theorem hostMod_at (N : FVec Ideal S2x4096x4096 .f32) (M : FVec Ideal S2x2x24576 .f32) (b : Fin 2) (r j : Fin 4096) :
    hostMod N M (ix3 b r j) = N (ix3 b r j) * (1 + M (ix3 0 b ⟨4096 + j.val, by omega⟩)) + M (ix3 0 b ⟨j.val, by omega⟩) := by
  pointwise [hostMod]

/-- An entry of the projection. -/
theorem hostProd_at (U : FVec Ideal S2x4096x4096 .f32) (W : FVec Ideal S4096x12288 .f32) (r : Fin 8192) (j : Fin 12288) :
    hostProd U W (ix2 r j) = ∑ k : Fin 4096, U (ix3 ⟨r.val / 4096, by omega⟩ ⟨r.val % 4096, by omega⟩ k) * W (ix2 k j) := by
  pointwise [hostProd]

/-- The rows of the input, 8192 of them. -/
abbrev rows (X : FVec Ideal S2x4096x4096 .f32) : FVec Ideal Cert.StartIdeal.S8192x4096 .f32 :=
  shapeCast Cert.StartIdeal.S8192x4096 X Cert.StartIdeal.Gen.shapeCasts_S2x4096x4096_S8192x4096

/-- The rows of the modulations, 24 of 4096. -/
abbrev mods (M : FVec Ideal S2x2x24576 .f32) : FVec Ideal Cert.StartIdeal.S24x1x4096 .f32 :=
  shapeCast Cert.StartIdeal.S24x1x4096 M Cert.StartIdeal.Gen.shapeCasts_S2x2x24576_S24x1x4096

/-- An entry of a row of the input. -/
theorem rows_at (X : FVec Ideal S2x4096x4096 .f32) (r : Fin 8192) (j : Fin 4096) :
    rows X (ix2 r j) = X (ix3 ⟨r.val / 4096, by omega⟩ ⟨r.val % 4096, by omega⟩ j) := by
  pointwise [rows]

/-- An entry of the first layer's modulations, in group `g` of batch entry `b`. -/
theorem mods_at (M : FVec Ideal S2x2x24576 .f32) (g : Fin 6) (b : Fin 2) (j : Fin 4096) (q : Fin 24) (hq : q.val = g.val + 6 * b.val)
    (p : Fin 24576) (hp : p.val = g.val * 4096 + j.val) : mods M (ix3 q 0 j) = M (ix3 0 b p) := by
  pointwise [mods]
  have hb := b.isLt
  have hg := g.isLt
  have hj := j.isLt
  congr 1
  funext a
  apply Fin.ext
  match a with
  | ⟨0, _⟩ => show q.val / 12 = 0; omega
  | ⟨1, _⟩ => show q.val / 6 % 2 = b.val; omega
  | ⟨2, _⟩ => show q.val % 6 * 4096 + j.val = p.val; omega

/-- The reference's projection is the kernel's. -/
theorem start_eq (X : FVec Ideal S2x4096x4096 .f32) (M : FVec Ideal S2x2x24576 .f32) (W : FVec Ideal S4096x12288 .f32) :
    hostProd (hostMod (hostNorm X) M) W = Cert.StartIdeal.Modulated.prod (Cert.StartIdeal.Modulated.normed (rows X) (mods M)) W := by
  funext i
  idx_vars i
  revert i0 i1
  intro r j
  rw [hostProd_at]
  unfold Cert.StartIdeal.Modulated.prod
  refine Finset.sum_congr rfl fun k _ => congrArg (· * W (ix2 k j)) ?_
  have hr := r.isLt
  rw [hostMod_at, hostNorm_at]
  unfold Cert.StartIdeal.Modulated.normed
  show _ = Norm.plain (fun x => rows X (ix2 r x)) k * (1 + mods M (ix3 ⟨1 + 6 * (r.val / 4096), by omega⟩ 0 k)) + mods M (ix3 ⟨6 * (r.val / 4096), by omega⟩ 0 k)
  rw [mods_at M 1 ⟨r.val / 4096, by omega⟩ k _ rfl ⟨4096 + k.val, by omega⟩ (by show 4096 + k.val = 1 * 4096 + k.val; omega),
    mods_at M 0 ⟨r.val / 4096, by omega⟩ k _ (by show 6 * (r.val / 4096) = 0 + 6 * (r.val / 4096); omega) ⟨k.val, by omega⟩ (by show k.val = 0 * 4096 + k.val; omega)]
  simp only [rows_at]

end Cert.StartRefIdeal.Modulated

namespace Cert.Proof.StartClaim

/-- Kernel and reference end with the same projection, of any input, modulations and weights. -/
theorem equal : Cert.algebraic_StartIdeal_StartRefIdeal := by
  intro m ρ m' ρ' _ hagree
  refine ⟨fun c => Cert.StartIdeal.Gen.W4 m ρ c (Proc.devRef .tc Cert.StartIdeal.main_v4), Cert.StartIdeal.Launched.ends m ρ, ?_⟩
  refine (θ_run Cert.StartRefIdeal.defs _ _).mono (fun _ h c => ⟨(h c).1.trans ?_, (h c).2⟩)
    (Cert.StartRefIdeal.Modulated.run_hosts m' ρ')
  obtain ⟨h0, h1, h2⟩ := hagree c
  rw [h0, h1, h2, Cert.StartRefIdeal.Modulated.start_eq]
  exact (Cert.StartIdeal.Modulated.ends_at m ρ c).symm

end Cert.Proof.StartClaim

end
-- ==== Proof.MidRun.lean ====
/- Between the first layer's two parts, the output projection and the two norms: what a run of the two pipelines leaves in the two result arrays. -/
module

public import proofs.«01_k».proof.Proof.Gen.MidIdeal.Frame

@[expose] public section

set_option maxRecDepth 16384

noncomputable section

namespace Cert.MidIdeal.Launched

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every run from zero counters ends with the result arrays at the contents that the last pipeline leaves
    and with the argument arrays as launched. -/
theorem ends : θ_run defs (onTc (τ := τ) (main (F := F))) ⟨m, fun _ => 0, ρ⟩ (fun r => ∀ c : Dev nD,
      r.2.mem ((c.tc : Thread nD τ).loc main_v5_0) = W4 m ρ c (Proc.devRef .tc main_v5_0)
      ∧ r.2.mem ((c.tc : Thread nD τ).loc main_v5_1) = W4 m ρ c (Proc.devRef .tc main_v5_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v5_0 (by decide)),
       h c _ (mem_uc main_v5_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.MidIdeal.Launched

end
-- ==== Proof.MidValue.lean ====
/- Between the first layer's two parts: the output projection, the gated residual, its norm, and the modulated norm of
   that, as the kernel's two pipelines leave them. -/
module

public import proofs.«01_k».proof.Defs
public import proofs.«01_k».proof.Proof.MidRun
public import proofs.«01_k».proof.Proof.StartValue
public import Idealize.ShloMosaic.Lib.ValueIdx
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MidIdeal.Between

open Cert.MidIdeal Cert.MidIdeal.Gen

variable (m : (ℓ : Loc nD τ sig) → Buf (Elt Ideal) ℓ) (ρ : Dev nD → PrngReg)
variable (V : (c : Dev nD) → (b : Ref sig .tc) → Buf (Elt Ideal) ((c : Thread nD τ).loc b))

/-- The product of the attention's rows by the weights, entry by entry. -/
def prod (A : FVec Ideal S8192x4096 .bf16) (B : FVec Ideal S4096x4096 .bf16) : FVec Ideal S8192x4096 .f32 :=
  fun i => ∑ k : Fin 4096, A (ix2 (i 0) k) * B (ix2 k (i 1))

/-- Where the blocks of the product's pipeline sit at grid point `t`. -/
theorem place0 : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The block product at a grid point is the whole product where the block sits. -/
theorem block0 (c : Dev nD) (t : Fin cfg0.N) (y) : k0_pay1 (iblk0 V c 0 t) (iblk0 V c 1 t) y
    = prod (V c main_arg0) (V c main_v1) (((cfg0.win 2).blk t).view.emb y) := by
  pointwise [k0_pay1, prod]
  blk_point [iblk0, place0 t]

/-- The first pipeline leaves the whole product. -/
theorem product_eq (c : Dev nD) : (dat0 V c).arrAt 2 cfg0.N = prod (V c main_arg0) (V c main_v1) := by
  refine (dat0 V c).arrAt_eq_of_covers 2 _ (by decide +kernel) fun t _ y => ?_
  blk_simp
  rw [after0_2]; frame_out
  exact block0 V c t y

/-- The residual sum at row `r`, column `j`: the scaled residual plus the gated product. The gate of a row is that of
    its batch entry, the third of the layer's six rows of 4096. -/
def mixed (X H : FVec Ideal S8192x4096 .f32) (M : FVec Ideal S24x1x4096 .f32) (r : Fin 8192) (j : Fin 4096) : EReal :=
  Ideal.ofBits .f32 0x3FB504F3#32 * X (ix2 r j) + M (ix3 ⟨2 + 6 * (r.val / 4096), by omega⟩ 0 j) * H (ix2 r j)

/-- The residual sum's norm at row `r`, column `j`, scaled and shifted. -/
def scaled (X H : FVec Ideal S8192x4096 .f32) (M : FVec Ideal S24x1x4096 .f32) (G B : FVec Ideal S1x4096 .f32)
    (r : Fin 8192) (j : Fin 4096) : EReal :=
  Norm.plain (mixed X H M r) j * G (ix2 0 j) + B (ix2 0 j)

/-- The array of these, the new residual. -/
def residual (X H : FVec Ideal S8192x4096 .f32) (M : FVec Ideal S24x1x4096 .f32) (G B : FVec Ideal S1x4096 .f32) :
    FVec Ideal S8192x4096 .f32 := fun i => scaled X H M G B (i 0) (i 1)

/-- The modulated norm of the new residual. The scale and the shift of a row are the fifth and the fourth of the six
    rows of its batch entry. -/
def modulated (X H : FVec Ideal S8192x4096 .f32) (M : FVec Ideal S24x1x4096 .f32) (G B : FVec Ideal S1x4096 .f32) :
    FVec Ideal S8192x4096 .bf16 := fun i =>
  Norm.plain (scaled X H M G B (i 0)) (i 1)
      * (1 + M (ix3 ⟨4 + 6 * ((i 0).val / 4096), by have h : (i 0).val < 8192 := (i 0).isLt; omega⟩ 0 (i 1)))
    + M (ix3 ⟨3 + 6 * ((i 0).val / 4096), by have h : (i 0).val < 8192 := (i 0).isLt; omega⟩ 0 (i 1))

/-- Where the blocks of the norms' pipeline sit at grid point `t`. -/
theorem place1 : ∀ t : Fin cfg1.N, win1_0.index t = ![t.val, 0] ∧ win1_1.index t = ![t.val, 0]
    ∧ win1_2.index t = ![2 + 6 * (t.val / 32), 0, 0] ∧ win1_3.index t = ![0, 0] ∧ win1_4.index t = ![0, 0]
    ∧ win1_5.index t = ![4 + 6 * (t.val / 32), 0, 0] ∧ win1_6.index t = ![3 + 6 * (t.val / 32), 0, 0]
    ∧ win1_7.index t = ![t.val, 0] ∧ win1_8.index t = ![t.val, 0] ∧ t.val < 64 :=
  (by decide +kernel : ∀ t : Fin grid1.N, _)

/-- The body's first rows at a grid point are the new residual's where the block sits. -/
theorem block1 (c : Dev nD) (t : Fin cfg1.N) (y) :
    k1_pay2 (iblk1 V c 0 t) (iblk1 V c 2 t) (iblk1 V c 1 t) (iblk1 V c 3 t) (iblk1 V c 4 t) y
    = residual (V c main_arg1) (V c main_v2) (V c main_v0) (V c main_v3) (V c main_v4) (((cfg1.win 7).blk t).view.emb y) := by
  pointwise [k1_pay2, residual, scaled, Norm.plain, mixed]
  blk_point [iblk1, place1 t]

/-- The second pipeline leaves the new residual. -/
theorem residual_eq (c : Dev nD) : (dat1 V c).arrAt 7 cfg1.N
    = residual (V c main_arg1) (V c main_v2) (V c main_v0) (V c main_v3) (V c main_v4) := by
  refine (dat1 V c).arrAt_eq_of_covers 7 _ (by decide +kernel) fun t _ y => ?_
  blk_simp
  rw [after1_7]; frame_out
  exact block1 V c t y

/-- The sums of the rows of a block. -/
def rowSums (Z : FVec Ideal S128x4096 .f32) : FVec Ideal S128x1 .f32 :=
  shapeCast S128x1 (multiReduction .add [1] S128 Z 0x00000000#32 reduces_S128x4096_S128 (.inl rfl) rfl) shapeCasts_S128_S128x1

/-- The body's second rows, from its first: their modulated norm. -/
theorem modulated_at (Z : FVec Ideal S128x4096 .f32) (x5 x6 : Vec Ideal S1x1x4096 .f32) (a : Fin 128) (j : Fin 4096) :
    k1_pay1 (F := Ideal) Z (rowSums Z) (Scalar.ofBits .f32 0x45800000#32) x5 x6 (ix2 a j)
      = Norm.plain (fun x => Z (ix2 a x)) j * (1 + x5 (ix3 0 0 j)) + x6 (ix3 0 0 j) := by
  unfold Norm.plain
  pointwise [k1_pay1, rowSums]

/-- The row of the whole array at which row `a` of the block at grid point `t` lies. -/
def rowAt (t : Fin cfg1.N) (a : Fin 128) : Fin 8192 := ⟨t.val * 128 + a.val, by have := (place1 t).2.2.2.2.2.2.2.2.2; omega⟩

/-- Where the residual's block at a grid point lies. -/
theorem spot7 (t : Fin cfg1.N) (a : Fin 128) (j : Fin 4096) :
    ((cfg1.win 7).blk t).view.emb (ix2 a j) = (ix2 (rowAt t a) j : S8192x4096.Idx) := by
  have h := (place1 t).2.2.2.2.2.2.2.1
  funext d
  apply Fin.ext
  match d with
  | ⟨0, _⟩ => show win1_7.index t 0 * 128 + 1 * a.val = t.val * 128 + a.val; rw [h]; show t.val * 128 + 1 * a.val = _; omega
  | ⟨1, _⟩ => show win1_7.index t 1 * 4096 + 1 * j.val = j.val; rw [h]; show 0 * 4096 + 1 * j.val = _; omega

/-- Where the modulated norm's block at a grid point lies. -/
theorem spot8 (t : Fin cfg1.N) (a : Fin 128) (j : Fin 4096) :
    ((cfg1.win 8).blk t).view.emb (ix2 a j) = (ix2 (rowAt t a) j : S8192x4096.Idx) := by
  have h := (place1 t).2.2.2.2.2.2.2.2.1
  funext d
  apply Fin.ext
  match d with
  | ⟨0, _⟩ => show win1_8.index t 0 * 128 + 1 * a.val = t.val * 128 + a.val; rw [h]; show t.val * 128 + 1 * a.val = _; omega
  | ⟨1, _⟩ => show win1_8.index t 1 * 4096 + 1 * j.val = j.val; rw [h]; show 0 * 4096 + 1 * j.val = _; omega

/-- The scale's block at a grid point is the scale of its rows' batch entry. -/
theorem scale_block (c : Dev nD) (t : Fin cfg1.N) (a : Fin 128) (j : Fin 4096) :
    iblk1 V c 5 t (ix3 0 0 j) = V c main_v0 (ix3 ⟨4 + 6 * ((rowAt t a).val / 4096), by omega⟩ 0 j) := by
  have h := (place1 t).2.2.2.2.2.1
  refine congrArg (V c main_v0) (?_ : ((cfg1.win 5).blk t).view.emb (ix3 0 0 j) = _)
  funext d
  apply Fin.ext
  match d with
  | ⟨0, _⟩ =>
    show win1_5.index t 0 * 1 + 1 * 0 = 4 + 6 * ((t.val * 128 + a.val) / 4096)
    rw [h]; show (4 + 6 * (t.val / 32)) * 1 + 1 * 0 = _; omega
  | ⟨1, _⟩ => show win1_5.index t 1 * 1 + 1 * 0 = 0; rw [h]; rfl
  | ⟨2, _⟩ => show win1_5.index t 2 * 4096 + 1 * j.val = j.val; rw [h]; show 0 * 4096 + 1 * j.val = _; omega

/-- The shift's block at a grid point is the shift of its rows' batch entry. -/
theorem shift_block (c : Dev nD) (t : Fin cfg1.N) (a : Fin 128) (j : Fin 4096) :
    iblk1 V c 6 t (ix3 0 0 j) = V c main_v0 (ix3 ⟨3 + 6 * ((rowAt t a).val / 4096), by omega⟩ 0 j) := by
  have h := (place1 t).2.2.2.2.2.2.1
  refine congrArg (V c main_v0) (?_ : ((cfg1.win 6).blk t).view.emb (ix3 0 0 j) = _)
  funext d
  apply Fin.ext
  match d with
  | ⟨0, _⟩ =>
    show win1_6.index t 0 * 1 + 1 * 0 = 3 + 6 * ((t.val * 128 + a.val) / 4096)
    rw [h]; show (3 + 6 * (t.val / 32)) * 1 + 1 * 0 = _; omega
  | ⟨1, _⟩ => show win1_6.index t 1 * 1 + 1 * 0 = 0; rw [h]; rfl
  | ⟨2, _⟩ => show win1_6.index t 2 * 4096 + 1 * j.val = j.val; rw [h]; show 0 * 4096 + 1 * j.val = _; omega

/-- The new residual at a row and a column. -/
theorem residual_ix (X H : FVec Ideal S8192x4096 .f32) (M : FVec Ideal S24x1x4096 .f32) (G B : FVec Ideal S1x4096 .f32)
    (r : Fin 8192) (j : Fin 4096) : residual X H M G B (ix2 r j) = scaled X H M G B r j := rfl

/-- A row of the body's first rows is a row of the new residual. -/
theorem row_block (c : Dev nD) (t : Fin cfg1.N) (a : Fin 128) :
    (fun x : Fin 4096 => k1_pay2 (iblk1 V c 0 t) (iblk1 V c 2 t) (iblk1 V c 1 t) (iblk1 V c 3 t) (iblk1 V c 4 t) (ix2 a x))
      = scaled (V c main_arg1) (V c main_v2) (V c main_v0) (V c main_v3) (V c main_v4) (rowAt t a) :=
  funext fun x => by
    rw [← residual_ix, ← spot7]
    exact block1 V c t (ix2 a x)

/-- The body's row sums are the sums of its first rows. -/
theorem sums_eq (x0 : Vec Ideal S128x4096 .f32) (x2 : Vec Ideal S1x1x4096 .f32) (x1 : Vec Ideal S128x4096 .f32) (x3 x4 : Vec Ideal S1x4096 .f32) :
    k1_pay3 (F := Ideal) x0 x2 x1 x3 x4 = rowSums (k1_pay2 x0 x2 x1 x3 x4) := rfl

/-- The modulated norm at a row and a column. -/
theorem modulated_ix (X H : FVec Ideal S8192x4096 .f32) (M : FVec Ideal S24x1x4096 .f32) (G B : FVec Ideal S1x4096 .f32)
    (r : Fin 8192) (j : Fin 4096) : modulated X H M G B (ix2 r j)
      = Norm.plain (scaled X H M G B r) j * (1 + M (ix3 ⟨4 + 6 * (r.val / 4096), by omega⟩ 0 j))
        + M (ix3 ⟨3 + 6 * (r.val / 4096), by omega⟩ 0 j) := rfl

/-- The body's second rows at a grid point are the modulated norm's where the block sits. -/
theorem block2 (c : Dev nD) (t : Fin cfg1.N) (y) :
    k1_pay1 (k1_pay2 (iblk1 V c 0 t) (iblk1 V c 2 t) (iblk1 V c 1 t) (iblk1 V c 3 t) (iblk1 V c 4 t))
      (k1_pay3 (iblk1 V c 0 t) (iblk1 V c 2 t) (iblk1 V c 1 t) (iblk1 V c 3 t) (iblk1 V c 4 t)) (Scalar.ofBits .f32 0x45800000#32)
      (iblk1 V c 5 t) (iblk1 V c 6 t) y
    = modulated (V c main_arg1) (V c main_v2) (V c main_v0) (V c main_v3) (V c main_v4) (((cfg1.win 8).blk t).view.emb y) := by
  idx_vars y
  revert y0 y1
  intro a j
  intros
  have e := row_block V c t a
  refine Eq.trans ?_ (congrArg (modulated (V c main_arg1) (V c main_v2) (V c main_v0) (V c main_v3) (V c main_v4)) (spot8 t a j)).symm
  rw [modulated_ix, ← scale_block V c t a j, ← shift_block V c t a j, sums_eq]
  generalize k1_pay2 (iblk1 V c 0 t) (iblk1 V c 2 t) (iblk1 V c 1 t) (iblk1 V c 3 t) (iblk1 V c 4 t) = Z at e ⊢
  rw [← e]
  exact modulated_at Z _ _ a j

/-- The second pipeline leaves the modulated norm in its other array. -/
theorem modulated_eq (c : Dev nD) : (dat1 V c).arrAt 8 cfg1.N
    = modulated (V c main_arg1) (V c main_v2) (V c main_v0) (V c main_v3) (V c main_v4) := by
  refine (dat1 V c).arrAt_eq_of_covers 8 _ (by decide +kernel) fun t _ y => ?_
  blk_simp
  rw [after1_8]; frame_out
  exact block2 V c t y

/-- The first pipeline finds the attention's rows as launched, -/
theorem entry_rows (c : Dev nD) : V1 m ρ c main_arg0 = m ((c : Thread nD τ).loc main_arg0) := W1_args m ρ c main_arg0 (by decide)
/-- and the weights, whose change of format changes no value here. -/
theorem entry_weights (c : Dev nD) : (V1 m ρ c main_v1 : FVec Ideal S4096x4096 .bf16) = (m ((c : Thread nD τ).loc main_arg3) : FVec Ideal S4096x4096 .f32) := by
  show StableHlo.after hostOps0 (W0 m ρ c) (Proc.devRef .tc main_v1) = _
  after_results
  rfl
/-- The second finds the residual as launched, -/
theorem entry_residual (c : Dev nD) : V3 m ρ c main_arg1 = m ((c : Thread nD τ).loc main_arg1) := W3_args m ρ c main_arg1 (by decide)
/-- the product that the first left, -/
theorem entry_product (c : Dev nD) : V3 m ρ c main_v2 = (dat0 (V1 m ρ) c).arrAt 2 cfg0.N :=
  (W3_of m ρ c main_v2 (by decide)).trans (W2_arr m ρ c 2)
/-- the modulations by rows, -/
theorem entry_mods (c : Dev nD) : V3 m ρ c main_v0 = shapeCast S24x1x4096 (m ((c : Thread nD τ).loc main_arg2)) Gen.shapeCasts_S2x2x24576_S24x1x4096 := by
  refine (W3_of m ρ c main_v0 (by decide)).trans ((W2_of m ρ c main_v0 (by decide +kernel)).trans ?_)
  show StableHlo.after hostOps0 (W0 m ρ c) (Proc.devRef .tc main_v0) = _
  after_results
  rfl
/-- the scale as a row -/
theorem entry_scale (c : Dev nD) : V3 m ρ c main_v3 = shapeCast S1x4096 (m ((c : Thread nD τ).loc main_arg4)) Gen.shapeCasts_S4096_S1x4096 := by
  show StableHlo.after hostOps1 (W2 m ρ c) (Proc.devRef .tc main_v3) = _
  after_results
  rw [W2_args m ρ c main_arg4 (by decide)]
  rfl
/-- and the shift as a row. -/
theorem entry_shift (c : Dev nD) : V3 m ρ c main_v4 = shapeCast S1x4096 (m ((c : Thread nD τ).loc main_arg5)) Gen.shapeCasts_S4096_S1x4096 := by
  show StableHlo.after hostOps1 (W2 m ρ c) (Proc.devRef .tc main_v4) = _
  after_results
  rw [W2_args m ρ c main_arg5 (by decide)]
  rfl

/-- The new residual as the kernel leaves it, a function of the arguments. -/
theorem ends_residual (c : Dev nD) : W4 m ρ c (Proc.devRef .tc main_v5_0)
    = residual (m ((c : Thread nD τ).loc main_arg1)) (prod (m ((c : Thread nD τ).loc main_arg0)) (m ((c : Thread nD τ).loc main_arg3)))
        (shapeCast S24x1x4096 (m ((c : Thread nD τ).loc main_arg2)) Gen.shapeCasts_S2x2x24576_S24x1x4096)
        (shapeCast S1x4096 (m ((c : Thread nD τ).loc main_arg4)) Gen.shapeCasts_S4096_S1x4096)
        (shapeCast S1x4096 (m ((c : Thread nD τ).loc main_arg5)) Gen.shapeCasts_S4096_S1x4096) := by
  refine (W4_arr m ρ c 7).trans ((residual_eq (V3 m ρ) c).trans ?_)
  rw [entry_residual, entry_product, entry_mods, entry_scale, entry_shift, product_eq, entry_rows]
  exact congrArg (fun w => residual _ (prod _ w) _ _ _) (entry_weights m ρ c)

/-- The modulated norm as the kernel leaves it, a function of the arguments. -/
theorem ends_modulated (c : Dev nD) : W4 m ρ c (Proc.devRef .tc main_v5_1)
    = modulated (m ((c : Thread nD τ).loc main_arg1)) (prod (m ((c : Thread nD τ).loc main_arg0)) (m ((c : Thread nD τ).loc main_arg3)))
        (shapeCast S24x1x4096 (m ((c : Thread nD τ).loc main_arg2)) Gen.shapeCasts_S2x2x24576_S24x1x4096)
        (shapeCast S1x4096 (m ((c : Thread nD τ).loc main_arg4)) Gen.shapeCasts_S4096_S1x4096)
        (shapeCast S1x4096 (m ((c : Thread nD τ).loc main_arg5)) Gen.shapeCasts_S4096_S1x4096) := by
  refine (W4_arr m ρ c 8).trans ((modulated_eq (V3 m ρ) c).trans ?_)
  rw [entry_residual, entry_product, entry_mods, entry_scale, entry_shift, product_eq, entry_rows]
  exact congrArg (fun w => modulated _ (prod _ w) _ _ _) (entry_weights m ρ c)

end Cert.MidIdeal.Between

end
-- ==== Proof.MidRef.lean ====
/- The step between the layer's two parts as the reference writes it, over two batch entries of 4096 rows, is the pair
   of arrays that the kernel's pipelines leave, over 8192 rows. -/
module

public import proofs.«01_k».proof.Proof.MidValue
public import proofs.«01_k».proof.Proof.StartRef
public import proofs.«01_k».proof.Proof.Gen.MidRefIdeal.Run

@[expose] public section

set_option maxRecDepth 16384

noncomputable section

open Idealize.ShloMosaic Idealize.ShloMosaic.TcCoe Idealize.SL.Sem

namespace Cert.MidRefIdeal.Between

open Cert.MidRefIdeal Cert.MidRefIdeal.Gen

/-- The residual sum: the scaled residual plus the attention's projection, gated by the first layer's third group. -/
def hostSum (A : FVec Ideal S8192x4096 .bf16) (X : FVec Ideal S8192x4096 .f32) (M : FVec Ideal S2x2x24576 .f32)
    (W : FVec Ideal S4096x4096 .f32) : FVec Ideal S2x4096x4096 .f32 :=
  addf (mulf (broadcastInDim S2x4096x4096 ![] bcast_S_S2x4096x4096 (constant S_ .f32 0x3FB504F3#32)) (shapeCast S2x4096x4096 X shapeCasts_S8192x4096_S2x4096x4096)) (mulf (broadcastInDim S2x4096x4096 ![0, 1, 2] bcast_S2x1x4096_S2x4096x4096_0_1_2 (broadcastInDim S2x1x4096 ![0, 2] bcast_S2x4096_S2x1x4096_0_2 (extractStridedSlice S2x4096 ![0, 8192] (shapeCast S2x24576 (extractStridedSlice S1x2x24576 ![0, 0, 0] M slices_S2x2x24576_S1x2x24576_0_0_0) shapeCasts_S1x2x24576_S2x24576) slices_S2x24576_S2x4096_0_8192))) (Host.dotGeneral (φ₁ := .f32) (φ₂ := .f32) dot_S2x4096x4096_S4096x4096_S2x4096x4096_2_0_01_1_n_n none (shapeCast S2x4096x4096 (extf .f32 A bitsLt_bf16_f32) shapeCasts_S8192x4096_S2x4096x4096) W))

/-- The norm of every row, without scale and shift. -/
def hostNorm (T : FVec Ideal S2x4096x4096 .f32) : FVec Ideal S2x4096x4096 .f32 :=
  mulf (subf T (broadcastInDim S2x4096x4096 ![0, 1, 2] bcast_S2x4096x1_S2x4096x4096_0_1_2 (Host.divf (broadcastInDim S2x4096x1 ![0, 1] bcast_S2x4096_S2x4096x1_0_1 (Host.reduceAdd T (constant S_ .f32 0x00000000#32) reducesTo_S2x4096x4096_S2x4096_d2 h_S_)) (broadcastInDim S2x4096x1 ![] bcast_S_S2x4096x1 (constant S_ .f32 0x45800000#32))))) (broadcastInDim S2x4096x4096 ![0, 1, 2] bcast_S2x4096x1_S2x4096x4096_0_1_2 (Host.rsqrt (addf (Host.divf (broadcastInDim S2x4096x1 ![0, 1] bcast_S2x4096_S2x4096x1_0_1 (Host.reduceAdd (mulf (subf T (broadcastInDim S2x4096x4096 ![0, 1, 2] bcast_S2x4096x1_S2x4096x4096_0_1_2 (Host.divf (broadcastInDim S2x4096x1 ![0, 1] bcast_S2x4096_S2x4096x1_0_1 (Host.reduceAdd T (constant S_ .f32 0x00000000#32) reducesTo_S2x4096x4096_S2x4096_d2 h_S_)) (broadcastInDim S2x4096x1 ![] bcast_S_S2x4096x1 (constant S_ .f32 0x45800000#32))))) (subf T (broadcastInDim S2x4096x4096 ![0, 1, 2] bcast_S2x4096x1_S2x4096x4096_0_1_2 (Host.divf (broadcastInDim S2x4096x1 ![0, 1] bcast_S2x4096_S2x4096x1_0_1 (Host.reduceAdd T (constant S_ .f32 0x00000000#32) reducesTo_S2x4096x4096_S2x4096_d2 h_S_)) (broadcastInDim S2x4096x1 ![] bcast_S_S2x4096x1 (constant S_ .f32 0x45800000#32)))))) (constant S_ .f32 0x00000000#32) reducesTo_S2x4096x4096_S2x4096_d2 h_S_)) (broadcastInDim S2x4096x1 ![] bcast_S_S2x4096x1 (constant S_ .f32 0x45800000#32))) (broadcastInDim S2x4096x1 ![] bcast_S_S2x4096x1 (constant S_ .f32 0x3727C5AC#32)))))

/-- A normed array, scaled and shifted column by column. -/
def hostScaled (N : FVec Ideal S2x4096x4096 .f32) (G B : FVec Ideal S4096 .f32) : FVec Ideal S2x4096x4096 .f32 :=
  addf (mulf N (broadcastInDim S2x4096x4096 ![0, 1, 2] bcast_S1x1x4096_S2x4096x4096_0_1_2 (broadcastInDim S1x1x4096 ![2] bcast_S4096_S1x1x4096_2 G))) (broadcastInDim S2x4096x4096 ![0, 1, 2] bcast_S1x1x4096_S2x4096x4096_0_1_2 (broadcastInDim S1x1x4096 ![2] bcast_S4096_S1x1x4096_2 B))

/-- The modulation of a normed array by the first layer's fifth and fourth groups of 4096. -/
def hostMod (N : FVec Ideal S2x4096x4096 .f32) (M : FVec Ideal S2x2x24576 .f32) : FVec Ideal S2x4096x4096 .f32 :=
  addf (mulf N (broadcastInDim S2x4096x4096 ![0, 1, 2] bcast_S2x1x4096_S2x4096x4096_0_1_2 (addf (broadcastInDim S2x1x4096 ![] bcast_S_S2x1x4096 (constant S_ .f32 0x3F800000#32)) (broadcastInDim S2x1x4096 ![0, 2] bcast_S2x4096_S2x1x4096_0_2 (extractStridedSlice S2x4096 ![0, 16384] (shapeCast S2x24576 (extractStridedSlice S1x2x24576 ![0, 0, 0] M slices_S2x2x24576_S1x2x24576_0_0_0) shapeCasts_S1x2x24576_S2x24576) slices_S2x24576_S2x4096_0_16384))))) (broadcastInDim S2x4096x4096 ![0, 1, 2] bcast_S2x1x4096_S2x4096x4096_0_1_2 (broadcastInDim S2x1x4096 ![0, 2] bcast_S2x4096_S2x1x4096_0_2 (extractStridedSlice S2x4096 ![0, 12288] (shapeCast S2x24576 (extractStridedSlice S1x2x24576 ![0, 0, 0] M slices_S2x2x24576_S1x2x24576_0_0_0) shapeCasts_S1x2x24576_S2x24576) slices_S2x24576_S2x4096_0_12288)))

/-- An array laid out over 8192 rows. -/
def hostFlat (T : FVec Ideal S2x4096x4096 .f32) : FVec Ideal S8192x4096 .f32 :=
  shapeCast S8192x4096 T shapeCasts_S2x4096x4096_S8192x4096

/-- The same, in the narrower format. -/
def hostNarrow (T : FVec Ideal S2x4096x4096 .f32) : FVec Ideal S8192x4096 .bf16 :=
  truncf .bf16 (shapeCast S8192x4096 T shapeCasts_S2x4096x4096_S8192x4096) bitsLt_bf16_f32

/-- The new residual, of the arguments. -/
def hostFirst (A : FVec Ideal S8192x4096 .bf16) (X : FVec Ideal S8192x4096 .f32) (M : FVec Ideal S2x2x24576 .f32)
    (W : FVec Ideal S4096x4096 .f32) (G B : FVec Ideal S4096 .f32) : FVec Ideal S2x4096x4096 .f32 :=
  hostScaled (hostNorm (hostSum A X M W)) G B

/-- The reference's first result is the new residual. -/
theorem first_eq (m : (ℓ : Loc nD τ sig) → Buf (Elt Ideal) ℓ) (c : Dev nD) : Cert.MidRefIdeal.Value.res_main_v71 (F := Ideal) m c
    = hostFlat (hostFirst (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := rfl

/-- The reference's second result is the modulated norm of the new residual. -/
theorem second_eq (m : (ℓ : Loc nD τ sig) → Buf (Elt Ideal) ℓ) (c : Dev nD) : Cert.MidRefIdeal.Value.res_main_v73 (F := Ideal) m c
    = hostNarrow (hostMod (hostNorm (hostFirst (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)))) (m ((c : Thread nD τ).loc main_arg2))) := rfl

/-- The rows of the modulations, 24 of 4096. -/
abbrev mods (M : FVec Ideal S2x2x24576 .f32) : FVec Ideal Cert.MidIdeal.S24x1x4096 .f32 :=
  shapeCast Cert.MidIdeal.S24x1x4096 M Cert.MidIdeal.Gen.shapeCasts_S2x2x24576_S24x1x4096

/-- A vector of 4096 as a matrix of one row. -/
abbrev asRow (G : FVec Ideal S4096 .f32) : FVec Ideal Cert.MidIdeal.S1x4096 .f32 :=
  shapeCast Cert.MidIdeal.S1x4096 G Cert.MidIdeal.Gen.shapeCasts_S4096_S1x4096

/-- An entry of the first layer's modulations, in group `g` of batch entry `b`. -/
theorem mods_at (M : FVec Ideal S2x2x24576 .f32) (g : Fin 6) (b : Fin 2) (j : Fin 4096) (q : Fin 24) (hq : q.val = g.val + 6 * b.val)
    (p : Fin 24576) (hp : p.val = g.val * 4096 + j.val) : mods M (ix3 q 0 j) = M (ix3 0 b p) :=
  Cert.StartRefIdeal.Modulated.mods_at M g b j q hq p hp

/-- The residual sum at a batch entry, a row and a column. -/
theorem hostSum_at (A : FVec Ideal S8192x4096 .bf16) (X : FVec Ideal S8192x4096 .f32) (M : FVec Ideal S2x2x24576 .f32)
    (W : FVec Ideal S4096x4096 .f32) (b : Fin 2) (r j : Fin 4096) :
    hostSum A X M W (ix3 b r j) = Ideal.ofBits .f32 0x3FB504F3#32 * X (ix2 ⟨b.val * 4096 + r.val, by omega⟩ j)
      + M (ix3 0 b ⟨8192 + j.val, by omega⟩) * ∑ k : Fin 4096, A (ix2 ⟨b.val * 4096 + r.val, by omega⟩ k) * W (ix2 k j) := by
  pointwise [hostSum]

/-- An entry of the norm. -/
theorem hostNorm_at (T : FVec Ideal S2x4096x4096 .f32) (b : Fin 2) (r j : Fin 4096) :
    hostNorm T (ix3 b r j) = Norm.plain (fun x => T (ix3 b r x)) j := by
  unfold Norm.plain
  pointwise [hostNorm]

/-- An entry of a scaled and shifted array. -/
theorem hostScaled_at (N : FVec Ideal S2x4096x4096 .f32) (G B : FVec Ideal S4096 .f32) (b : Fin 2) (r j : Fin 4096) :
    hostScaled N G B (ix3 b r j) = N (ix3 b r j) * asRow G (ix2 0 j) + asRow B (ix2 0 j) := by
  unfold asRow
  pointwise [hostScaled]

/-- An entry of a modulated array. -/
theorem hostMod_at (N : FVec Ideal S2x4096x4096 .f32) (M : FVec Ideal S2x2x24576 .f32) (b : Fin 2) (r j : Fin 4096) :
    hostMod N M (ix3 b r j) = N (ix3 b r j) * (1 + M (ix3 0 b ⟨16384 + j.val, by omega⟩)) + M (ix3 0 b ⟨12288 + j.val, by omega⟩) := by
  pointwise [hostMod]

/-- An entry of an array laid out over 8192 rows. -/
theorem hostFlat_at (T : FVec Ideal S2x4096x4096 .f32) (r : Fin 8192) (j : Fin 4096) :
    hostFlat T (ix2 r j) = T (ix3 ⟨r.val / 4096, by omega⟩ ⟨r.val % 4096, by omega⟩ j) := by
  pointwise [hostFlat]

/-- The same, in the narrower format. -/
theorem hostNarrow_at (T : FVec Ideal S2x4096x4096 .f32) (r : Fin 8192) (j : Fin 4096) :
    hostNarrow T (ix2 r j) = T (ix3 ⟨r.val / 4096, by omega⟩ ⟨r.val % 4096, by omega⟩ j) := by
  pointwise [hostNarrow]

/-- The residual sum where row `r` of the 8192 lies is the kernel's. -/
theorem hostSum_row (A : FVec Ideal S8192x4096 .bf16) (X : FVec Ideal S8192x4096 .f32) (M : FVec Ideal S2x2x24576 .f32)
    (W : FVec Ideal S4096x4096 .f32) (r : Fin 8192) (j : Fin 4096) :
    hostSum A X M W (ix3 ⟨r.val / 4096, by omega⟩ ⟨r.val % 4096, by omega⟩ j)
      = Cert.MidIdeal.Between.mixed X (Cert.MidIdeal.Between.prod A W) (mods M) r j := by
  have hr := r.isLt
  have e : (⟨r.val / 4096 * 4096 + r.val % 4096, by omega⟩ : Fin 8192) = r :=
    Fin.ext (by show r.val / 4096 * 4096 + r.val % 4096 = r.val; omega)
  rw [hostSum_at]
  unfold Cert.MidIdeal.Between.mixed
  rw [mods_at M 2 ⟨r.val / 4096, by omega⟩ j _ rfl ⟨8192 + j.val, by omega⟩ (by show 8192 + j.val = 2 * 4096 + j.val; omega)]
  simp only [e]
  rfl

/-- The new residual where row `r` of the 8192 lies is the kernel's. -/
theorem hostFirst_row (A : FVec Ideal S8192x4096 .bf16) (X : FVec Ideal S8192x4096 .f32) (M : FVec Ideal S2x2x24576 .f32)
    (W : FVec Ideal S4096x4096 .f32) (G B : FVec Ideal S4096 .f32) (r : Fin 8192) (j : Fin 4096) :
    hostFirst A X M W G B (ix3 ⟨r.val / 4096, by omega⟩ ⟨r.val % 4096, by omega⟩ j)
      = Cert.MidIdeal.Between.scaled X (Cert.MidIdeal.Between.prod A W) (mods M) (asRow G) (asRow B) r j := by
  unfold hostFirst Cert.MidIdeal.Between.scaled
  rw [hostScaled_at, hostNorm_at]
  simp only [hostSum_row]

/-- The reference's new residual is the kernel's. -/
theorem residual_same (A : FVec Ideal S8192x4096 .bf16) (X : FVec Ideal S8192x4096 .f32) (M : FVec Ideal S2x2x24576 .f32)
    (W : FVec Ideal S4096x4096 .f32) (G B : FVec Ideal S4096 .f32) : hostFlat (hostFirst A X M W G B)
      = Cert.MidIdeal.Between.residual X (Cert.MidIdeal.Between.prod A W) (mods M) (asRow G) (asRow B) := by
  funext i
  idx_vars i
  revert i0 i1
  intro r j
  rw [hostFlat_at, hostFirst_row]
  rfl

/-- The reference's modulated norm is the kernel's. -/
theorem modulated_same (A : FVec Ideal S8192x4096 .bf16) (X : FVec Ideal S8192x4096 .f32) (M : FVec Ideal S2x2x24576 .f32)
    (W : FVec Ideal S4096x4096 .f32) (G B : FVec Ideal S4096 .f32) : hostNarrow (hostMod (hostNorm (hostFirst A X M W G B)) M)
      = Cert.MidIdeal.Between.modulated X (Cert.MidIdeal.Between.prod A W) (mods M) (asRow G) (asRow B) := by
  funext i
  idx_vars i
  revert i0 i1
  intro r j
  have hr := r.isLt
  refine Eq.trans ?_ (Cert.MidIdeal.Between.modulated_ix _ _ _ _ _ r j).symm
  rw [hostNarrow_at, hostMod_at, hostNorm_at,
    mods_at M 4 ⟨r.val / 4096, by omega⟩ j _ rfl ⟨16384 + j.val, by omega⟩ (by show 16384 + j.val = 4 * 4096 + j.val; omega),
    mods_at M 3 ⟨r.val / 4096, by omega⟩ j _ rfl ⟨12288 + j.val, by omega⟩ (by show 12288 + j.val = 3 * 4096 + j.val; omega)]
  simp only [hostFirst_row]

end Cert.MidRefIdeal.Between

namespace Cert.Proof.MidClaim

/-- Kernel and reference end with the same new residual and the same modulated norm of it, of any arguments. -/
theorem equal : Cert.algebraic_MidIdeal_MidRefIdeal := by
  intro m ρ m' ρ' _ hagree
  refine ⟨fun c => Cert.MidIdeal.Gen.W4 m ρ c (Proc.devRef .tc Cert.MidIdeal.main_v5_0),
    fun c => Cert.MidIdeal.Gen.W4 m ρ c (Proc.devRef .tc Cert.MidIdeal.main_v5_1), Cert.MidIdeal.Launched.ends m ρ, ?_⟩
  refine (θ_run Cert.MidRefIdeal.defs _ _).mono (fun _ h c => ⟨(h c).1.trans ?_, (h c).2.1.trans ?_, (h c).2.2⟩)
    (Cert.MidRefIdeal.Value.run (F := Ideal) m' ρ')
  · obtain ⟨h0, h1, h2, h3, h4, h5⟩ := hagree c
    rw [Cert.MidRefIdeal.Between.first_eq, h0, h1, h2, h3, h4, h5, Cert.MidRefIdeal.Between.residual_same]
    exact (Cert.MidIdeal.Between.ends_residual m ρ c).symm
  · obtain ⟨h0, h1, h2, h3, h4, h5⟩ := hagree c
    rw [Cert.MidRefIdeal.Between.second_eq, h0, h1, h2, h3, h4, h5, Cert.MidRefIdeal.Between.modulated_same]
    exact (Cert.MidIdeal.Between.ends_modulated m ρ c).symm

end Cert.Proof.MidClaim

end
-- ==== Proof.lean ====
module

public import proofs.«01_k».proof.Defs
public import proofs.«01_k».proof.Proof.Gen.Attn
public import proofs.«01_k».proof.Proof.Gen.AttnIdeal
public import proofs.«01_k».proof.Proof.Gen.AttnRefIdeal
public import proofs.«01_k».proof.Proof.Gen.Up
public import proofs.«01_k».proof.Proof.Gen.UpIdeal
public import proofs.«01_k».proof.Proof.Gen.UpRefIdeal
public import proofs.«01_k».proof.Proof.Gen.Down
public import proofs.«01_k».proof.Proof.Gen.DownIdeal
public import proofs.«01_k».proof.Proof.Gen.DownRefIdeal
public import proofs.«01_k».proof.Proof.Gen.Win
public import proofs.«01_k».proof.Proof.Gen.WinIdeal
public import proofs.«01_k».proof.Proof.Gen.WinRefIdeal
public import proofs.«01_k».proof.Proof.Gen.Wo
public import proofs.«01_k».proof.Proof.Gen.WoIdeal
public import proofs.«01_k».proof.Proof.Gen.WoRefIdeal
public import proofs.«01_k».proof.Proof.Gen.Start
public import proofs.«01_k».proof.Proof.Gen.StartIdeal
public import proofs.«01_k».proof.Proof.Gen.StartRefIdeal
public import proofs.«01_k».proof.Proof.Gen.Mid
public import proofs.«01_k».proof.Proof.Gen.MidIdeal
public import proofs.«01_k».proof.Proof.Gen.MidRefIdeal
public import proofs.«01_k».proof.Proof.Gen.Pre_finite_attn
public import proofs.«01_k».proof.Proof.Gen.On_diff_columns
public import proofs.«01_k».proof.Proof.Gen.Attn.Frame
public import proofs.«01_k».proof.Proof.Gen.AttnIdeal.Frame
public import proofs.«01_k».proof.Proof.Gen.Up.Frame
public import proofs.«01_k».proof.Proof.Gen.UpIdeal.Frame
public import proofs.«01_k».proof.Proof.Gen.Down.Frame
public import proofs.«01_k».proof.Proof.Gen.DownIdeal.Frame
public import proofs.«01_k».proof.Proof.Gen.Win.Frame
public import proofs.«01_k».proof.Proof.Gen.WinIdeal.Frame
public import proofs.«01_k».proof.Proof.Gen.Wo.Frame
public import proofs.«01_k».proof.Proof.Gen.WoIdeal.Frame
public import proofs.«01_k».proof.Proof.Gen.Start.Frame
public import proofs.«01_k».proof.Proof.Gen.StartIdeal.Frame
public import proofs.«01_k».proof.Proof.Gen.Mid.Frame
public import proofs.«01_k».proof.Proof.Gen.MidIdeal.Frame
public import proofs.«01_k».proof.Proof.HostFrames
public import proofs.«01_k».proof.Proof.DownRef
public import proofs.«01_k».proof.Proof.WinProduct
public import proofs.«01_k».proof.Proof.WoProduct
public import proofs.«01_k».proof.Proof.AttnClaim
public import proofs.«01_k».proof.Proof.UpRun
public import proofs.«01_k».proof.Proof.UpIdealRun
public import proofs.«01_k».proof.Proof.UpRef
public import proofs.«01_k».proof.Proof.StartRef
public import proofs.«01_k».proof.Proof.MidRef
public import Idealize.ShloMosaic.Adequacy
public import Idealize.ShloMosaic.Init

@[expose] public section

noncomputable section

namespace Cert.Proof

open Idealize.ShloMosaic Idealize.SL.Sem

/-- Every claim of the certificate: the kernels' runs, the references' runs, and the values where claimed. -/
theorem claim : Cert.Claim :=
  ⟨Cert.Attn.Gen.facts,
    Cert.AttnIdeal.Gen.facts,
    Cert.AttnRefIdeal.Gen.facts,
    Cert.Up.Gen.facts,
    Cert.UpIdeal.Gen.facts,
    Cert.UpRefIdeal.Gen.facts,
    Cert.Down.Gen.facts,
    Cert.DownIdeal.Gen.facts,
    Cert.DownRefIdeal.Gen.facts,
    Cert.Win.Gen.facts,
    Cert.WinIdeal.Gen.facts,
    Cert.WinRefIdeal.Gen.facts,
    Cert.Wo.Gen.facts,
    Cert.WoIdeal.Gen.facts,
    Cert.WoRefIdeal.Gen.facts,
    Cert.Start.Gen.facts,
    Cert.StartIdeal.Gen.facts,
    Cert.StartRefIdeal.Gen.facts,
    Cert.Mid.Gen.facts,
    Cert.MidIdeal.Gen.facts,
    Cert.MidRefIdeal.Gen.facts,
    Cert.Pre_finite_attn.Gen.facts,
    Cert.On_diff_columns.Gen.facts,
    fun m ρ _ => Cert.Attn.Gen.frame m ρ,
    fun m ρ _ => Cert.AttnIdeal.Gen.frame m ρ,
    fun m ρ _ => Cert.AttnIdeal.Gen.frame m ρ,
    HostRuns.attnRefIdeal_ends,
    fun m ρ _ => HostRuns.attnRefIdeal_ends m ρ trivial,
    fun m ρ _ => Cert.Proof.UpRun.ends m ρ,
    fun m ρ _ => Cert.Proof.UpIdealRun.ends m ρ,
    HostRuns.upRefIdeal_ends,
    fun m ρ _ => Cert.Down.Gen.frame m ρ,
    fun m ρ _ => Cert.DownIdeal.Gen.frame m ρ,
    HostRuns.downRefIdeal_ends,
    fun m ρ _ => Cert.Win.Gen.frame m ρ,
    fun m ρ _ => Cert.WinIdeal.Gen.frame m ρ,
    HostRuns.winRefIdeal_ends,
    fun m ρ _ => Cert.Wo.Gen.frame m ρ,
    fun m ρ _ => Cert.WoIdeal.Gen.frame m ρ,
    HostRuns.woRefIdeal_ends,
    fun m ρ _ => Cert.Start.Gen.frame m ρ,
    fun m ρ _ => Cert.StartIdeal.Gen.frame m ρ,
    HostRuns.startRefIdeal_ends,
    fun m ρ _ => Cert.Mid.Gen.frame m ρ,
    fun m ρ _ => Cert.MidIdeal.Gen.frame m ρ,
    HostRuns.midRefIdeal_ends,
    IdealRules.named_const.statement Cert.AttnIdeal.κ "mask" .f32 0xF149F2CA#32 ⊥ rfl,
    AttnClaim.equal,
    trivial,
    UpClaim.equal,
    trivial,
    DownClaim.equal,
    trivial,
    WinIdealClaim.equal,
    trivial,
    WoIdealClaim.equal,
    trivial,
    StartClaim.equal,
    trivial,
    MidClaim.equal⟩

end Cert.Proof

end
